-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S1x1 : Shape := ⟨2, ![1, 1]⟩
abbrev S1x128 : Shape := ⟨2, ![1, 128]⟩
abbrev S3x4x76800x128 : Shape := ⟨4, ![3, 4, 76800, 128]⟩
abbrev S3x2x76800x128 : Shape := ⟨4, ![3, 2, 76800, 128]⟩
abbrev S27x256x128 : Shape := ⟨3, ![27, 256, 128]⟩
abbrev S1x256 : Shape := ⟨2, ![1, 256]⟩
abbrev S128x128 : Shape := ⟨2, ![128, 128]⟩
abbrev S128 : Shape := ⟨1, ![128]⟩
abbrev S_ : Shape := ⟨0, ![]⟩

class Facts : Prop where
  shapeCasts_S1x128_S128 : S1x128.ShapeCasts S128
  bcast_S128_S128x128_0 : S128.BroadcastsInDim S128x128 (![0] : Fin 1 → Fin S128x128.rank)
  bcast_S128_S128x128_1 : S128.BroadcastsInDim S128x128 (![1] : Fin 1 → Fin S128x128.rank)
  bcast_S_S128x128 : S_.BroadcastsInDim S128x128 (![] : Fin 0 → Fin S128x128.rank)
  bcast_S_S1x1 : S_.BroadcastsInDim S1x1 (![] : Fin 0 → Fin S1x1.rank)
  reducesTo_S1x1_S_d0_1 : S1x1.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S1x128 : S_.BroadcastsInDim S1x128 (![] : Fin 0 → Fin S1x128.rank)
  reducesTo_S1x128_S_d0_1 : S1x128.ReducesTo [0, 1] S_
  reducesTo_S128x128_S_d0_1 : S128x128.ReducesTo [0, 1] S_

variable [Facts]

def fn_part2 {F : FTy → Type} [FloatOps F] (main_v3 : IVec S128x128 32) (main_v5 : IVec S128x128 32) (main_v10 : IVec S128x128 1) (main_v30 : IVec S_ 1) (main_v32 : IVec S1x128 1) (main_v34 : IVec S1x128 1) : IVec S_ 1 :=
  let main_v35 : IVec S1x128 1 := andi main_v32 main_v34
  let main_c_11 : IVec S_ 1 := constantI S_ 1 1#1
  let main_v36 : IVec S_ 1 := (fun x v => Host.reduce IntOp.andi x v reducesTo_S1x128_S_d0_1 h_S_) main_v35 main_c_11
  let main_v37 : IVec S_ 1 := andi main_v30 main_v36
  let main_v38 : IVec S128x128 1 := cmpi .eq main_v3 main_v5
  let main_v39 : IVec S128x128 1 := cmpi .eq main_v38 main_v10
  let main_c_12 : IVec S_ 1 := constantI S_ 1 1#1
  let main_v40 : IVec S_ 1 := (fun x v => Host.reduce IntOp.andi x v reducesTo_S128x128_S_d0_1 h_S_) main_v39 main_c_12
  let main_v41 : IVec S_ 1 := andi main_v37 main_v40
  main_v41

def fn_part1 {F : FTy → Type} [FloatOps F] (main_arg3 : FVec F S1x1 .f32) (main_arg4 : IVec S1x128 32) (main_arg8 : FVec F S1x256 .f32) (main_v3 : IVec S128x128 32) (main_v5 : IVec S128x128 32) (main_v10 : IVec S128x128 1) (main_v16 : IVec S_ 1) (main_v17 : FVec F S1x1 .f32) : IVec S_ 1 :=
  let main_v18 : IVec S1x1 1 := cmpf .oge main_arg3 main_v17
  let main_cst_4 : FVec F S_ .f32 := constant S_ .f32 0x7F800000#32
  let main_v19 : FVec F S1x1 .f32 := broadcastInDim S1x1 ![] bcast_S_S1x1 main_cst_4
  let main_v20 : IVec S1x1 1 := cmpf .olt main_arg3 main_v19
  let main_v21 : IVec S1x1 1 := andi main_v18 main_v20
  let main_c_5 : IVec S_ 1 := constantI S_ 1 1#1
  let main_v22 : IVec S_ 1 := (fun x v => Host.reduce IntOp.andi x v reducesTo_S1x1_S_d0_1 h_S_) main_v21 main_c_5
  let main_v23 : IVec S_ 1 := andi main_v16 main_v22
  let main_cst_6 : FVec F S_ .f32 := constant S_ .f32 0x00000000#32
  let main_v24 : FVec F S1x256 .f32 := broadcastInDim S1x256 ![] bcast_S_S1x256 main_cst_6
  let main_v25 : IVec S1x256 1 := cmpf .oge main_arg8 main_v24
  let main_cst_7 : FVec F S_ .f32 := constant S_ .f32 0x7F800000#32
  let main_v26 : FVec F S1x256 .f32 := broadcastInDim S1x256 ![] bcast_S_S1x256 main_cst_7
  let main_v27 : IVec S1x256 1 := cmpf .olt main_arg8 main_v26
  let main_v28 : IVec S1x256 1 := andi main_v25 main_v27
  let main_c_8 : IVec S_ 1 := constantI S_ 1 1#1
  let main_v29 : IVec S_ 1 := (fun x v => Host.reduce IntOp.andi x v reducesTo_S1x256_S_d0_1 h_S_) main_v28 main_c_8
  let main_v30 : IVec S_ 1 := andi main_v23 main_v29
  let main_c_9 : IVec S_ 32 := constantI S_ 32 0#32
  let main_v31 : IVec S1x128 32 := broadcastInDim S1x128 ![] bcast_S_S1x128 main_c_9
  let main_v32 : IVec S1x128 1 := cmpi .sge main_arg4 main_v31
  let main_c_10 : IVec S_ 32 := constantI S_ 32 128#32
  let main_v33 : IVec S1x128 32 := broadcastInDim S1x128 ![] bcast_S_S1x128 main_c_10
  let main_v34 : IVec S1x128 1 := cmpi .slt main_arg4 main_v33
  fn_part2 (F := F) main_v3 main_v5 main_v10 main_v30 main_v32 main_v34

def fn {F : FTy → Type} [FloatOps F] (main_arg0 : FVec F S1x1 .f32) (main_arg1 : FVec F S1x1 .f32) (main_arg2 : FVec F S1x1 .f32) (main_arg3 : FVec F S1x1 .f32) (main_arg4 : IVec S1x128 32) (main_arg5 : FVec F S3x4x76800x128 .bf16) (main_arg6 : FVec F S3x2x76800x128 .fp8e4m3) (main_arg7 : FVec F S27x256x128 .fp8e4m3) (main_arg8 : FVec F S1x256 .f32) (main_arg9 : FVec F S1x256 .f32) : IVec S_ 1 :=
  let main_v0 : IVec S128x128 32 := iotaInDim S128x128 32 0
  let main_v1 : IVec S128x128 32 := iotaInDim S128x128 32 1
  let main_v2 : IVec S128 32 := shapeCast S128 main_arg4 shapeCasts_S1x128_S128
  let main_v3 : IVec S128x128 32 := broadcastInDim S128x128 ![0] bcast_S128_S128x128_0 main_v2
  let main_v4 : IVec S128 32 := shapeCast S128 main_arg4 shapeCasts_S1x128_S128
  let main_v5 : IVec S128x128 32 := broadcastInDim S128x128 ![1] bcast_S128_S128x128_1 main_v4
  let main_c : IVec S_ 32 := constantI S_ 32 3#32
  let main_v6 : IVec S128x128 32 := broadcastInDim S128x128 ![] bcast_S_S128x128 main_c
  let main_v7 : IVec S128x128 32 := andi main_v0 main_v6
  let main_c_0 : IVec S_ 32 := constantI S_ 32 3#32
  let main_v8 : IVec S128x128 32 := broadcastInDim S128x128 ![] bcast_S_S128x128 main_c_0
  let main_v9 : IVec S128x128 32 := andi main_v1 main_v8
  let main_v10 : IVec S128x128 1 := cmpi .eq main_v7 main_v9
  let main_cst : FVec F S_ .f32 := constant S_ .f32 0x00000000#32
  let main_v11 : FVec F S1x1 .f32 := broadcastInDim S1x1 ![] bcast_S_S1x1 main_cst
  let main_v12 : IVec S1x1 1 := cmpf .oge main_arg0 main_v11
  let main_cst_1 : FVec F S_ .f32 := constant S_ .f32 0x7F800000#32
  let main_v13 : FVec F S1x1 .f32 := broadcastInDim S1x1 ![] bcast_S_S1x1 main_cst_1
  let main_v14 : IVec S1x1 1 := cmpf .olt main_arg0 main_v13
  let main_v15 : IVec S1x1 1 := andi main_v12 main_v14
  let main_c_2 : IVec S_ 1 := constantI S_ 1 1#1
  let main_v16 : IVec S_ 1 := (fun x v => Host.reduce IntOp.andi x v reducesTo_S1x1_S_d0_1 h_S_) main_v15 main_c_2
  let main_cst_3 : FVec F S_ .f32 := constant S_ .f32 0x00000000#32
  let main_v17 : FVec F S1x1 .f32 := broadcastInDim S1x1 ![] bcast_S_S1x1 main_cst_3
  fn_part1 (F := F) main_arg3 main_arg4 main_arg8 main_v3 main_v5 main_v10 main_v16 main_v17
-- ==== Kernel.lean ====
abbrev S1x1 : Shape := ⟨2, ![1, 1]⟩
abbrev S1x128 : Shape := ⟨2, ![1, 128]⟩
abbrev S3x4x76800x128 : Shape := ⟨4, ![3, 4, 76800, 128]⟩
abbrev S3x2x76800x128 : Shape := ⟨4, ![3, 2, 76800, 128]⟩
abbrev S27x256x128 : Shape := ⟨3, ![27, 256, 128]⟩
abbrev S1x256 : Shape := ⟨2, ![1, 256]⟩
abbrev S3x4x76800x256 : Shape := ⟨4, ![3, 4, 76800, 256]⟩
abbrev S1x4x64x128 : Shape := ⟨4, ![1, 4, 64, 128]⟩
abbrev S1x4x3072x128 : Shape := ⟨4, ![1, 4, 3072, 128]⟩
abbrev S1x2x64x128 : Shape := ⟨4, ![1, 2, 64, 128]⟩
abbrev S1x2x3072x128 : Shape := ⟨4, ![1, 2, 3072, 128]⟩
abbrev S1x4x3072x256 : Shape := ⟨4, ![1, 4, 3072, 256]⟩
abbrev S3x6x3200x128 : Shape := ⟨4, ![3, 6, 3200, 128]⟩
abbrev S4x3200x128 : Shape := ⟨3, ![4, 3200, 128]⟩
abbrev S3x256x256 : Shape := ⟨3, ![3, 256, 256]⟩
abbrev S256x128 : Shape := ⟨2, ![256, 128]⟩
abbrev S1x256x128 : Shape := ⟨3, ![1, 256, 128]⟩
abbrev S256x128x1 : Shape := ⟨3, ![256, 128, 1]⟩
abbrev S1x1x64x128 : Shape := ⟨4, ![1, 1, 64, 128]⟩
abbrev S64x128 : Shape := ⟨2, ![64, 128]⟩
abbrev S64x128x1 : Shape := ⟨3, ![64, 128, 1]⟩
abbrev S1x64x128 : Shape := ⟨3, ![1, 64, 128]⟩
abbrev S1x1x1024x128 : Shape := ⟨4, ![1, 1, 1024, 128]⟩
abbrev S1024x128 : Shape := ⟨2, ![1024, 128]⟩
abbrev S1024x128x1 : Shape := ⟨3, ![1024, 128, 1]⟩
abbrev S1x1024x128 : Shape := ⟨3, ![1, 1024, 128]⟩
abbrev S256x1024 : Shape := ⟨2, ![256, 1024]⟩
abbrev S1024x1024 : Shape := ⟨2, ![1024, 1024]⟩
abbrev S1024x256 : Shape := ⟨2, ![1024, 256]⟩
abbrev S1x256x256 : Shape := ⟨3, ![1, 256, 256]⟩
abbrev S256x256 : Shape := ⟨2, ![256, 256]⟩
abbrev S256x2304 : Shape := ⟨2, ![256, 2304]⟩
abbrev S1024x2304 : Shape := ⟨2, ![1024, 2304]⟩
abbrev S1x1x1024x256 : Shape := ⟨4, ![1, 1, 1024, 256]⟩
abbrev S256x2176 : Shape := ⟨2, ![256, 2176]⟩
abbrev S1024x2176 : Shape := ⟨2, ![1024, 2176]⟩
abbrev S256x1152 : Shape := ⟨2, ![256, 1152]⟩
abbrev S1024x1152 : Shape := ⟨2, ![1024, 1152]⟩
abbrev S256x3328 : Shape := ⟨2, ![256, 3328]⟩
abbrev S1024x3328 : Shape := ⟨2, ![1024, 3328]⟩

abbrev nBuf : Space → Nat
  | .hbm => 13
  | .vmem => 26
  | .smem => 4
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S1x1, .f32⟩
  | .hbm, ⟨4, _⟩ => ⟨S1x128, .i32⟩
  | .hbm, ⟨5, _⟩ => ⟨S3x4x76800x128, .bf16⟩
  | .hbm, ⟨6, _⟩ => ⟨S3x2x76800x128, .fp8e4m3⟩
  | .hbm, ⟨7, _⟩ => ⟨S27x256x128, .fp8e4m3⟩
  | .hbm, ⟨8, _⟩ => ⟨S1x256, .f32⟩
  | .hbm, ⟨9, _⟩ => ⟨S1x256, .f32⟩
  | .hbm, ⟨10, _⟩ => ⟨S3x4x76800x256, .bf16⟩
  | .hbm, ⟨11, _⟩ => ⟨S3x4x76800x128, .fp8e4m3⟩
  | .hbm, ⟨12, _⟩ => ⟨S3x2x76800x128, .fp8e4m3⟩
  | .local _ .vmem, ⟨0, _⟩ => ⟨S1x128, .i32⟩
  | .local _ .vmem, ⟨1, _⟩ => ⟨S1x4x64x128, .bf16⟩
  | .local _ .vmem, ⟨2, _⟩ => ⟨S1x4x64x128, .bf16⟩
  | .local _ .vmem, ⟨3, _⟩ => ⟨S1x4x3072x128, .bf16⟩
  | .local _ .vmem, ⟨4, _⟩ => ⟨S1x4x3072x128, .bf16⟩
  | .local _ .vmem, ⟨5, _⟩ => ⟨S1x4x64x128, .bf16⟩
  | .local _ .vmem, ⟨6, _⟩ => ⟨S1x4x64x128, .bf16⟩
  | .local _ .vmem, ⟨7, _⟩ => ⟨S1x2x64x128, .fp8e4m3⟩
  | .local _ .vmem, ⟨8, _⟩ => ⟨S1x2x64x128, .fp8e4m3⟩
  | .local _ .vmem, ⟨9, _⟩ => ⟨S1x2x3072x128, .fp8e4m3⟩
  | .local _ .vmem, ⟨10, _⟩ => ⟨S1x2x3072x128, .fp8e4m3⟩
  | .local _ .vmem, ⟨11, _⟩ => ⟨S1x2x64x128, .fp8e4m3⟩
  | .local _ .vmem, ⟨12, _⟩ => ⟨S1x2x64x128, .fp8e4m3⟩
  | .local _ .vmem, ⟨13, _⟩ => ⟨S27x256x128, .fp8e4m3⟩
  | .local _ .vmem, ⟨14, _⟩ => ⟨S1x256, .f32⟩
  | .local _ .vmem, ⟨15, _⟩ => ⟨S1x256, .f32⟩
  | .local _ .vmem, ⟨16, _⟩ => ⟨S1x4x3072x256, .bf16⟩
  | .local _ .vmem, ⟨17, _⟩ => ⟨S1x4x3072x256, .bf16⟩
  | .local _ .vmem, ⟨18, _⟩ => ⟨S1x4x3072x128, .fp8e4m3⟩
  | .local _ .vmem, ⟨19, _⟩ => ⟨S1x4x3072x128, .fp8e4m3⟩
  | .local _ .vmem, ⟨20, _⟩ => ⟨S1x2x3072x128, .fp8e4m3⟩
  | .local _ .vmem, ⟨21, _⟩ => ⟨S1x2x3072x128, .fp8e4m3⟩
  | .local _ .vmem, ⟨22, _⟩ => ⟨S3x6x3200x128, .fp8e4m3⟩
  | .local _ .vmem, ⟨23, _⟩ => ⟨S4x3200x128, .f32⟩
  | .local _ .vmem, ⟨24, _⟩ => ⟨S27x256x128, .fp8e4m3⟩
  | .local _ .vmem, ⟨25, _⟩ => ⟨S3x256x256, .bf16⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg4_0 : Ref sig .tc := ⟨.vmem, 0, rfl⟩
abbrev cc0_stg5_0 : Ref sig .tc := ⟨.vmem, 1, rfl⟩
abbrev cc0_stg5_1 : Ref sig .tc := ⟨.vmem, 2, rfl⟩
abbrev cc0_stg6_0 : Ref sig .tc := ⟨.vmem, 3, rfl⟩
abbrev cc0_stg6_1 : Ref sig .tc := ⟨.vmem, 4, rfl⟩
abbrev cc0_stg7_0 : Ref sig .tc := ⟨.vmem, 5, rfl⟩
abbrev cc0_stg7_1 : Ref sig .tc := ⟨.vmem, 6, rfl⟩
abbrev cc0_stg8_0 : Ref sig .tc := ⟨.vmem, 7, rfl⟩
abbrev cc0_stg8_1 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![3, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c48_i32 : BitVec 32 := 48#32
  let v1 : BitVec 32 := Scalar.muli v0 c48_i32
  let c1199_i32 : BitVec 32 := 1199#32
  let v2 : BitVec 32 := Scalar.minsi v1 c1199_i32
  let c0_i32 : BitVec 32 := 0#32
  let c0_i32_0 : BitVec 32 := 0#32
  let c0_i32_1 : BitVec 32 := 0#32
  ![arg0.toNat, c0_i32.toNat, v2.toNat, c0_i32_0.toNat]

def cc0_transform_8 (i : grid0.Coords) : Fin 4 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c48_i32 : BitVec 32 := 48#32
  let v1 : BitVec 32 := Scalar.muli v0 c48_i32
  let c1199_i32 : BitVec 32 := 1199#32
  let v2 : BitVec 32 := Scalar.minsi v1 c1199_i32
  let c0_i32 : BitVec 32 := 0#32
  let c0_i32_0 : BitVec 32 := 0#32
  let c0_i32_1 : BitVec 32 := 0#32
  ![arg0.toNat, c0_i32.toNat, v2.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x3072x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x64x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x64x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x3072x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x64x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S27x256x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x4x3072x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x3072x128 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x3072x128 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S1x1 : Shape := ⟨2, ![1, 1]⟩
abbrev S1x128 : Shape := ⟨2, ![1, 128]⟩
abbrev S3x4x76800x128 : Shape := ⟨4, ![3, 4, 76800, 128]⟩
abbrev S3x2x76800x128 : Shape := ⟨4, ![3, 2, 76800, 128]⟩
abbrev S27x256x128 : Shape := ⟨3, ![27, 256, 128]⟩
abbrev S1x256 : Shape := ⟨2, ![1, 256]⟩
abbrev S3x4x76800x256 : Shape := ⟨4, ![3, 4, 76800, 256]⟩
abbrev S3x6x76800x128 : Shape := ⟨4, ![3, 6, 76800, 128]⟩
abbrev S3x6x1200x64x128 : Shape := ⟨5, ![3, 6, 1200, 64, 128]⟩
abbrev S3x6x1x64x128 : Shape := ⟨5, ![3, 6, 1, 64, 128]⟩
abbrev S3x6x1201x64x128 : Shape := ⟨5, ![3, 6, 1201, 64, 128]⟩
abbrev S3x6x1202x64x128 : Shape := ⟨5, ![3, 6, 1202, 64, 128]⟩
abbrev S3x6x1202x1x128 : Shape := ⟨5, ![3, 6, 1202, 1, 128]⟩
abbrev S3x6x1202x65x128 : Shape := ⟨5, ![3, 6, 1202, 65, 128]⟩
abbrev S3x6x1202x66x128 : Shape := ⟨5, ![3, 6, 1202, 66, 128]⟩
abbrev S921600x256 : Shape := ⟨2, ![921600, 256]⟩
abbrev S3x4x1200x64x128 : Shape := ⟨5, ![3, 4, 1200, 64, 128]⟩
abbrev S921600x128 : Shape := ⟨2, ![921600, 128]⟩
abbrev S1x256x128 : Shape := ⟨3, ![1, 256, 128]⟩
abbrev S256x128 : Shape := ⟨2, ![256, 128]⟩

abbrev nBuf : Space → Nat
  | .hbm => 13
  | .vmem => 13
  | .smem => 0
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S1x1, .f32⟩
  | .hbm, ⟨4, _⟩ => ⟨S1x128, .i32⟩
  | .hbm, ⟨5, _⟩ => ⟨S3x4x76800x128, .bf16⟩
  | .hbm, ⟨6, _⟩ => ⟨S3x2x76800x128, .fp8e4m3⟩
  | .hbm, ⟨7, _⟩ => ⟨S27x256x128, .fp8e4m3⟩
  | .hbm, ⟨8, _⟩ => ⟨S1x256, .f32⟩
  | .hbm, ⟨9, _⟩ => ⟨S1x256, .f32⟩
  | .hbm, ⟨10, _⟩ => ⟨S3x4x76800x256, .bf16⟩
  | .hbm, ⟨11, _⟩ => ⟨S3x4x76800x128, .fp8e4m3⟩
  | .hbm, ⟨12, _⟩ => ⟨S3x2x76800x128, .fp8e4m3⟩
  | .local _ .vmem, ⟨0, _⟩ => ⟨S1x1, .f32⟩
  | .local _ .vmem, ⟨1, _⟩ => ⟨S1x1, .f32⟩
  | .local _ .vmem, ⟨2, _⟩ => ⟨S1x1, .f32⟩
  | .local _ .vmem, ⟨3, _⟩ => ⟨S1x1, .f32⟩
  | .local _ .vmem, ⟨4, _⟩ => ⟨S1x128, .i32⟩
  | .local _ .vmem, ⟨5, _⟩ => ⟨S3x4x76800x128, .bf16⟩
  | .local _ .vmem, ⟨6, _⟩ => ⟨S3x2x76800x128, .fp8e4m3⟩
  | .local _ .vmem, ⟨7, _⟩ => ⟨S27x256x128, .fp8e4m3⟩
  | .local _ .vmem, ⟨8, _⟩ => ⟨S1x256, .f32⟩
  | .local _ .vmem, ⟨9, _⟩ => ⟨S1x256, .f32⟩
  | .local _ .vmem, ⟨10, _⟩ => ⟨S3x4x76800x256, .bf16⟩
  | .local _ .vmem, ⟨11, _⟩ => ⟨S3x4x76800x128, .fp8e4m3⟩
  | .local _ .vmem, ⟨12, _⟩ => ⟨S3x2x76800x128, .fp8e4m3⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x4x76800x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x2x76800x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S27x256x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x4x76800x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x4x76800x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x2x76800x128 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Lanes.lean ====
/-
  Contractions over a lane axis that is a concatenation of 128-lane pieces, and the sums of extended reals that a
  27-tap convolution is made of. Nothing here mentions a program.
-/
module

public import Idealize.ShloMosaic.Lib.Pointwise
public import Idealize.ShloMosaic.Lib.Pipeline.Value
public import Idealize.ShloMosaic.Lib.Pipeline.ValueKit.Acc

@[expose] public section

set_option maxRecDepth 16384

noncomputable section

namespace Conv

open Idealize.ShloMosaic

/-- `m` rows of `n` lanes. -/
abbrev Sh (m n : ℕ) : Shape := ⟨2, ![m, n]⟩

/-- A concatenation along the lanes of pieces that are all 128 lanes wide, read at lane `128 i + c`: piece `i` at lane `c`. -/
theorem concat_lanes {α : Type} {m K : ℕ} (L : List ((Sh m 128).Idx → α))
    (h : Shape.Concatenates ((L.map fun x => (⟨Sh m 128, x⟩ : (s : Shape) × (s.Idx → α))).map (·.1)) (Sh m K) 1)
    (p : Fin m) (k : Fin K) (i : ℕ) (hi : i < L.length) (c : Fin 128) (hk : (k : ℕ) = 128 * i + c) :
    concatenate (Sh m K) 1 (L.map fun x => (⟨Sh m 128, x⟩ : (s : Shape) × (s.Idx → α))) h (ix2 p k) = L[i] (ix2 p c) := by
  refine concatenate_apply_piece (t := Sh m K) 1 _ h (ix2 p k) i (by simpa using hi) (Sh m 128) L[i] (by simp) rfl (128 * i) ?_
    (ix2 p c) ?_ ?_
  · rw [← List.map_take, List.map_map, List.map_map]
    refine (congrArg List.sum (List.map_congr_left (g := fun _ => 128) fun a _ => rfl)).trans ?_
    rw [List.map_const', List.sum_replicate, List.length_take, Nat.min_eq_left hi.le, smul_eq_mul, Nat.mul_comm]
  · intro b hb
    match b with
    | ⟨0, _⟩ => rfl
    | ⟨1, _⟩ => exact absurd rfl hb
  · exact hk.symm

/-- A contraction whose two operands are concatenations of equally many 128-lane pieces is the sum over the pieces of
    their own contractions; piece number `i` of either operand is known to be the one of tap `ts[i]`. -/
theorem sum_lanes {m n K : ℕ} (L : List ((Sh m 128).Idx → EReal)) (R : List ((Sh n 128).Idx → EReal))
    (hL : Shape.Concatenates ((L.map fun x => (⟨Sh m 128, x⟩ : (s : Shape) × (s.Idx → EReal))).map (·.1)) (Sh m K) 1)
    (hR : Shape.Concatenates ((R.map fun x => (⟨Sh n 128, x⟩ : (s : Shape) × (s.Idx → EReal))).map (·.1)) (Sh n K) 1)
    (p : Fin m) (o : Fin n) {τ : Type} (ts : List τ) (T W : τ → Fin 128 → EReal)
    (eL : List.Forall₂ (fun x t => ∀ c, x (ix2 p c) = T t c) L ts)
    (eR : List.Forall₂ (fun x t => ∀ c, x (ix2 o c) = W t c) R ts) (hK : K = ts.length * 128) :
    (∑ k : Fin K, concatenate (Sh m K) 1 (L.map fun x => (⟨Sh m 128, x⟩ : (s : Shape) × (s.Idx → EReal))) hL (ix2 p k)
        * concatenate (Sh n K) 1 (R.map fun x => (⟨Sh n 128, x⟩ : (s : Shape) × (s.Idx → EReal))) hR (ix2 o k))
      = (ts.map fun t => ∑ c : Fin 128, T t c * W t c).sum := by
  have lL := eL.length_eq
  have lR := eR.length_eq
  rw [← _root_.Fin.sum_mul_add_fin ts.length 128 _ hK, ← Fin.sum_univ_fun_getElem]
  refine Finset.sum_congr rfl fun i _ => Finset.sum_congr rfl fun c _ => ?_
  have hiL : (i : ℕ) < L.length := by rw [lL]; exact i.isLt
  have hiR : (i : ℕ) < R.length := by rw [lR]; exact i.isLt
  rw [concat_lanes L hL p _ i hiL c (by simp [Nat.mul_comm]), concat_lanes R hR o _ i hiR c (by simp [Nat.mul_comm])]
  exact congrArg₂ (· * ·) (List.Forall₂.get eL hiL i.isLt c) (List.Forall₂.get eR hiR i.isLt c)

/-- A nonnegative finite factor comes out of a sum of extended reals on the right. -/
theorem sum_mul_of_finite {ι : Type} (s : Finset ι) (f : ι → EReal) (a : EReal) (h0 : 0 ≤ a) (ha : a ≠ ⊤) :
    (∑ i ∈ s, f i) * a = ∑ i ∈ s, f i * a := by
  classical
  induction s using Finset.induction_on with
  | empty => simp
  | insert i s hi ih => rw [Finset.sum_insert hi, Finset.sum_insert hi, EReal.right_distrib_of_nonneg_of_ne_top h0 ha, ih]

/-- The same for a list's sum. -/
theorem list_sum_mul_of_finite {τ : Type} (L : List τ) (f : τ → EReal) (a : EReal) (h0 : 0 ≤ a) (ha : a ≠ ⊤) :
    (L.map f).sum * a = (L.map fun t => f t * a).sum := by
  induction L with
  | nil => simp
  | cons t L ih => simp only [List.map_cons, List.sum_cons]; rw [EReal.right_distrib_of_nonneg_of_ne_top h0 ha, ih]

/-- Four distinct channels, gathered, sum to what the rest of the channels leaves out. -/
theorem rest_add_top (top : Fin 4 → Fin 128) (inj : Function.Injective top) (f g : Fin 128 → EReal) :
    (∑ c, f c * (if c = top 0 ∨ c = top 1 ∨ c = top 2 ∨ c = top 3 then 0 else g c)) + ∑ j : Fin 4, f (top j) * g (top j)
      = ∑ c, f c * g c := by
  classical
  have h : ∑ j : Fin 4, f (top j) * g (top j)
      = ∑ c, if c = top 0 ∨ c = top 1 ∨ c = top 2 ∨ c = top 3 then f c * g c else 0 := by
    rw [← Finset.sum_filter, ← Finset.sum_image (s := Finset.univ) (g := top) (f := fun c => f c * g c) (fun a _ b _ h => inj h)]
    refine Finset.sum_congr (Finset.ext fun c => ?_) fun _ _ => rfl
    simp only [Finset.mem_image, Finset.mem_univ, true_and, Finset.mem_filter]
    constructor
    · rintro ⟨a, rfl⟩; fin_cases a <;> simp
    · rintro (h | h | h | h)
      · exact ⟨0, h.symm⟩
      · exact ⟨1, h.symm⟩
      · exact ⟨2, h.symm⟩
      · exact ⟨3, h.symm⟩
  rw [h, ← Finset.sum_add_distrib]
  refine Finset.sum_congr rfl fun c _ => ?_
  split <;> simp

/-- A sum over 128 lanes, lane `4 t + j` by lane: the 27 taps' four lanes, and the twenty lanes after them. -/
theorem sum_wide (f : Fin 128 → EReal) (g : Fin 27 → Fin 4 → EReal)
    (h : ∀ (t : Fin 27) (j : Fin 4), f ⟨4 * t + j, by omega⟩ = g t j) (h0 : ∀ l : Fin 128, 108 ≤ (l : ℕ) → f l = 0) :
    ∑ l, f l = ((List.finRange 27).map fun t => ∑ j, g t j).sum := by
  have e : ∑ l, f l = ∑ t : Fin 32, ∑ j : Fin 4, f ⟨t * 4 + j, by omega⟩ := (_root_.Fin.sum_mul_add_fin 32 4 f rfl).symm
  refine e.trans ((Fin.sum_univ_add (a := 27) (b := 5) fun t : Fin 32 => ∑ j : Fin 4, f ⟨t * 4 + j, by omega⟩).trans ?_)
  rw [show ((List.finRange 27).map fun t => ∑ j, g t j).sum = ∑ t : Fin 27, ∑ j, g t j from by
    rw [← List.ofFn_eq_map, List.sum_ofFn]]
  have z : ∑ i : Fin 5, ∑ j : Fin 4, f ⟨(Fin.natAdd 27 i : Fin 32) * 4 + j, by omega⟩ = 0 :=
    Finset.sum_eq_zero fun i _ => Finset.sum_eq_zero fun j _ => h0 _ (by simp; omega)
  rw [z, add_zero]
  refine Finset.sum_congr rfl fun t _ => Finset.sum_congr rfl fun j _ => ?_
  rw [← h t j]
  exact congrArg f (Fin.ext (by simp; omega))

/-- The 27 taps of one output element. `T t c` is the code tap `t` meets at channel `c`, `W t c` its weight; the first
    `n` taps (in the list's order) are of cached frames, whose scale is `sc`, the others of new frames, whose scale is `sx`.
    Left: the new frames' taps with four channels left out of every tap but tap 22, those four channels and tap 22 added as
    one wide contraction (`A l * V l`), the sum scaled once; then the cached frames' taps, scaled once.
    Right: every code scaled by its own frame's scale, multiplied, added up, and the sum scaled by the weights' scale. -/
theorem taps_eq (tc tx : List (Fin 27)) (hp : (tc ++ (22 :: tx)).Perm (List.finRange 27))
    (new : Fin 27 → Bool) (hc : ∀ t ∈ tc, new t = false) (hx : ∀ t ∈ tx, new t = true) (h22 : new 22 = true)
    (h22c : 22 ∉ tx)
    (T W : Fin 27 → Fin 128 → EReal) (top : Fin 4 → Fin 128) (inj : Function.Injective top) (A V : Fin 128 → EReal)
    (hA : ∀ (t : Fin 27) (j : Fin 4), new t = true → A ⟨4 * t + j, by omega⟩ = T t (top j))
    (hV : ∀ (t : Fin 27) (j : Fin 4), V ⟨4 * t + j, by omega⟩ = if new t = true ∧ t ≠ 22 then W t (top j) else 0)
    (hV0 : ∀ l : Fin 128, 108 ≤ (l : ℕ) → V l = 0)
    (sx sc ws : EReal) (x0 : 0 ≤ sx) (xt : sx ≠ ⊤) (c0 : 0 ≤ sc) (ct : sc ≠ ⊤) (w0 : 0 ≤ ws) (wt : ws ≠ ⊤) :
    ((tx.map fun t => ∑ c, T t c * (if c = top 0 ∨ c = top 1 ∨ c = top 2 ∨ c = top 3 then 0 else W t c)).sum
        + ((∑ l, A l * V l) + ∑ c, T 22 c * W 22 c)) * (ws * sx)
      + (tc.map fun t => ∑ c, T t c * W t c).sum * (ws * sc)
    = ((List.finRange 27).map fun t => ∑ c, T t c * (if new t = true then sx else sc) * W t c).sum * ws := by
  have wide : ∑ l, A l * V l = (tx.map fun t => ∑ j : Fin 4, T t (top j) * W t (top j)).sum := by
    rw [sum_wide (fun l => A l * V l) (fun t j => if new t = true ∧ t ≠ 22 then T t (top j) * W t (top j) else 0)
      (fun t j => by
        rw [hV t j]
        by_cases h : new t = true ∧ t ≠ 22
        · rw [if_pos h, if_pos h, hA t j h.1]
        · rw [if_neg h, if_neg h, mul_zero])
      (fun l hl => by rw [hV0 l hl, mul_zero])]
    rw [← (hp.map _).sum_eq, List.map_append, List.sum_append, List.map_cons, List.sum_cons]
    have z1 : (tc.map fun t => ∑ j : Fin 4, if new t = true ∧ t ≠ 22 then T t (top j) * W t (top j) else 0).sum = 0 := by
      refine List.sum_eq_zero fun x hx' => ?_
      obtain ⟨t, ht, rfl⟩ := List.mem_map.1 hx'
      simp [hc t ht]
    rw [z1, zero_add]
    have z2 : (∑ j : Fin 4, if new 22 = true ∧ (22 : Fin 27) ≠ 22 then T 22 (top j) * W 22 (top j) else 0) = 0 := by simp
    rw [z2, zero_add]
    refine congrArg List.sum (List.map_congr_left fun t ht => Finset.sum_congr rfl fun j _ => ?_)
    rw [if_pos ⟨hx t ht, fun h => h22c (h ▸ ht)⟩]
  have merge : (tx.map fun t => ∑ c, T t c * (if c = top 0 ∨ c = top 1 ∨ c = top 2 ∨ c = top 3 then 0 else W t c)).sum
        + ((∑ l, A l * V l) + ∑ c, T 22 c * W 22 c)
      = ((22 :: tx).map fun t => ∑ c, T t c * W t c).sum := by
    rw [wide, ← add_assoc, ← List.sum_map_add, List.map_cons, List.sum_cons, add_comm]
    refine congrArg (_ + ·) (congrArg List.sum (List.map_congr_left fun t _ => ?_))
    exact rest_add_top top inj _ _
  rw [merge, ← (hp.map _).sum_eq, List.map_append, List.sum_append, EReal.right_distrib_of_nonneg_of_ne_top w0 wt, add_comm]
  rw [mul_comm ws sx, mul_comm ws sc, ← mul_assoc, ← mul_assoc, list_sum_mul_of_finite _ _ _ x0 xt,
    list_sum_mul_of_finite _ _ _ c0 ct]
  have side : ∀ (L : List (Fin 27)) (b : Bool) (_ : ∀ t ∈ L, new t = b),
      (L.map fun t => (∑ c, T t c * W t c) * (if b = true then sx else sc))
        = L.map fun t => ∑ c, T t c * (if new t = true then sx else sc) * W t c := by
    intro L b hb
    refine List.map_congr_left fun t ht => ?_
    rw [hb t ht, sum_mul_of_finite _ _ _ (by split <;> assumption) (by split <;> assumption)]
    refine Finset.sum_congr rfl fun c _ => ?_
    rw [mul_assoc, mul_comm (W t c), ← mul_assoc]
  have s1 := side tc false hc
  have s2 := side (22 :: tx) true (by
    intro t ht; rcases List.mem_cons.1 ht with rfl | ht
    · exact h22
    · exact hx t ht)
  simp only [Bool.false_eq_true, if_false, if_true] at s1 s2
  rw [← s1, ← s2]

end Conv
-- ==== Proof.Codes.lean ====
/-
  The codes a grid point of the convolution keeps: what its 54, then 72, then 90 stores into the code scratch leave, as one
  function of the point's input blocks.
-/
module

public import proofs.«01_k».proof.Proof.Gen.KernelIdeal.Frame
public import Idealize.ShloMosaic.Lib.Pipeline.ReadBack
public import Idealize.ShloMosaic.Lib.WholeRead
public import Idealize.ShloMosaic.Lib.Pipeline.ValueKit.Tiles
public import proofs.«01_k».proof.Proof.Lanes

@[expose] public section

set_option maxRecDepth 16384

noncomputable section

namespace Conv

open Idealize.ShloMosaic Idealize.ShloMosaic.TcCoe Idealize.SL.Sem
open Cert.KernelIdeal Cert.KernelIdeal.Gen

/-- A block of rank 4 with 128 lanes read at natural coordinates, zero outside. -/
def rd {n m : ℕ} (X : (⟨4, ![1, n, m, 128]⟩ : Shape).Idx → EReal) (f p c : ℕ) : EReal :=
  if h : f < n ∧ p < m ∧ c < 128 then X (ix4 0 ⟨f, h.1⟩ ⟨p, h.2.1⟩ ⟨c, h.2.2⟩) else 0

/-- The quantiser: scaled, and clipped to the representable range. -/
def quant (inv v : EReal) : EReal :=
  min (Ideal.ofBits FTy.f32 1138753536#32) (max (Ideal.ofBits FTy.f32 3286237184#32) (v * inv))

/-- The codes of one grid point's six frames: frame, pixel of the fifty rows (one row of halo above, one below), channel. -/
def base (fst lst : BitVec 1) (inv : EReal) (x5 : Vec Ideal S1x4x64x128 .bf16) (x6 : Vec Ideal S1x4x3072x128 .bf16)
    (x7 : Vec Ideal S1x4x64x128 .bf16) (x8 : Vec Ideal S1x2x64x128 .fp8e4m3) (x9 : Vec Ideal S1x2x3072x128 .fp8e4m3)
    (x10 : Vec Ideal S1x2x64x128 .fp8e4m3) (f p c : ℕ) : EReal :=
  if f < 2 then
    (if p < 64 then Scalar.select fst (0 : EReal) (rd x8 f p c) else if p < 3136 then rd x9 f (p - 64) c
      else Scalar.select lst (0 : EReal) (rd x10 f (p - 3136) c))
  else quant inv
    (if p < 64 then Scalar.select fst (0 : EReal) (rd x5 (f - 2) p c) else if p < 3136 then rd x6 (f - 2) (p - 64) c
      else Scalar.select lst (0 : EReal) (rd x7 (f - 2) (p - 3136) c))

/-- Codes moved by one column of the 64-column image: `kw = 0` the left neighbour, `1` the pixel itself, `2` the right
    neighbour, zero past the edge. -/
def shifted (b : ℕ → ℕ → ℕ → EReal) (kw f p c : ℕ) : EReal :=
  if kw = 0 then (if p % 64 = 0 then 0 else b f (p - 1) c)
  else if kw = 1 then b f p c
  else (if p % 64 = 63 then 0 else b f (p + 1) c)

/-- The same, over the code scratch's index. -/
def Codes (b : ℕ → ℕ → ℕ → EReal) (z : S3x6x3200x128.Idx) : EReal := shifted b (z 0) (z 1) (z 2) (z 3)

/-- The machine's remainder of floor division. -/
def wmod (x d : BitVec 32) : BitVec 32 :=
  Scalar.select
    (IntOp.andi
      (IntOp.xori (IntOp.cmpi CmpIPredicate.slt (IntOp.remsi ArithUnit.vector x d) 0#32) (Scalar.cmpi CmpIPredicate.slt d 0#32))
      (IntOp.cmpi CmpIPredicate.ne (IntOp.remsi ArithUnit.vector x d) 0#32))
    (IntOp.addi (IntOp.remsi ArithUnit.vector x d) d) (IntOp.remsi ArithUnit.vector x d)

theorem first_col : ∀ p : Fin 1024, IntOp.cmpi CmpIPredicate.eq (wmod (BitVec.ofNat 32 p) 64#32) 0#32 = if (p : ℕ) % 64 = 0 then 1#1 else 0#1 := by
  decide +kernel

theorem last_col : ∀ p : Fin 1024, IntOp.cmpi CmpIPredicate.eq (wmod (BitVec.ofNat 32 p) 64#32) 63#32 = if (p : ℕ) % 64 = 63 then 1#1 else 0#1 := by
  decide +kernel

theorem select_ite {α : Type} (P : Prop) [Decidable P] (a b : α) : Scalar.select (if P then 1#1 else 0#1) a b = if P then a else b := by
  split <;> rfl

theorem select_zero_mul (b : BitVec 1) (v k : EReal) : Scalar.select b 0 (v * k) = Scalar.select b 0 v * k := by
  unfold Scalar.select
  split <;> simp

theorem zero_int : (((0#32 : BitVec 32).toInt : ℝ) : EReal) = 0 := by simp

theorem Codes_emb (b : ℕ → ℕ → ℕ → EReal) (kw f off : ℕ) {n : ℕ} (y2 : Fin n) (y3 : Fin 128)
    (inb : ∀ a, ![kw, f, off, 0] a + (⟨4, ![1, 1, n, 128]⟩ : Shape).size a ≤ S3x6x3200x128.size a) :
    Codes b ((Rect.unit (s := S3x6x3200x128) ![kw, f, off, 0] (⟨4, ![1, 1, n, 128]⟩ : Shape).size inb).emb (ix4 0 0 y2 y3))
      = shifted b kw f (off + y2) y3 := by
  have e : ∀ a, ((Rect.unit (s := S3x6x3200x128) ![kw, f, off, 0] (⟨4, ![1, 1, n, 128]⟩ : Shape).size inb).emb (ix4 0 0 y2 y3) a : ℕ)
      = ![kw, f, off, 0] a + ((ix4 0 0 y2 y3 : (⟨4, ![1, 1, n, 128]⟩ : Shape).Idx) a : ℕ) :=
    fun a => Rect.idx_unit_val _ _ _ _ a
  have e0 := e 0
  have e1 := e 1
  have e2 := e 2
  have e3 := e 3
  simp at e0 e1 e2 e3
  unfold Codes
  simp [e0, e1, e2, e3]

theorem right64_at (q : FVec Ideal S64x128 .fp8e4m3) (p : Fin 64) (l : Fin 128) :
    k0_pay146 (F := Ideal) q (ix4 0 0 p l) = if (p : ℕ) % 64 = 0 then (0 : EReal) else q (ix2 ⟨(p + 64 - 1) % 64, by omega⟩ l) := by
  pointwise [k0_pay146, k0_pay145, k0_pay144]
  have h := (congrArg (fun m => Scalar.select m ((((0#32 : BitVec 32).toInt : ℝ)) : EReal) (q (ix2 ⟨(p + 64 - 1) % 64, by omega⟩ l))) (first_col (p.castLE (by decide)))).trans (select_ite _ _ _)
  rw [zero_int] at h
  rw [zero_int]
  exact h

theorem left64_at (q : FVec Ideal S64x128 .fp8e4m3) (p : Fin 64) (l : Fin 128) :
    k0_pay149 (k0_pay148 (F := Ideal) q) (ix4 0 0 p l) = if (p : ℕ) % 64 = 63 then (0 : EReal) else q (ix2 ⟨(p + 64 - 63) % 64, by omega⟩ l) := by
  pointwise [k0_pay149, k0_pay148, k0_pay145, k0_pay144]
  have h := (congrArg (fun m => Scalar.select m ((((0#32 : BitVec 32).toInt : ℝ)) : EReal) (q (ix2 ⟨(p + 64 - 63) % 64, by omega⟩ l))) (last_col (p.castLE (by decide)))).trans (select_ite _ _ _)
  rw [zero_int] at h
  rw [zero_int]
  exact h

theorem right64 (b : ℕ → ℕ → ℕ → EReal) (f off : ℕ) (q : FVec Ideal S64x128 .fp8e4m3) (ho : off % 64 = 0)
    (hq : ∀ (p : Fin 64) (l : Fin 128), q (ix2 p l) = b f (off + p) l) (inb : ∀ a, ![0, f, off, 0] a + S1x1x64x128.size a ≤ S3x6x3200x128.size a)
    (y : S1x1x64x128.Idx) : k0_pay146 (F := Ideal) q y = Codes b ((Rect.unit (s := S3x6x3200x128) ![0, f, off, 0] S1x1x64x128.size inb).emb y) := by
  idx_vars y
  obtain rfl := Subsingleton.elim y0 0
  obtain rfl := Subsingleton.elim y1 0
  refine (right64_at q y2 y3).trans ?_
  rw [Codes_emb]
  simp only [shifted, if_true]
  by_cases h : (y2 : ℕ) % 64 = 0
  · rw [if_pos h, if_pos (by omega)]
  · rw [if_neg h, if_neg (by omega), hq]
    exact congrArg (fun p => b f p y3) (by simp; omega)

theorem left64 (b : ℕ → ℕ → ℕ → EReal) (f off : ℕ) (q : FVec Ideal S64x128 .fp8e4m3) (ho : off % 64 = 0)
    (hq : ∀ (p : Fin 64) (l : Fin 128), q (ix2 p l) = b f (off + p) l) (inb : ∀ a, ![2, f, off, 0] a + S1x1x64x128.size a ≤ S3x6x3200x128.size a)
    (y : S1x1x64x128.Idx) : k0_pay149 (k0_pay148 (F := Ideal) q) y = Codes b ((Rect.unit (s := S3x6x3200x128) ![2, f, off, 0] S1x1x64x128.size inb).emb y) := by
  idx_vars y
  obtain rfl := Subsingleton.elim y0 0
  obtain rfl := Subsingleton.elim y1 0
  refine (left64_at q y2 y3).trans ?_
  rw [Codes_emb]
  simp only [shifted]
  by_cases h : (y2 : ℕ) % 64 = 63
  · rw [if_pos h]; simp; omega
  · rw [if_neg h, if_neg (by omega), if_neg (by omega), if_neg (by omega), hq]
    exact congrArg (fun p => b f p y3) (by simp; omega)

theorem mid64 (b : ℕ → ℕ → ℕ → EReal) (f off : ℕ) (q : FVec Ideal S64x128 .fp8e4m3)
    (hq : ∀ (p : Fin 64) (l : Fin 128), q (ix2 p l) = b f (off + p) l) (inb : ∀ a, ![1, f, off, 0] a + S1x1x64x128.size a ≤ S3x6x3200x128.size a)
    (y : S1x1x64x128.Idx) : k0_pay147 (F := Ideal) q y = Codes b ((Rect.unit (s := S3x6x3200x128) ![1, f, off, 0] S1x1x64x128.size inb).emb y) := by
  idx_vars y
  obtain rfl := Subsingleton.elim y0 0
  obtain rfl := Subsingleton.elim y1 0
  rw [Codes_emb]
  pointwise [k0_pay147]
  simp [hq, shifted]

theorem right1024_at (q : FVec Ideal S1024x128 .fp8e4m3) (p : Fin 1024) (l : Fin 128) :
    k0_pay407 (F := Ideal) (extf .f32 q bitsLt_fp8e4m3_f32) 64#32 k0_pay405 0#32 (ix4 0 0 p l) = if (p : ℕ) % 64 = 0 then (0 : EReal) else q (ix2 ⟨(p + 1024 - 1) % 1024, by omega⟩ l) := by
  pointwise [k0_pay407, k0_pay405, k0_pay406]
  have h := (congrArg (fun m => Scalar.select m ((((0#32 : BitVec 32).toInt : ℝ)) : EReal) (q (ix2 ⟨(p + 1024 - 1) % 1024, by omega⟩ l))) (first_col p)).trans (select_ite _ _ _)
  rw [zero_int] at h
  rw [zero_int]
  exact h

theorem left1024_at (q : FVec Ideal S1024x128 .fp8e4m3) (p : Fin 1024) (l : Fin 128) :
    k0_pay409 (F := Ideal) (extf .f32 q bitsLt_fp8e4m3_f32) 64#32 k0_pay405 0#32 (ix4 0 0 p l) = if (p : ℕ) % 64 = 63 then (0 : EReal) else q (ix2 ⟨(p + 1024 - 1023) % 1024, by omega⟩ l) := by
  pointwise [k0_pay409, k0_pay405, k0_pay406]
  have h := (congrArg (fun m => Scalar.select m ((((0#32 : BitVec 32).toInt : ℝ)) : EReal) (q (ix2 ⟨(p + 1024 - 1023) % 1024, by omega⟩ l))) (last_col p)).trans (select_ite _ _ _)
  rw [zero_int] at h
  rw [zero_int]
  exact h

theorem right1024 (b : ℕ → ℕ → ℕ → EReal) (f off : ℕ) (q : FVec Ideal S1024x128 .fp8e4m3) (ho : off % 64 = 0)
    (hq : ∀ (p : Fin 1024) (l : Fin 128), q (ix2 p l) = b f (off + p) l) (inb : ∀ a, ![0, f, off, 0] a + S1x1x1024x128.size a ≤ S3x6x3200x128.size a)
    (y : S1x1x1024x128.Idx) : k0_pay407 (F := Ideal) (extf .f32 q bitsLt_fp8e4m3_f32) 64#32 k0_pay405 0#32 y = Codes b ((Rect.unit (s := S3x6x3200x128) ![0, f, off, 0] S1x1x1024x128.size inb).emb y) := by
  idx_vars y
  obtain rfl := Subsingleton.elim y0 0
  obtain rfl := Subsingleton.elim y1 0
  refine (right1024_at q y2 y3).trans ?_
  rw [Codes_emb]
  simp only [shifted, if_true]
  by_cases h : (y2 : ℕ) % 64 = 0
  · rw [if_pos h, if_pos (by omega)]
  · rw [if_neg h, if_neg (by omega), hq]
    exact congrArg (fun p => b f p y3) (by simp; omega)

theorem left1024 (b : ℕ → ℕ → ℕ → EReal) (f off : ℕ) (q : FVec Ideal S1024x128 .fp8e4m3) (ho : off % 64 = 0)
    (hq : ∀ (p : Fin 1024) (l : Fin 128), q (ix2 p l) = b f (off + p) l) (inb : ∀ a, ![2, f, off, 0] a + S1x1x1024x128.size a ≤ S3x6x3200x128.size a)
    (y : S1x1x1024x128.Idx) : k0_pay409 (F := Ideal) (extf .f32 q bitsLt_fp8e4m3_f32) 64#32 k0_pay405 0#32 y = Codes b ((Rect.unit (s := S3x6x3200x128) ![2, f, off, 0] S1x1x1024x128.size inb).emb y) := by
  idx_vars y
  obtain rfl := Subsingleton.elim y0 0
  obtain rfl := Subsingleton.elim y1 0
  refine (left1024_at q y2 y3).trans ?_
  rw [Codes_emb]
  simp only [shifted]
  by_cases h : (y2 : ℕ) % 64 = 63
  · rw [if_pos h]; simp; omega
  · rw [if_neg h, if_neg (by omega), if_neg (by omega), if_neg (by omega), hq]
    exact congrArg (fun p => b f p y3) (by simp; omega)

theorem mid1024 (b : ℕ → ℕ → ℕ → EReal) (f off : ℕ) (q : FVec Ideal S1024x128 .fp8e4m3)
    (hq : ∀ (p : Fin 1024) (l : Fin 128), q (ix2 p l) = b f (off + p) l) (inb : ∀ a, ![1, f, off, 0] a + S1x1x1024x128.size a ≤ S3x6x3200x128.size a)
    (y : S1x1x1024x128.Idx) : k0_pay236 (F := Ideal) q y = Codes b ((Rect.unit (s := S3x6x3200x128) ![1, f, off, 0] S1x1x1024x128.size inb).emb y) := by
  idx_vars y
  obtain rfl := Subsingleton.elim y0 0
  obtain rfl := Subsingleton.elim y1 0
  rw [Codes_emb]
  pointwise [k0_pay236]
  simp [hq, shifted]

variable (c : Dev nD) (i : grid0.Coords)
  (arg3 : Memref sig .tc .smem S1x1 .f32) (harg3 : arg3.IsWhole)
  (arg6 : Memref sig .tc .vmem S1x128 .i32) (harg6 : arg6.IsWhole)
  (arg7 : Memref sig .tc .vmem S1x4x64x128 .bf16) (harg7 : arg7.IsWhole)
  (arg8 : Memref sig .tc .vmem S1x4x3072x128 .bf16) (harg8 : arg8.IsWhole)
  (arg9 : Memref sig .tc .vmem S1x4x64x128 .bf16) (harg9 : arg9.IsWhole)
  (arg10 : Memref sig .tc .vmem S1x2x64x128 .fp8e4m3) (harg10 : arg10.IsWhole)
  (arg11 : Memref sig .tc .vmem S1x2x3072x128 .fp8e4m3) (harg11 : arg11.IsWhole)
  (arg12 : Memref sig .tc .vmem S1x2x64x128 .fp8e4m3) (harg12 : arg12.IsWhole)
  (x1 : Vec Ideal S1x1 .f32) (x4 : Vec Ideal S1x128 .i32)
  (x5 : Vec Ideal S1x4x64x128 .bf16) (x6 : Vec Ideal S1x4x3072x128 .bf16) (x7 : Vec Ideal S1x4x64x128 .bf16)
  (x8 : Vec Ideal S1x2x64x128 .fp8e4m3) (x9 : Vec Ideal S1x2x3072x128 .fp8e4m3) (x10 : Vec Ideal S1x2x64x128 .fp8e4m3)

/-- The grid point is the image's first block of rows; its last. -/
abbrev fstB : BitVec 1 := kernelRun0_B.sl.v0 i
abbrev lstB : BitVec 1 := Scalar.cmpi CmpIPredicate.eq (BitVec.ofNat 32 (i 1)) 24#32

/-- The inverse of the new frames' scale, as the point reads it. -/
abbrev invB : EReal := kernelRun0_B.sl.r_4 (F := Ideal) c arg3 harg3 x1

/-- The point's codes. -/
abbrev baseB : ℕ → ℕ → ℕ → EReal := base (fstB i) (lstB i) (invB c arg3 harg3 x1) x5 x6 x7 x8 x9 x10

theorem idx4 {n m k : ℕ} (f o : ℕ) (inb : ∀ a, ![0, f, o, 0] a + (⟨4, ![1, 1, k, 128]⟩ : Shape).size a ≤ (⟨4, ![1, n, m, 128]⟩ : Shape).size a)
    (p : Fin k) (l : Fin 128) (X : (⟨4, ![1, n, m, 128]⟩ : Shape).Idx → EReal) (q : ℕ) (hq : q = o + p) :
    X ((Rect.unit (s := ⟨4, ![1, n, m, 128]⟩) ![0, f, o, 0] (⟨4, ![1, 1, k, 128]⟩ : Shape).size inb).toLoadRect.idx (ix4 0 0 p l)) = rd X f q l := by
  subst hq
  have h1 : f < n := by have := inb 1; simp at this; omega
  have h2 : o + p < m := by have := inb 2; simp at this; omega
  rw [rd, dif_pos ⟨h1, h2, l.isLt⟩]
  refine congrArg X (funext fun a => Fin.ext ?_)
  refine (Rect.idx_unit_val _ _ _ _ a).trans ?_
  match a with
  | ⟨0, _⟩ => simp
  | ⟨1, _⟩ => simp
  | ⟨2, _⟩ => simp
  | ⟨3, _⟩ => simp

include c i arg3 harg3 arg7 harg7 arg8 harg8 arg9 harg9 arg10 harg10 arg11 harg11 arg12 harg12 x1 x5 x6 x7 x8 x9 x10

theorem codeT (f : ℕ) (hf : f < 4) (inb : ∀ a, ![0, f, 0, 0] a + S1x1x64x128.size a ≤ S1x4x64x128.size a) (p : Fin 64) (l : Fin 128) :
    k0_pay178 (F := Ideal) (fstB i) (invB c arg3 harg3 x1) (View.readAt (Elt Ideal) arg7.view (Rect.unit (s := S1x4x64x128) ![0, f, 0, 0] S1x1x64x128.size inb).toLoadRect (harg7.unread x5)) (ix2 p l)
      = baseB c i arg3 harg3 x1 x5 x6 x7 x8 x9 x10 (f + 2) (0 + p) l := by
  have h3 : (0 : ℕ) + 64 ≤ 64 := by have := inb 2; simpa using this
  pointwise [k0_pay178]
  rw [harg7.readAt_unread, idx4 f 0 inb p l x5 _ rfl]
  unfold baseB base
  simp (disch := omega) only [if_pos, if_neg]
  simp only [Nat.zero_add]
  rw [select_zero_mul]
  rfl

theorem codeB (f : ℕ) (hf : f < 4) (inb : ∀ a, ![0, f, 0, 0] a + S1x1x64x128.size a ≤ S1x4x64x128.size a) (p : Fin 64) (l : Fin 128) :
    k0_pay178 (F := Ideal) (lstB i) (invB c arg3 harg3 x1) (View.readAt (Elt Ideal) arg9.view (Rect.unit (s := S1x4x64x128) ![0, f, 0, 0] S1x1x64x128.size inb).toLoadRect (harg9.unread x7)) (ix2 p l)
      = baseB c i arg3 harg3 x1 x5 x6 x7 x8 x9 x10 (f + 2) (3136 + p) l := by
  have h3 : (0 : ℕ) + 64 ≤ 64 := by have := inb 2; simpa using this
  pointwise [k0_pay178]
  rw [harg9.readAt_unread, idx4 f 0 inb p l x7 _ rfl]
  unfold baseB base
  simp (disch := omega) only [if_pos, if_neg]
  simp only [Nat.add_sub_cancel_left, Nat.zero_add]
  rw [select_zero_mul]
  rfl

theorem codeTc (f : ℕ) (hf : f < 2) (inb : ∀ a, ![0, f, 0, 0] a + S1x1x64x128.size a ≤ S1x2x64x128.size a) (p : Fin 64) (l : Fin 128) :
    k0_pay213 (F := Ideal) (fstB i) (View.readAt (Elt Ideal) arg10.view (Rect.unit (s := S1x2x64x128) ![0, f, 0, 0] S1x1x64x128.size inb).toLoadRect (harg10.unread x8)) (ix2 p l)
      = baseB c i arg3 harg3 x1 x5 x6 x7 x8 x9 x10 f (0 + p) l := by
  have h3 : (0 : ℕ) + 64 ≤ 64 := by have := inb 2; simpa using this
  pointwise [k0_pay213]
  rw [harg10.readAt_unread, idx4 f 0 inb p l x8 _ rfl]
  unfold baseB base
  simp (disch := omega) only [if_pos, if_neg]
  simp only [Nat.zero_add]
  rw [zero_int]

theorem codeBc (f : ℕ) (hf : f < 2) (inb : ∀ a, ![0, f, 0, 0] a + S1x1x64x128.size a ≤ S1x2x64x128.size a) (p : Fin 64) (l : Fin 128) :
    k0_pay213 (F := Ideal) (lstB i) (View.readAt (Elt Ideal) arg12.view (Rect.unit (s := S1x2x64x128) ![0, f, 0, 0] S1x1x64x128.size inb).toLoadRect (harg12.unread x10)) (ix2 p l)
      = baseB c i arg3 harg3 x1 x5 x6 x7 x8 x9 x10 f (3136 + p) l := by
  have h3 : (0 : ℕ) + 64 ≤ 64 := by have := inb 2; simpa using this
  pointwise [k0_pay213]
  rw [harg12.readAt_unread, idx4 f 0 inb p l x10 _ rfl]
  unfold baseB base
  simp (disch := omega) only [if_pos, if_neg]
  simp only [Nat.add_sub_cancel_left, Nat.zero_add]
  rw [zero_int]

theorem codeX (f : ℕ) (o : ℕ) (hf : f < 4) (inb : ∀ a, ![0, f, o, 0] a + S1x1x1024x128.size a ≤ S1x4x3072x128.size a) (p : Fin 1024) (l : Fin 128) :
    k0_pay228 (F := Ideal) (invB c arg3 harg3 x1) (View.readAt (Elt Ideal) arg8.view (Rect.unit (s := S1x4x3072x128) ![0, f, o, 0] S1x1x1024x128.size inb).toLoadRect (harg8.unread x6)) (ix2 p l)
      = baseB c i arg3 harg3 x1 x5 x6 x7 x8 x9 x10 (f + 2) (o + 64 + p) l := by
  have h3 : (o : ℕ) + 1024 ≤ 3072 := by have := inb 2; simpa using this
  pointwise [k0_pay228]
  rw [harg8.readAt_unread, idx4 f o inb p l x6 _ rfl]
  unfold baseB base
  simp (disch := omega) only [if_pos, if_neg]
  rw [show o + 64 + (p : ℕ) - 64 = o + p by omega]
  rfl

theorem codeC (f : ℕ) (o : ℕ) (hf : f < 2) (inb : ∀ a, ![0, f, o, 0] a + S1x1x1024x128.size a ≤ S1x2x3072x128.size a) (p : Fin 1024) (l : Fin 128) :
    k0_pay307 (F := Ideal) (View.readAt (Elt Ideal) arg11.view (Rect.unit (s := S1x2x3072x128) ![0, f, o, 0] S1x1x1024x128.size inb).toLoadRect (harg11.unread x9)) (ix2 p l)
      = baseB c i arg3 harg3 x1 x5 x6 x7 x8 x9 x10 f (o + 64 + p) l := by
  have h3 : (o : ℕ) + 1024 ≤ 3072 := by have := inb 2; simpa using this
  pointwise [k0_pay307]
  rw [harg11.readAt_unread, idx4 f o inb p l x9 _ rfl]
  unfold baseB base
  simp (disch := omega) only [if_pos, if_neg]
  rw [show o + 64 + (p : ℕ) - 64 = o + p by omega]

theorem codes_pieces54 : View.PiecesOf (Codes (baseB c i arg3 harg3 x1 x5 x6 x7 x8 x9 x10))
    (kernelRun0_B.sl.HS0_54 (F := Ideal) c i arg3 harg3 arg7 harg7 arg8 harg8 arg10 harg10 arg11 harg11 x1 x5 x6 x8 x9) := by
  unfold kernelRun0_B.sl.HS0_54
  exact ⟨left1024 _ 1 1088 _ (by decide) (codeC c i arg3 harg3 arg7 harg7 arg8 harg8 arg9 harg9 arg10 harg10 arg11 harg11 arg12 harg12 x1 x5 x6 x7 x8 x9 x10 1 1024 (by decide) inb_S1x2x3072x128_S1x1x1024x128_0_1_1024_0) inb_S3x6x3200x128_S1x1x1024x128_2_1_1088_0,
    mid1024 _ 1 1088 _ (codeC c i arg3 harg3 arg7 harg7 arg8 harg8 arg9 harg9 arg10 harg10 arg11 harg11 arg12 harg12 x1 x5 x6 x7 x8 x9 x10 1 1024 (by decide) inb_S1x2x3072x128_S1x1x1024x128_0_1_1024_0) inb_S3x6x3200x128_S1x1x1024x128_1_1_1088_0,
    right1024 _ 1 1088 _ (by decide) (codeC c i arg3 harg3 arg7 harg7 arg8 harg8 arg9 harg9 arg10 harg10 arg11 harg11 arg12 harg12 x1 x5 x6 x7 x8 x9 x10 1 1024 (by decide) inb_S1x2x3072x128_S1x1x1024x128_0_1_1024_0) inb_S3x6x3200x128_S1x1x1024x128_0_1_1088_0,
    left1024 _ 0 1088 _ (by decide) (codeC c i arg3 harg3 arg7 harg7 arg8 harg8 arg9 harg9 arg10 harg10 arg11 harg11 arg12 harg12 x1 x5 x6 x7 x8 x9 x10 0 1024 (by decide) inb_S1x2x3072x128_S1x1x1024x128_0_0_1024_0) inb_S3x6x3200x128_S1x1x1024x128_2_0_1088_0,
    mid1024 _ 0 1088 _ (codeC c i arg3 harg3 arg7 harg7 arg8 harg8 arg9 harg9 arg10 harg10 arg11 harg11 arg12 harg12 x1 x5 x6 x7 x8 x9 x10 0 1024 (by decide) inb_S1x2x3072x128_S1x1x1024x128_0_0_1024_0) inb_S3x6x3200x128_S1x1x1024x128_1_0_1088_0,
    right1024 _ 0 1088 _ (by decide) (codeC c i arg3 harg3 arg7 harg7 arg8 harg8 arg9 harg9 arg10 harg10 arg11 harg11 arg12 harg12 x1 x5 x6 x7 x8 x9 x10 0 1024 (by decide) inb_S1x2x3072x128_S1x1x1024x128_0_0_1024_0) inb_S3x6x3200x128_S1x1x1024x128_0_0_1088_0,
    left1024 _ 5 1088 _ (by decide) (codeX c i arg3 harg3 arg7 harg7 arg8 harg8 arg9 harg9 arg10 harg10 arg11 harg11 arg12 harg12 x1 x5 x6 x7 x8 x9 x10 3 1024 (by decide) inb_S1x4x3072x128_S1x1x1024x128_0_3_1024_0) inb_S3x6x3200x128_S1x1x1024x128_2_5_1088_0,
    mid1024 _ 5 1088 _ (codeX c i arg3 harg3 arg7 harg7 arg8 harg8 arg9 harg9 arg10 harg10 arg11 harg11 arg12 harg12 x1 x5 x6 x7 x8 x9 x10 3 1024 (by decide) inb_S1x4x3072x128_S1x1x1024x128_0_3_1024_0) inb_S3x6x3200x128_S1x1x1024x128_1_5_1088_0,
    right1024 _ 5 1088 _ (by decide) (codeX c i arg3 harg3 arg7 harg7 arg8 harg8 arg9 harg9 arg10 harg10 arg11 harg11 arg12 harg12 x1 x5 x6 x7 x8 x9 x10 3 1024 (by decide) inb_S1x4x3072x128_S1x1x1024x128_0_3_1024_0) inb_S3x6x3200x128_S1x1x1024x128_0_5_1088_0,
    left1024 _ 4 1088 _ (by decide) (codeX c i arg3 harg3 arg7 harg7 arg8 harg8 arg9 harg9 arg10 harg10 arg11 harg11 arg12 harg12 x1 x5 x6 x7 x8 x9 x10 2 1024 (by decide) inb_S1x4x3072x128_S1x1x1024x128_0_2_1024_0) inb_S3x6x3200x128_S1x1x1024x128_2_4_1088_0,
    mid1024 _ 4 1088 _ (codeX c i arg3 harg3 arg7 harg7 arg8 harg8 arg9 harg9 arg10 harg10 arg11 harg11 arg12 harg12 x1 x5 x6 x7 x8 x9 x10 2 1024 (by decide) inb_S1x4x3072x128_S1x1x1024x128_0_2_1024_0) inb_S3x6x3200x128_S1x1x1024x128_1_4_1088_0,
    right1024 _ 4 1088 _ (by decide) (codeX c i arg3 harg3 arg7 harg7 arg8 harg8 arg9 harg9 arg10 harg10 arg11 harg11 arg12 harg12 x1 x5 x6 x7 x8 x9 x10 2 1024 (by decide) inb_S1x4x3072x128_S1x1x1024x128_0_2_1024_0) inb_S3x6x3200x128_S1x1x1024x128_0_4_1088_0,
    left1024 _ 3 1088 _ (by decide) (codeX c i arg3 harg3 arg7 harg7 arg8 harg8 arg9 harg9 arg10 harg10 arg11 harg11 arg12 harg12 x1 x5 x6 x7 x8 x9 x10 1 1024 (by decide) inb_S1x4x3072x128_S1x1x1024x128_0_1_1024_0) inb_S3x6x3200x128_S1x1x1024x128_2_3_1088_0,
    mid1024 _ 3 1088 _ (codeX c i arg3 harg3 arg7 harg7 arg8 harg8 arg9 harg9 arg10 harg10 arg11 harg11 arg12 harg12 x1 x5 x6 x7 x8 x9 x10 1 1024 (by decide) inb_S1x4x3072x128_S1x1x1024x128_0_1_1024_0) inb_S3x6x3200x128_S1x1x1024x128_1_3_1088_0,
    right1024 _ 3 1088 _ (by decide) (codeX c i arg3 harg3 arg7 harg7 arg8 harg8 arg9 harg9 arg10 harg10 arg11 harg11 arg12 harg12 x1 x5 x6 x7 x8 x9 x10 1 1024 (by decide) inb_S1x4x3072x128_S1x1x1024x128_0_1_1024_0) inb_S3x6x3200x128_S1x1x1024x128_0_3_1088_0,
    left1024 _ 2 1088 _ (by decide) (codeX c i arg3 harg3 arg7 harg7 arg8 harg8 arg9 harg9 arg10 harg10 arg11 harg11 arg12 harg12 x1 x5 x6 x7 x8 x9 x10 0 1024 (by decide) inb_S1x4x3072x128_S1x1x1024x128_0_0_1024_0) inb_S3x6x3200x128_S1x1x1024x128_2_2_1088_0,
    mid1024 _ 2 1088 _ (codeX c i arg3 harg3 arg7 harg7 arg8 harg8 arg9 harg9 arg10 harg10 arg11 harg11 arg12 harg12 x1 x5 x6 x7 x8 x9 x10 0 1024 (by decide) inb_S1x4x3072x128_S1x1x1024x128_0_0_1024_0) inb_S3x6x3200x128_S1x1x1024x128_1_2_1088_0,
    right1024 _ 2 1088 _ (by decide) (codeX c i arg3 harg3 arg7 harg7 arg8 harg8 arg9 harg9 arg10 harg10 arg11 harg11 arg12 harg12 x1 x5 x6 x7 x8 x9 x10 0 1024 (by decide) inb_S1x4x3072x128_S1x1x1024x128_0_0_1024_0) inb_S3x6x3200x128_S1x1x1024x128_0_2_1088_0,
    left1024 _ 1 64 _ (by decide) (codeC c i arg3 harg3 arg7 harg7 arg8 harg8 arg9 harg9 arg10 harg10 arg11 harg11 arg12 harg12 x1 x5 x6 x7 x8 x9 x10 1 0 (by decide) inb_S1x2x3072x128_S1x1x1024x128_0_1_0_0) inb_S3x6x3200x128_S1x1x1024x128_2_1_64_0,
    mid1024 _ 1 64 _ (codeC c i arg3 harg3 arg7 harg7 arg8 harg8 arg9 harg9 arg10 harg10 arg11 harg11 arg12 harg12 x1 x5 x6 x7 x8 x9 x10 1 0 (by decide) inb_S1x2x3072x128_S1x1x1024x128_0_1_0_0) inb_S3x6x3200x128_S1x1x1024x128_1_1_64_0,
    right1024 _ 1 64 _ (by decide) (codeC c i arg3 harg3 arg7 harg7 arg8 harg8 arg9 harg9 arg10 harg10 arg11 harg11 arg12 harg12 x1 x5 x6 x7 x8 x9 x10 1 0 (by decide) inb_S1x2x3072x128_S1x1x1024x128_0_1_0_0) inb_S3x6x3200x128_S1x1x1024x128_0_1_64_0,
    left1024 _ 0 64 _ (by decide) (codeC c i arg3 harg3 arg7 harg7 arg8 harg8 arg9 harg9 arg10 harg10 arg11 harg11 arg12 harg12 x1 x5 x6 x7 x8 x9 x10 0 0 (by decide) inb_S1x2x3072x128_S1x1x1024x128_0_0_0_0) inb_S3x6x3200x128_S1x1x1024x128_2_0_64_0,
    mid1024 _ 0 64 _ (codeC c i arg3 harg3 arg7 harg7 arg8 harg8 arg9 harg9 arg10 harg10 arg11 harg11 arg12 harg12 x1 x5 x6 x7 x8 x9 x10 0 0 (by decide) inb_S1x2x3072x128_S1x1x1024x128_0_0_0_0) inb_S3x6x3200x128_S1x1x1024x128_1_0_64_0,
    right1024 _ 0 64 _ (by decide) (codeC c i arg3 harg3 arg7 harg7 arg8 harg8 arg9 harg9 arg10 harg10 arg11 harg11 arg12 harg12 x1 x5 x6 x7 x8 x9 x10 0 0 (by decide) inb_S1x2x3072x128_S1x1x1024x128_0_0_0_0) inb_S3x6x3200x128_S1x1x1024x128_0_0_64_0,
    left1024 _ 5 64 _ (by decide) (codeX c i arg3 harg3 arg7 harg7 arg8 harg8 arg9 harg9 arg10 harg10 arg11 harg11 arg12 harg12 x1 x5 x6 x7 x8 x9 x10 3 0 (by decide) inb_S1x4x3072x128_S1x1x1024x128_0_3_0_0) inb_S3x6x3200x128_S1x1x1024x128_2_5_64_0,
    mid1024 _ 5 64 _ (codeX c i arg3 harg3 arg7 harg7 arg8 harg8 arg9 harg9 arg10 harg10 arg11 harg11 arg12 harg12 x1 x5 x6 x7 x8 x9 x10 3 0 (by decide) inb_S1x4x3072x128_S1x1x1024x128_0_3_0_0) inb_S3x6x3200x128_S1x1x1024x128_1_5_64_0,
    right1024 _ 5 64 _ (by decide) (codeX c i arg3 harg3 arg7 harg7 arg8 harg8 arg9 harg9 arg10 harg10 arg11 harg11 arg12 harg12 x1 x5 x6 x7 x8 x9 x10 3 0 (by decide) inb_S1x4x3072x128_S1x1x1024x128_0_3_0_0) inb_S3x6x3200x128_S1x1x1024x128_0_5_64_0,
    left1024 _ 4 64 _ (by decide) (codeX c i arg3 harg3 arg7 harg7 arg8 harg8 arg9 harg9 arg10 harg10 arg11 harg11 arg12 harg12 x1 x5 x6 x7 x8 x9 x10 2 0 (by decide) inb_S1x4x3072x128_S1x1x1024x128_0_2_0_0) inb_S3x6x3200x128_S1x1x1024x128_2_4_64_0,
    mid1024 _ 4 64 _ (codeX c i arg3 harg3 arg7 harg7 arg8 harg8 arg9 harg9 arg10 harg10 arg11 harg11 arg12 harg12 x1 x5 x6 x7 x8 x9 x10 2 0 (by decide) inb_S1x4x3072x128_S1x1x1024x128_0_2_0_0) inb_S3x6x3200x128_S1x1x1024x128_1_4_64_0,
    right1024 _ 4 64 _ (by decide) (codeX c i arg3 harg3 arg7 harg7 arg8 harg8 arg9 harg9 arg10 harg10 arg11 harg11 arg12 harg12 x1 x5 x6 x7 x8 x9 x10 2 0 (by decide) inb_S1x4x3072x128_S1x1x1024x128_0_2_0_0) inb_S3x6x3200x128_S1x1x1024x128_0_4_64_0,
    left1024 _ 3 64 _ (by decide) (codeX c i arg3 harg3 arg7 harg7 arg8 harg8 arg9 harg9 arg10 harg10 arg11 harg11 arg12 harg12 x1 x5 x6 x7 x8 x9 x10 1 0 (by decide) inb_S1x4x3072x128_S1x1x1024x128_0_1_0_0) inb_S3x6x3200x128_S1x1x1024x128_2_3_64_0,
    mid1024 _ 3 64 _ (codeX c i arg3 harg3 arg7 harg7 arg8 harg8 arg9 harg9 arg10 harg10 arg11 harg11 arg12 harg12 x1 x5 x6 x7 x8 x9 x10 1 0 (by decide) inb_S1x4x3072x128_S1x1x1024x128_0_1_0_0) inb_S3x6x3200x128_S1x1x1024x128_1_3_64_0,
    right1024 _ 3 64 _ (by decide) (codeX c i arg3 harg3 arg7 harg7 arg8 harg8 arg9 harg9 arg10 harg10 arg11 harg11 arg12 harg12 x1 x5 x6 x7 x8 x9 x10 1 0 (by decide) inb_S1x4x3072x128_S1x1x1024x128_0_1_0_0) inb_S3x6x3200x128_S1x1x1024x128_0_3_64_0,
    left1024 _ 2 64 _ (by decide) (codeX c i arg3 harg3 arg7 harg7 arg8 harg8 arg9 harg9 arg10 harg10 arg11 harg11 arg12 harg12 x1 x5 x6 x7 x8 x9 x10 0 0 (by decide) inb_S1x4x3072x128_S1x1x1024x128_0_0_0_0) inb_S3x6x3200x128_S1x1x1024x128_2_2_64_0,
    mid1024 _ 2 64 _ (codeX c i arg3 harg3 arg7 harg7 arg8 harg8 arg9 harg9 arg10 harg10 arg11 harg11 arg12 harg12 x1 x5 x6 x7 x8 x9 x10 0 0 (by decide) inb_S1x4x3072x128_S1x1x1024x128_0_0_0_0) inb_S3x6x3200x128_S1x1x1024x128_1_2_64_0,
    right1024 _ 2 64 _ (by decide) (codeX c i arg3 harg3 arg7 harg7 arg8 harg8 arg9 harg9 arg10 harg10 arg11 harg11 arg12 harg12 x1 x5 x6 x7 x8 x9 x10 0 0 (by decide) inb_S1x4x3072x128_S1x1x1024x128_0_0_0_0) inb_S3x6x3200x128_S1x1x1024x128_0_2_64_0,
    left64 _ 1 0 _ (by decide) (codeTc c i arg3 harg3 arg7 harg7 arg8 harg8 arg9 harg9 arg10 harg10 arg11 harg11 arg12 harg12 x1 x5 x6 x7 x8 x9 x10 1 (by decide) inb_S1x2x64x128_S1x1x64x128_0_1_0_0) inb_S3x6x3200x128_S1x1x64x128_2_1_0_0,
    mid64 _ 1 0 _ (codeTc c i arg3 harg3 arg7 harg7 arg8 harg8 arg9 harg9 arg10 harg10 arg11 harg11 arg12 harg12 x1 x5 x6 x7 x8 x9 x10 1 (by decide) inb_S1x2x64x128_S1x1x64x128_0_1_0_0) inb_S3x6x3200x128_S1x1x64x128_1_1_0_0,
    right64 _ 1 0 _ (by decide) (codeTc c i arg3 harg3 arg7 harg7 arg8 harg8 arg9 harg9 arg10 harg10 arg11 harg11 arg12 harg12 x1 x5 x6 x7 x8 x9 x10 1 (by decide) inb_S1x2x64x128_S1x1x64x128_0_1_0_0) inb_S3x6x3200x128_S1x1x64x128_0_1_0_0,
    left64 _ 0 0 _ (by decide) (codeTc c i arg3 harg3 arg7 harg7 arg8 harg8 arg9 harg9 arg10 harg10 arg11 harg11 arg12 harg12 x1 x5 x6 x7 x8 x9 x10 0 (by decide) inb_S1x2x64x128_S1x1x64x128_0_0_0_0) inb_S3x6x3200x128_S1x1x64x128_2_0_0_0,
    mid64 _ 0 0 _ (codeTc c i arg3 harg3 arg7 harg7 arg8 harg8 arg9 harg9 arg10 harg10 arg11 harg11 arg12 harg12 x1 x5 x6 x7 x8 x9 x10 0 (by decide) inb_S1x2x64x128_S1x1x64x128_0_0_0_0) inb_S3x6x3200x128_S1x1x64x128_1_0_0_0,
    right64 _ 0 0 _ (by decide) (codeTc c i arg3 harg3 arg7 harg7 arg8 harg8 arg9 harg9 arg10 harg10 arg11 harg11 arg12 harg12 x1 x5 x6 x7 x8 x9 x10 0 (by decide) inb_S1x2x64x128_S1x1x64x128_0_0_0_0) inb_S3x6x3200x128_S1x1x64x128_0_0_0_0,
    left64 _ 5 0 _ (by decide) (codeT c i arg3 harg3 arg7 harg7 arg8 harg8 arg9 harg9 arg10 harg10 arg11 harg11 arg12 harg12 x1 x5 x6 x7 x8 x9 x10 3 (by decide) inb_S1x4x64x128_S1x1x64x128_0_3_0_0) inb_S3x6x3200x128_S1x1x64x128_2_5_0_0,
    mid64 _ 5 0 _ (codeT c i arg3 harg3 arg7 harg7 arg8 harg8 arg9 harg9 arg10 harg10 arg11 harg11 arg12 harg12 x1 x5 x6 x7 x8 x9 x10 3 (by decide) inb_S1x4x64x128_S1x1x64x128_0_3_0_0) inb_S3x6x3200x128_S1x1x64x128_1_5_0_0,
    right64 _ 5 0 _ (by decide) (codeT c i arg3 harg3 arg7 harg7 arg8 harg8 arg9 harg9 arg10 harg10 arg11 harg11 arg12 harg12 x1 x5 x6 x7 x8 x9 x10 3 (by decide) inb_S1x4x64x128_S1x1x64x128_0_3_0_0) inb_S3x6x3200x128_S1x1x64x128_0_5_0_0,
    left64 _ 4 0 _ (by decide) (codeT c i arg3 harg3 arg7 harg7 arg8 harg8 arg9 harg9 arg10 harg10 arg11 harg11 arg12 harg12 x1 x5 x6 x7 x8 x9 x10 2 (by decide) inb_S1x4x64x128_S1x1x64x128_0_2_0_0) inb_S3x6x3200x128_S1x1x64x128_2_4_0_0,
    mid64 _ 4 0 _ (codeT c i arg3 harg3 arg7 harg7 arg8 harg8 arg9 harg9 arg10 harg10 arg11 harg11 arg12 harg12 x1 x5 x6 x7 x8 x9 x10 2 (by decide) inb_S1x4x64x128_S1x1x64x128_0_2_0_0) inb_S3x6x3200x128_S1x1x64x128_1_4_0_0,
    right64 _ 4 0 _ (by decide) (codeT c i arg3 harg3 arg7 harg7 arg8 harg8 arg9 harg9 arg10 harg10 arg11 harg11 arg12 harg12 x1 x5 x6 x7 x8 x9 x10 2 (by decide) inb_S1x4x64x128_S1x1x64x128_0_2_0_0) inb_S3x6x3200x128_S1x1x64x128_0_4_0_0,
    left64 _ 3 0 _ (by decide) (codeT c i arg3 harg3 arg7 harg7 arg8 harg8 arg9 harg9 arg10 harg10 arg11 harg11 arg12 harg12 x1 x5 x6 x7 x8 x9 x10 1 (by decide) inb_S1x4x64x128_S1x1x64x128_0_1_0_0) inb_S3x6x3200x128_S1x1x64x128_2_3_0_0,
    mid64 _ 3 0 _ (codeT c i arg3 harg3 arg7 harg7 arg8 harg8 arg9 harg9 arg10 harg10 arg11 harg11 arg12 harg12 x1 x5 x6 x7 x8 x9 x10 1 (by decide) inb_S1x4x64x128_S1x1x64x128_0_1_0_0) inb_S3x6x3200x128_S1x1x64x128_1_3_0_0,
    right64 _ 3 0 _ (by decide) (codeT c i arg3 harg3 arg7 harg7 arg8 harg8 arg9 harg9 arg10 harg10 arg11 harg11 arg12 harg12 x1 x5 x6 x7 x8 x9 x10 1 (by decide) inb_S1x4x64x128_S1x1x64x128_0_1_0_0) inb_S3x6x3200x128_S1x1x64x128_0_3_0_0,
    left64 _ 2 0 _ (by decide) (codeT c i arg3 harg3 arg7 harg7 arg8 harg8 arg9 harg9 arg10 harg10 arg11 harg11 arg12 harg12 x1 x5 x6 x7 x8 x9 x10 0 (by decide) inb_S1x4x64x128_S1x1x64x128_0_0_0_0) inb_S3x6x3200x128_S1x1x64x128_2_2_0_0,
    mid64 _ 2 0 _ (codeT c i arg3 harg3 arg7 harg7 arg8 harg8 arg9 harg9 arg10 harg10 arg11 harg11 arg12 harg12 x1 x5 x6 x7 x8 x9 x10 0 (by decide) inb_S1x4x64x128_S1x1x64x128_0_0_0_0) inb_S3x6x3200x128_S1x1x64x128_1_2_0_0,
    right64 _ 2 0 _ (by decide) (codeT c i arg3 harg3 arg7 harg7 arg8 harg8 arg9 harg9 arg10 harg10 arg11 harg11 arg12 harg12 x1 x5 x6 x7 x8 x9 x10 0 (by decide) inb_S1x4x64x128_S1x1x64x128_0_0_0_0) inb_S3x6x3200x128_S1x1x64x128_0_2_0_0,
    trivial⟩

theorem codes_pieces72 : View.PiecesOf (Codes (baseB c i arg3 harg3 x1 x5 x6 x7 x8 x9 x10))
    (kernelRun0_B.sl.HS0_72 (F := Ideal) c i arg3 harg3 arg7 harg7 arg8 harg8 arg10 harg10 arg11 harg11 x1 x5 x6 x8 x9) := by
  unfold kernelRun0_B.sl.HS0_72
  exact ⟨left1024 _ 1 2112 _ (by decide) (codeC c i arg3 harg3 arg7 harg7 arg8 harg8 arg9 harg9 arg10 harg10 arg11 harg11 arg12 harg12 x1 x5 x6 x7 x8 x9 x10 1 2048 (by decide) inb_S1x2x3072x128_S1x1x1024x128_0_1_2048_0) inb_S3x6x3200x128_S1x1x1024x128_2_1_2112_0,
    mid1024 _ 1 2112 _ (codeC c i arg3 harg3 arg7 harg7 arg8 harg8 arg9 harg9 arg10 harg10 arg11 harg11 arg12 harg12 x1 x5 x6 x7 x8 x9 x10 1 2048 (by decide) inb_S1x2x3072x128_S1x1x1024x128_0_1_2048_0) inb_S3x6x3200x128_S1x1x1024x128_1_1_2112_0,
    right1024 _ 1 2112 _ (by decide) (codeC c i arg3 harg3 arg7 harg7 arg8 harg8 arg9 harg9 arg10 harg10 arg11 harg11 arg12 harg12 x1 x5 x6 x7 x8 x9 x10 1 2048 (by decide) inb_S1x2x3072x128_S1x1x1024x128_0_1_2048_0) inb_S3x6x3200x128_S1x1x1024x128_0_1_2112_0,
    left1024 _ 0 2112 _ (by decide) (codeC c i arg3 harg3 arg7 harg7 arg8 harg8 arg9 harg9 arg10 harg10 arg11 harg11 arg12 harg12 x1 x5 x6 x7 x8 x9 x10 0 2048 (by decide) inb_S1x2x3072x128_S1x1x1024x128_0_0_2048_0) inb_S3x6x3200x128_S1x1x1024x128_2_0_2112_0,
    mid1024 _ 0 2112 _ (codeC c i arg3 harg3 arg7 harg7 arg8 harg8 arg9 harg9 arg10 harg10 arg11 harg11 arg12 harg12 x1 x5 x6 x7 x8 x9 x10 0 2048 (by decide) inb_S1x2x3072x128_S1x1x1024x128_0_0_2048_0) inb_S3x6x3200x128_S1x1x1024x128_1_0_2112_0,
    right1024 _ 0 2112 _ (by decide) (codeC c i arg3 harg3 arg7 harg7 arg8 harg8 arg9 harg9 arg10 harg10 arg11 harg11 arg12 harg12 x1 x5 x6 x7 x8 x9 x10 0 2048 (by decide) inb_S1x2x3072x128_S1x1x1024x128_0_0_2048_0) inb_S3x6x3200x128_S1x1x1024x128_0_0_2112_0,
    left1024 _ 5 2112 _ (by decide) (codeX c i arg3 harg3 arg7 harg7 arg8 harg8 arg9 harg9 arg10 harg10 arg11 harg11 arg12 harg12 x1 x5 x6 x7 x8 x9 x10 3 2048 (by decide) inb_S1x4x3072x128_S1x1x1024x128_0_3_2048_0) inb_S3x6x3200x128_S1x1x1024x128_2_5_2112_0,
    mid1024 _ 5 2112 _ (codeX c i arg3 harg3 arg7 harg7 arg8 harg8 arg9 harg9 arg10 harg10 arg11 harg11 arg12 harg12 x1 x5 x6 x7 x8 x9 x10 3 2048 (by decide) inb_S1x4x3072x128_S1x1x1024x128_0_3_2048_0) inb_S3x6x3200x128_S1x1x1024x128_1_5_2112_0,
    right1024 _ 5 2112 _ (by decide) (codeX c i arg3 harg3 arg7 harg7 arg8 harg8 arg9 harg9 arg10 harg10 arg11 harg11 arg12 harg12 x1 x5 x6 x7 x8 x9 x10 3 2048 (by decide) inb_S1x4x3072x128_S1x1x1024x128_0_3_2048_0) inb_S3x6x3200x128_S1x1x1024x128_0_5_2112_0,
    left1024 _ 4 2112 _ (by decide) (codeX c i arg3 harg3 arg7 harg7 arg8 harg8 arg9 harg9 arg10 harg10 arg11 harg11 arg12 harg12 x1 x5 x6 x7 x8 x9 x10 2 2048 (by decide) inb_S1x4x3072x128_S1x1x1024x128_0_2_2048_0) inb_S3x6x3200x128_S1x1x1024x128_2_4_2112_0,
    mid1024 _ 4 2112 _ (codeX c i arg3 harg3 arg7 harg7 arg8 harg8 arg9 harg9 arg10 harg10 arg11 harg11 arg12 harg12 x1 x5 x6 x7 x8 x9 x10 2 2048 (by decide) inb_S1x4x3072x128_S1x1x1024x128_0_2_2048_0) inb_S3x6x3200x128_S1x1x1024x128_1_4_2112_0,
    right1024 _ 4 2112 _ (by decide) (codeX c i arg3 harg3 arg7 harg7 arg8 harg8 arg9 harg9 arg10 harg10 arg11 harg11 arg12 harg12 x1 x5 x6 x7 x8 x9 x10 2 2048 (by decide) inb_S1x4x3072x128_S1x1x1024x128_0_2_2048_0) inb_S3x6x3200x128_S1x1x1024x128_0_4_2112_0,
    left1024 _ 3 2112 _ (by decide) (codeX c i arg3 harg3 arg7 harg7 arg8 harg8 arg9 harg9 arg10 harg10 arg11 harg11 arg12 harg12 x1 x5 x6 x7 x8 x9 x10 1 2048 (by decide) inb_S1x4x3072x128_S1x1x1024x128_0_1_2048_0) inb_S3x6x3200x128_S1x1x1024x128_2_3_2112_0,
    mid1024 _ 3 2112 _ (codeX c i arg3 harg3 arg7 harg7 arg8 harg8 arg9 harg9 arg10 harg10 arg11 harg11 arg12 harg12 x1 x5 x6 x7 x8 x9 x10 1 2048 (by decide) inb_S1x4x3072x128_S1x1x1024x128_0_1_2048_0) inb_S3x6x3200x128_S1x1x1024x128_1_3_2112_0,
    right1024 _ 3 2112 _ (by decide) (codeX c i arg3 harg3 arg7 harg7 arg8 harg8 arg9 harg9 arg10 harg10 arg11 harg11 arg12 harg12 x1 x5 x6 x7 x8 x9 x10 1 2048 (by decide) inb_S1x4x3072x128_S1x1x1024x128_0_1_2048_0) inb_S3x6x3200x128_S1x1x1024x128_0_3_2112_0,
    left1024 _ 2 2112 _ (by decide) (codeX c i arg3 harg3 arg7 harg7 arg8 harg8 arg9 harg9 arg10 harg10 arg11 harg11 arg12 harg12 x1 x5 x6 x7 x8 x9 x10 0 2048 (by decide) inb_S1x4x3072x128_S1x1x1024x128_0_0_2048_0) inb_S3x6x3200x128_S1x1x1024x128_2_2_2112_0,
    mid1024 _ 2 2112 _ (codeX c i arg3 harg3 arg7 harg7 arg8 harg8 arg9 harg9 arg10 harg10 arg11 harg11 arg12 harg12 x1 x5 x6 x7 x8 x9 x10 0 2048 (by decide) inb_S1x4x3072x128_S1x1x1024x128_0_0_2048_0) inb_S3x6x3200x128_S1x1x1024x128_1_2_2112_0,
    right1024 _ 2 2112 _ (by decide) (codeX c i arg3 harg3 arg7 harg7 arg8 harg8 arg9 harg9 arg10 harg10 arg11 harg11 arg12 harg12 x1 x5 x6 x7 x8 x9 x10 0 2048 (by decide) inb_S1x4x3072x128_S1x1x1024x128_0_0_2048_0) inb_S3x6x3200x128_S1x1x1024x128_0_2_2112_0,
    codes_pieces54 c i arg3 harg3 arg7 harg7 arg8 harg8 arg9 harg9 arg10 harg10 arg11 harg11 arg12 harg12 x1 x5 x6 x7 x8 x9 x10⟩

theorem codes_pieces90 : View.PiecesOf (Codes (baseB c i arg3 harg3 x1 x5 x6 x7 x8 x9 x10))
    (kernelRun0_B.sl.HS0_90 (F := Ideal) c i arg3 harg3 arg7 harg7 arg8 harg8 arg9 harg9 arg10 harg10 arg11 harg11 arg12 harg12 x1 x5 x6 x7 x8 x9 x10) := by
  unfold kernelRun0_B.sl.HS0_90
  exact ⟨left64 _ 1 3136 _ (by decide) (codeBc c i arg3 harg3 arg7 harg7 arg8 harg8 arg9 harg9 arg10 harg10 arg11 harg11 arg12 harg12 x1 x5 x6 x7 x8 x9 x10 1 (by decide) inb_S1x2x64x128_S1x1x64x128_0_1_0_0) inb_S3x6x3200x128_S1x1x64x128_2_1_3136_0,
    mid64 _ 1 3136 _ (codeBc c i arg3 harg3 arg7 harg7 arg8 harg8 arg9 harg9 arg10 harg10 arg11 harg11 arg12 harg12 x1 x5 x6 x7 x8 x9 x10 1 (by decide) inb_S1x2x64x128_S1x1x64x128_0_1_0_0) inb_S3x6x3200x128_S1x1x64x128_1_1_3136_0,
    right64 _ 1 3136 _ (by decide) (codeBc c i arg3 harg3 arg7 harg7 arg8 harg8 arg9 harg9 arg10 harg10 arg11 harg11 arg12 harg12 x1 x5 x6 x7 x8 x9 x10 1 (by decide) inb_S1x2x64x128_S1x1x64x128_0_1_0_0) inb_S3x6x3200x128_S1x1x64x128_0_1_3136_0,
    left64 _ 0 3136 _ (by decide) (codeBc c i arg3 harg3 arg7 harg7 arg8 harg8 arg9 harg9 arg10 harg10 arg11 harg11 arg12 harg12 x1 x5 x6 x7 x8 x9 x10 0 (by decide) inb_S1x2x64x128_S1x1x64x128_0_0_0_0) inb_S3x6x3200x128_S1x1x64x128_2_0_3136_0,
    mid64 _ 0 3136 _ (codeBc c i arg3 harg3 arg7 harg7 arg8 harg8 arg9 harg9 arg10 harg10 arg11 harg11 arg12 harg12 x1 x5 x6 x7 x8 x9 x10 0 (by decide) inb_S1x2x64x128_S1x1x64x128_0_0_0_0) inb_S3x6x3200x128_S1x1x64x128_1_0_3136_0,
    right64 _ 0 3136 _ (by decide) (codeBc c i arg3 harg3 arg7 harg7 arg8 harg8 arg9 harg9 arg10 harg10 arg11 harg11 arg12 harg12 x1 x5 x6 x7 x8 x9 x10 0 (by decide) inb_S1x2x64x128_S1x1x64x128_0_0_0_0) inb_S3x6x3200x128_S1x1x64x128_0_0_3136_0,
    left64 _ 5 3136 _ (by decide) (codeB c i arg3 harg3 arg7 harg7 arg8 harg8 arg9 harg9 arg10 harg10 arg11 harg11 arg12 harg12 x1 x5 x6 x7 x8 x9 x10 3 (by decide) inb_S1x4x64x128_S1x1x64x128_0_3_0_0) inb_S3x6x3200x128_S1x1x64x128_2_5_3136_0,
    mid64 _ 5 3136 _ (codeB c i arg3 harg3 arg7 harg7 arg8 harg8 arg9 harg9 arg10 harg10 arg11 harg11 arg12 harg12 x1 x5 x6 x7 x8 x9 x10 3 (by decide) inb_S1x4x64x128_S1x1x64x128_0_3_0_0) inb_S3x6x3200x128_S1x1x64x128_1_5_3136_0,
    right64 _ 5 3136 _ (by decide) (codeB c i arg3 harg3 arg7 harg7 arg8 harg8 arg9 harg9 arg10 harg10 arg11 harg11 arg12 harg12 x1 x5 x6 x7 x8 x9 x10 3 (by decide) inb_S1x4x64x128_S1x1x64x128_0_3_0_0) inb_S3x6x3200x128_S1x1x64x128_0_5_3136_0,
    left64 _ 4 3136 _ (by decide) (codeB c i arg3 harg3 arg7 harg7 arg8 harg8 arg9 harg9 arg10 harg10 arg11 harg11 arg12 harg12 x1 x5 x6 x7 x8 x9 x10 2 (by decide) inb_S1x4x64x128_S1x1x64x128_0_2_0_0) inb_S3x6x3200x128_S1x1x64x128_2_4_3136_0,
    mid64 _ 4 3136 _ (codeB c i arg3 harg3 arg7 harg7 arg8 harg8 arg9 harg9 arg10 harg10 arg11 harg11 arg12 harg12 x1 x5 x6 x7 x8 x9 x10 2 (by decide) inb_S1x4x64x128_S1x1x64x128_0_2_0_0) inb_S3x6x3200x128_S1x1x64x128_1_4_3136_0,
    right64 _ 4 3136 _ (by decide) (codeB c i arg3 harg3 arg7 harg7 arg8 harg8 arg9 harg9 arg10 harg10 arg11 harg11 arg12 harg12 x1 x5 x6 x7 x8 x9 x10 2 (by decide) inb_S1x4x64x128_S1x1x64x128_0_2_0_0) inb_S3x6x3200x128_S1x1x64x128_0_4_3136_0,
    left64 _ 3 3136 _ (by decide) (codeB c i arg3 harg3 arg7 harg7 arg8 harg8 arg9 harg9 arg10 harg10 arg11 harg11 arg12 harg12 x1 x5 x6 x7 x8 x9 x10 1 (by decide) inb_S1x4x64x128_S1x1x64x128_0_1_0_0) inb_S3x6x3200x128_S1x1x64x128_2_3_3136_0,
    mid64 _ 3 3136 _ (codeB c i arg3 harg3 arg7 harg7 arg8 harg8 arg9 harg9 arg10 harg10 arg11 harg11 arg12 harg12 x1 x5 x6 x7 x8 x9 x10 1 (by decide) inb_S1x4x64x128_S1x1x64x128_0_1_0_0) inb_S3x6x3200x128_S1x1x64x128_1_3_3136_0,
    right64 _ 3 3136 _ (by decide) (codeB c i arg3 harg3 arg7 harg7 arg8 harg8 arg9 harg9 arg10 harg10 arg11 harg11 arg12 harg12 x1 x5 x6 x7 x8 x9 x10 1 (by decide) inb_S1x4x64x128_S1x1x64x128_0_1_0_0) inb_S3x6x3200x128_S1x1x64x128_0_3_3136_0,
    left64 _ 2 3136 _ (by decide) (codeB c i arg3 harg3 arg7 harg7 arg8 harg8 arg9 harg9 arg10 harg10 arg11 harg11 arg12 harg12 x1 x5 x6 x7 x8 x9 x10 0 (by decide) inb_S1x4x64x128_S1x1x64x128_0_0_0_0) inb_S3x6x3200x128_S1x1x64x128_2_2_3136_0,
    mid64 _ 2 3136 _ (codeB c i arg3 harg3 arg7 harg7 arg8 harg8 arg9 harg9 arg10 harg10 arg11 harg11 arg12 harg12 x1 x5 x6 x7 x8 x9 x10 0 (by decide) inb_S1x4x64x128_S1x1x64x128_0_0_0_0) inb_S3x6x3200x128_S1x1x64x128_1_2_3136_0,
    right64 _ 2 3136 _ (by decide) (codeB c i arg3 harg3 arg7 harg7 arg8 harg8 arg9 harg9 arg10 harg10 arg11 harg11 arg12 harg12 x1 x5 x6 x7 x8 x9 x10 0 (by decide) inb_S1x4x64x128_S1x1x64x128_0_0_0_0) inb_S3x6x3200x128_S1x1x64x128_0_2_3136_0,
    codes_pieces72 c i arg3 harg3 arg7 harg7 arg8 harg8 arg9 harg9 arg10 harg10 arg11 harg11 arg12 harg12 x1 x5 x6 x7 x8 x9 x10⟩

omit c i arg3 harg3 arg7 harg7 arg8 harg8 arg9 harg9 arg10 harg10 arg11 harg11 arg12 harg12 x1 x5 x6 x7 x8 x9 x10 in
theorem mem4 (z : S3x6x3200x128.Idx) (kw f off n : ℕ) (h0 : (z 0 : ℕ) = kw) (h1 : (z 1 : ℕ) = f) (h2 : off ≤ (z 2 : ℕ)) (h3 : (z 2 : ℕ) < off + n)
    (inb : ∀ a, ![kw, f, off, 0] a + (⟨4, ![1, 1, n, 128]⟩ : Shape).size a ≤ S3x6x3200x128.size a) :
    z ∈ (Rect.unit (s := S3x6x3200x128) ![kw, f, off, 0] (⟨4, ![1, 1, n, 128]⟩ : Shape).size inb).set := by
  refine Rect.mem_set_unit.2 fun a => ?_
  match a with
  | ⟨0, _⟩ => exact ⟨h0.ge, by show (z 0 : ℕ) < kw + 1; omega⟩
  | ⟨1, _⟩ => exact ⟨h1.ge, by show (z 1 : ℕ) < f + 1; omega⟩
  | ⟨2, _⟩ => exact ⟨h2, h3⟩
  | ⟨3, _⟩ => exact ⟨Nat.zero_le _, by have := (z 3).isLt; show (z 3 : ℕ) < 0 + 128; simpa using this⟩

theorem codes_cover54 (z : S3x6x3200x128.Idx) (h : (z 2 : ℕ) < 2112) :
    ∃ p ∈ kernelRun0_B.sl.HS0_54 (F := Ideal) c i arg3 harg3 arg7 harg7 arg8 harg8 arg10 harg10 arg11 harg11 x1 x5 x6 x8 x9, z ∈ p.1.set := by
  have k0 : (z 0 : ℕ) = 0 ∨ (z 0 : ℕ) = 1 ∨ (z 0 : ℕ) = 2 := by have := (z 0).isLt; simp at this; omega
  have k1 : (z 1 : ℕ) = 0 ∨ (z 1 : ℕ) = 1 ∨ (z 1 : ℕ) = 2 ∨ (z 1 : ℕ) = 3 ∨ (z 1 : ℕ) = 4 ∨ (z 1 : ℕ) = 5 := by have := (z 1).isLt; simp at this; omega
  have k2 : (z 2 : ℕ) < 64 ∨ (64 ≤ (z 2 : ℕ) ∧ (z 2 : ℕ) < 1088) ∨ 1088 ≤ (z 2 : ℕ) := by omega
  rcases k0 with h0 | h0 | h0 <;> rcases k1 with h1 | h1 | h1 | h1 | h1 | h1 <;> rcases k2 with h2 | h2 | h2
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))), mem4 z 0 0 0 64 h0 h1 (by omega) (by omega) inb_S3x6x3200x128_S1x1x64x128_0_0_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), mem4 z 0 0 64 1024 h0 h1 (by omega) (by omega) inb_S3x6x3200x128_S1x1x1024x128_0_0_64_0⟩
  · exact ⟨_, (.tail _ (.tail _ (.tail _ (.tail _ (.tail _ (.head _)))))), mem4 z 0 0 1088 1024 h0 h1 (by omega) (by omega) inb_S3x6x3200x128_S1x1x1024x128_0_0_1088_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))), mem4 z 0 1 0 64 h0 h1 (by omega) (by omega) inb_S3x6x3200x128_S1x1x64x128_0_1_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), mem4 z 0 1 64 1024 h0 h1 (by omega) (by omega) inb_S3x6x3200x128_S1x1x1024x128_0_1_64_0⟩
  · exact ⟨_, (.tail _ (.tail _ (.head _))), mem4 z 0 1 1088 1024 h0 h1 (by omega) (by omega) inb_S3x6x3200x128_S1x1x1024x128_0_1_1088_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))))), mem4 z 0 2 0 64 h0 h1 (by omega) (by omega) inb_S3x6x3200x128_S1x1x64x128_0_2_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))), mem4 z 0 2 64 1024 h0 h1 (by omega) (by omega) inb_S3x6x3200x128_S1x1x1024x128_0_2_64_0⟩
  · exact ⟨_, (.tail _ (.tail _ (.tail _ (.tail _ (.tail _ (.tail _ (.tail _ (.tail _ (.tail _ (.tail _ (.tail _ (.tail _ (.tail _ (.tail _ (.tail _ (.tail _ (.tail _ (.head _)))))))))))))))))), mem4 z 0 2 1088 1024 h0 h1 (by omega) (by omega) inb_S3x6x3200x128_S1x1x1024x128_0_2_1088_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))), mem4 z 0 3 0 64 h0 h1 (by omega) (by omega) inb_S3x6x3200x128_S1x1x64x128_0_3_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))), mem4 z 0 3 64 1024 h0 h1 (by omega) (by omega) inb_S3x6x3200x128_S1x1x1024x128_0_3_64_0⟩
  · exact ⟨_, (.tail _ (.tail _ (.tail _ (.tail _ (.tail _ (.tail _ (.tail _ (.tail _ (.tail _ (.tail _ (.tail _ (.tail _ (.tail _ (.tail _ (.head _))))))))))))))), mem4 z 0 3 1088 1024 h0 h1 (by omega) (by omega) inb_S3x6x3200x128_S1x1x1024x128_0_3_1088_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))), mem4 z 0 4 0 64 h0 h1 (by omega) (by omega) inb_S3x6x3200x128_S1x1x64x128_0_4_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), mem4 z 0 4 64 1024 h0 h1 (by omega) (by omega) inb_S3x6x3200x128_S1x1x1024x128_0_4_64_0⟩
  · exact ⟨_, (.tail _ (.tail _ (.tail _ (.tail _ (.tail _ (.tail _ (.tail _ (.tail _ (.tail _ (.tail _ (.tail _ (.head _)))))))))))), mem4 z 0 4 1088 1024 h0 h1 (by omega) (by omega) inb_S3x6x3200x128_S1x1x1024x128_0_4_1088_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))), mem4 z 0 5 0 64 h0 h1 (by omega) (by omega) inb_S3x6x3200x128_S1x1x64x128_0_5_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), mem4 z 0 5 64 1024 h0 h1 (by omega) (by omega) inb_S3x6x3200x128_S1x1x1024x128_0_5_64_0⟩
  · exact ⟨_, (.tail _ (.tail _ (.tail _ (.tail _ (.tail _ (.tail _ (.tail _ (.tail _ (.head _))))))))), mem4 z 0 5 1088 1024 h0 h1 (by omega) (by omega) inb_S3x6x3200x128_S1x1x1024x128_0_5_1088_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))), mem4 z 1 0 0 64 h0 h1 (by omega) (by omega) inb_S3x6x3200x128_S1x1x64x128_1_0_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), mem4 z 1 0 64 1024 h0 h1 (by omega) (by omega) inb_S3x6x3200x128_S1x1x1024x128_1_0_64_0⟩
  · exact ⟨_, (.tail _ (.tail _ (.tail _ (.tail _ (.head _))))), mem4 z 1 0 1088 1024 h0 h1 (by omega) (by omega) inb_S3x6x3200x128_S1x1x1024x128_1_0_1088_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))), mem4 z 1 1 0 64 h0 h1 (by omega) (by omega) inb_S3x6x3200x128_S1x1x64x128_1_1_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), mem4 z 1 1 64 1024 h0 h1 (by omega) (by omega) inb_S3x6x3200x128_S1x1x1024x128_1_1_64_0⟩
  · exact ⟨_, (.tail _ (.head _)), mem4 z 1 1 1088 1024 h0 h1 (by omega) (by omega) inb_S3x6x3200x128_S1x1x1024x128_1_1_1088_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))))))), mem4 z 1 2 0 64 h0 h1 (by omega) (by omega) inb_S3x6x3200x128_S1x1x64x128_1_2_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))), mem4 z 1 2 64 1024 h0 h1 (by omega) (by omega) inb_S3x6x3200x128_S1x1x1024x128_1_2_64_0⟩
  · exact ⟨_, (.tail _ (.tail _ (.tail _ (.tail _ (.tail _ (.tail _ (.tail _ (.tail _ (.tail _ (.tail _ (.tail _ (.tail _ (.tail _ (.tail _ (.tail _ (.tail _ (.head _))))))))))))))))), mem4 z 1 2 1088 1024 h0 h1 (by omega) (by omega) inb_S3x6x3200x128_S1x1x1024x128_1_2_1088_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))), mem4 z 1 3 0 64 h0 h1 (by omega) (by omega) inb_S3x6x3200x128_S1x1x64x128_1_3_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))), mem4 z 1 3 64 1024 h0 h1 (by omega) (by omega) inb_S3x6x3200x128_S1x1x1024x128_1_3_64_0⟩
  · exact ⟨_, (.tail _ (.tail _ (.tail _ (.tail _ (.tail _ (.tail _ (.tail _ (.tail _ (.tail _ (.tail _ (.tail _ (.tail _ (.tail _ (.head _)))))))))))))), mem4 z 1 3 1088 1024 h0 h1 (by omega) (by omega) inb_S3x6x3200x128_S1x1x1024x128_1_3_1088_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))), mem4 z 1 4 0 64 h0 h1 (by omega) (by omega) inb_S3x6x3200x128_S1x1x64x128_1_4_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), mem4 z 1 4 64 1024 h0 h1 (by omega) (by omega) inb_S3x6x3200x128_S1x1x1024x128_1_4_64_0⟩
  · exact ⟨_, (.tail _ (.tail _ (.tail _ (.tail _ (.tail _ (.tail _ (.tail _ (.tail _ (.tail _ (.tail _ (.head _))))))))))), mem4 z 1 4 1088 1024 h0 h1 (by omega) (by omega) inb_S3x6x3200x128_S1x1x1024x128_1_4_1088_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))), mem4 z 1 5 0 64 h0 h1 (by omega) (by omega) inb_S3x6x3200x128_S1x1x64x128_1_5_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), mem4 z 1 5 64 1024 h0 h1 (by omega) (by omega) inb_S3x6x3200x128_S1x1x1024x128_1_5_64_0⟩
  · exact ⟨_, (.tail _ (.tail _ (.tail _ (.tail _ (.tail _ (.tail _ (.tail _ (.head _)))))))), mem4 z 1 5 1088 1024 h0 h1 (by omega) (by omega) inb_S3x6x3200x128_S1x1x1024x128_1_5_1088_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))), mem4 z 2 0 0 64 h0 h1 (by omega) (by omega) inb_S3x6x3200x128_S1x1x64x128_2_0_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), mem4 z 2 0 64 1024 h0 h1 (by omega) (by omega) inb_S3x6x3200x128_S1x1x1024x128_2_0_64_0⟩
  · exact ⟨_, (.tail _ (.tail _ (.tail _ (.head _)))), mem4 z 2 0 1088 1024 h0 h1 (by omega) (by omega) inb_S3x6x3200x128_S1x1x1024x128_2_0_1088_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))), mem4 z 2 1 0 64 h0 h1 (by omega) (by omega) inb_S3x6x3200x128_S1x1x64x128_2_1_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.head _))))))))))))))))))), mem4 z 2 1 64 1024 h0 h1 (by omega) (by omega) inb_S3x6x3200x128_S1x1x1024x128_2_1_64_0⟩
  · exact ⟨_, (.head _), mem4 z 2 1 1088 1024 h0 h1 (by omega) (by omega) inb_S3x6x3200x128_S1x1x1024x128_2_1_1088_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))))))))), mem4 z 2 2 0 64 h0 h1 (by omega) (by omega) inb_S3x6x3200x128_S1x1x64x128_2_2_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))), mem4 z 2 2 64 1024 h0 h1 (by omega) (by omega) inb_S3x6x3200x128_S1x1x1024x128_2_2_64_0⟩
  · exact ⟨_, (.tail _ (.tail _ (.tail _ (.tail _ (.tail _ (.tail _ (.tail _ (.tail _ (.tail _ (.tail _ (.tail _ (.tail _ (.tail _ (.tail _ (.tail _ (.head _)))))))))))))))), mem4 z 2 2 1088 1024 h0 h1 (by omega) (by omega) inb_S3x6x3200x128_S1x1x1024x128_2_2_1088_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))))))))), mem4 z 2 3 0 64 h0 h1 (by omega) (by omega) inb_S3x6x3200x128_S1x1x64x128_2_3_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), mem4 z 2 3 64 1024 h0 h1 (by omega) (by omega) inb_S3x6x3200x128_S1x1x1024x128_2_3_64_0⟩
  · exact ⟨_, (.tail _ (.tail _ (.tail _ (.tail _ (.tail _ (.tail _ (.tail _ (.tail _ (.tail _ (.tail _ (.tail _ (.tail _ (.head _))))))))))))), mem4 z 2 3 1088 1024 h0 h1 (by omega) (by omega) inb_S3x6x3200x128_S1x1x1024x128_2_3_1088_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))))))), mem4 z 2 4 0 64 h0 h1 (by omega) (by omega) inb_S3x6x3200x128_S1x1x64x128_2_4_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), mem4 z 2 4 64 1024 h0 h1 (by omega) (by omega) inb_S3x6x3200x128_S1x1x1024x128_2_4_64_0⟩
  · exact ⟨_, (.tail _ (.tail _ (.tail _ (.tail _ (.tail _ (.tail _ (.tail _ (.tail _ (.tail _ (.head _)))))))))), mem4 z 2 4 1088 1024 h0 h1 (by omega) (by omega) inb_S3x6x3200x128_S1x1x1024x128_2_4_1088_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))))), mem4 z 2 5 0 64 h0 h1 (by omega) (by omega) inb_S3x6x3200x128_S1x1x64x128_2_5_0_0⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), mem4 z 2 5 64 1024 h0 h1 (by omega) (by omega) inb_S3x6x3200x128_S1x1x1024x128_2_5_64_0⟩
  · exact ⟨_, (.tail _ (.tail _ (.tail _ (.tail _ (.tail _ (.tail _ (.head _))))))), mem4 z 2 5 1088 1024 h0 h1 (by omega) (by omega) inb_S3x6x3200x128_S1x1x1024x128_2_5_1088_0⟩

theorem codes_canon54 (z : S3x6x3200x128.Idx) (h : (z 2 : ℕ) < 2112) :
    View.canon (Val := Elt Ideal) (s := S3x6x3200x128) (e := .fp8e4m3) (kernelRun0_B.sl.HS0_54 (F := Ideal) c i arg3 harg3 arg7 harg7 arg8 harg8 arg10 harg10 arg11 harg11 x1 x5 x6 x8 x9) z = Codes (baseB c i arg3 harg3 x1 x5 x6 x7 x8 x9 x10) z :=
  View.canon_apply_of_pieces _ _ (codes_pieces54 c i arg3 harg3 arg7 harg7 arg8 harg8 arg9 harg9 arg10 harg10 arg11 harg11 arg12 harg12 x1 x5 x6 x7 x8 x9 x10).mem z (codes_cover54 c i arg3 harg3 arg7 harg7 arg8 harg8 arg9 harg9 arg10 harg10 arg11 harg11 arg12 harg12 x1 x5 x6 x7 x8 x9 x10 z h)

theorem codes_load54 {kw f o : ℕ} (arg19 : Memref sig .tc .vmem S3x6x3200x128 .fp8e4m3)
    (inb : ∀ a, ![kw, f, o, 0] a + S1x1x1024x128.size a ≤ S3x6x3200x128.size a) (ho : o + 1024 ≤ 2112) (p : Fin 1024) (l : Fin 128) :
    arg19.view.readCov (kernelRun0_B.sl.HS0_54 (F := Ideal) c i arg3 harg3 arg7 harg7 arg8 harg8 arg10 harg10 arg11 harg11 x1 x5 x6 x8 x9) (Rect.unit (s := S3x6x3200x128) ![kw, f, o, 0] S1x1x1024x128.size inb).toLoadRect (ix4 0 0 p l)
      = shifted (baseB c i arg3 harg3 x1 x5 x6 x7 x8 x9 x10) kw f (o + p) l := by
  rw [View.readCov_eq_canon']
  refine (codes_canon54 c i arg3 harg3 arg7 harg7 arg8 harg8 arg9 harg9 arg10 harg10 arg11 harg11 arg12 harg12 x1 x5 x6 x7 x8 x9 x10 _ ?_).trans (Codes_emb _ kw f o p l inb)
  refine lt_of_eq_of_lt (Rect.idx_unit_val (s := S3x6x3200x128) ![kw, f, o, 0] S1x1x1024x128.size inb (ix4 0 0 p l) 2) ?_
  simp; omega

theorem codes_cover72 (z : S3x6x3200x128.Idx) (h : (z 2 : ℕ) < 3136) :
    ∃ p ∈ kernelRun0_B.sl.HS0_72 (F := Ideal) c i arg3 harg3 arg7 harg7 arg8 harg8 arg10 harg10 arg11 harg11 x1 x5 x6 x8 x9, z ∈ p.1.set := by
  by_cases hr : (z 2 : ℕ) < 2112
  · obtain ⟨p, hp, hz⟩ := codes_cover54 c i arg3 harg3 arg7 harg7 arg8 harg8 arg9 harg9 arg10 harg10 arg11 harg11 arg12 harg12 x1 x5 x6 x7 x8 x9 x10 z hr
    exact ⟨p, (.tail _ (.tail _ (.tail _ (.tail _ (.tail _ (.tail _ (.tail _ (.tail _ (.tail _ (.tail _ (.tail _ (.tail _ (.tail _ (.tail _ (.tail _ (.tail _ (.tail _ (.tail _ hp)))))))))))))))))), hz⟩
  have k0 : (z 0 : ℕ) = 0 ∨ (z 0 : ℕ) = 1 ∨ (z 0 : ℕ) = 2 := by have := (z 0).isLt; simp at this; omega
  have k1 : (z 1 : ℕ) = 0 ∨ (z 1 : ℕ) = 1 ∨ (z 1 : ℕ) = 2 ∨ (z 1 : ℕ) = 3 ∨ (z 1 : ℕ) = 4 ∨ (z 1 : ℕ) = 5 := by have := (z 1).isLt; simp at this; omega
  rcases k0 with h0 | h0 | h0 <;> rcases k1 with h1 | h1 | h1 | h1 | h1 | h1
  · exact ⟨_, (.tail _ (.tail _ (.tail _ (.tail _ (.tail _ (.head _)))))), mem4 z 0 0 2112 1024 h0 h1 (by omega) (by omega) inb_S3x6x3200x128_S1x1x1024x128_0_0_2112_0⟩
  · exact ⟨_, (.tail _ (.tail _ (.head _))), mem4 z 0 1 2112 1024 h0 h1 (by omega) (by omega) inb_S3x6x3200x128_S1x1x1024x128_0_1_2112_0⟩
  · exact ⟨_, (.tail _ (.tail _ (.tail _ (.tail _ (.tail _ (.tail _ (.tail _ (.tail _ (.tail _ (.tail _ (.tail _ (.tail _ (.tail _ (.tail _ (.tail _ (.tail _ (.tail _ (.head _)))))))))))))))))), mem4 z 0 2 2112 1024 h0 h1 (by omega) (by omega) inb_S3x6x3200x128_S1x1x1024x128_0_2_2112_0⟩
  · exact ⟨_, (.tail _ (.tail _ (.tail _ (.tail _ (.tail _ (.tail _ (.tail _ (.tail _ (.tail _ (.tail _ (.tail _ (.tail _ (.tail _ (.tail _ (.head _))))))))))))))), mem4 z 0 3 2112 1024 h0 h1 (by omega) (by omega) inb_S3x6x3200x128_S1x1x1024x128_0_3_2112_0⟩
  · exact ⟨_, (.tail _ (.tail _ (.tail _ (.tail _ (.tail _ (.tail _ (.tail _ (.tail _ (.tail _ (.tail _ (.tail _ (.head _)))))))))))), mem4 z 0 4 2112 1024 h0 h1 (by omega) (by omega) inb_S3x6x3200x128_S1x1x1024x128_0_4_2112_0⟩
  · exact ⟨_, (.tail _ (.tail _ (.tail _ (.tail _ (.tail _ (.tail _ (.tail _ (.tail _ (.head _))))))))), mem4 z 0 5 2112 1024 h0 h1 (by omega) (by omega) inb_S3x6x3200x128_S1x1x1024x128_0_5_2112_0⟩
  · exact ⟨_, (.tail _ (.tail _ (.tail _ (.tail _ (.head _))))), mem4 z 1 0 2112 1024 h0 h1 (by omega) (by omega) inb_S3x6x3200x128_S1x1x1024x128_1_0_2112_0⟩
  · exact ⟨_, (.tail _ (.head _)), mem4 z 1 1 2112 1024 h0 h1 (by omega) (by omega) inb_S3x6x3200x128_S1x1x1024x128_1_1_2112_0⟩
  · exact ⟨_, (.tail _ (.tail _ (.tail _ (.tail _ (.tail _ (.tail _ (.tail _ (.tail _ (.tail _ (.tail _ (.tail _ (.tail _ (.tail _ (.tail _ (.tail _ (.tail _ (.head _))))))))))))))))), mem4 z 1 2 2112 1024 h0 h1 (by omega) (by omega) inb_S3x6x3200x128_S1x1x1024x128_1_2_2112_0⟩
  · exact ⟨_, (.tail _ (.tail _ (.tail _ (.tail _ (.tail _ (.tail _ (.tail _ (.tail _ (.tail _ (.tail _ (.tail _ (.tail _ (.tail _ (.head _)))))))))))))), mem4 z 1 3 2112 1024 h0 h1 (by omega) (by omega) inb_S3x6x3200x128_S1x1x1024x128_1_3_2112_0⟩
  · exact ⟨_, (.tail _ (.tail _ (.tail _ (.tail _ (.tail _ (.tail _ (.tail _ (.tail _ (.tail _ (.tail _ (.head _))))))))))), mem4 z 1 4 2112 1024 h0 h1 (by omega) (by omega) inb_S3x6x3200x128_S1x1x1024x128_1_4_2112_0⟩
  · exact ⟨_, (.tail _ (.tail _ (.tail _ (.tail _ (.tail _ (.tail _ (.tail _ (.head _)))))))), mem4 z 1 5 2112 1024 h0 h1 (by omega) (by omega) inb_S3x6x3200x128_S1x1x1024x128_1_5_2112_0⟩
  · exact ⟨_, (.tail _ (.tail _ (.tail _ (.head _)))), mem4 z 2 0 2112 1024 h0 h1 (by omega) (by omega) inb_S3x6x3200x128_S1x1x1024x128_2_0_2112_0⟩
  · exact ⟨_, (.head _), mem4 z 2 1 2112 1024 h0 h1 (by omega) (by omega) inb_S3x6x3200x128_S1x1x1024x128_2_1_2112_0⟩
  · exact ⟨_, (.tail _ (.tail _ (.tail _ (.tail _ (.tail _ (.tail _ (.tail _ (.tail _ (.tail _ (.tail _ (.tail _ (.tail _ (.tail _ (.tail _ (.tail _ (.head _)))))))))))))))), mem4 z 2 2 2112 1024 h0 h1 (by omega) (by omega) inb_S3x6x3200x128_S1x1x1024x128_2_2_2112_0⟩
  · exact ⟨_, (.tail _ (.tail _ (.tail _ (.tail _ (.tail _ (.tail _ (.tail _ (.tail _ (.tail _ (.tail _ (.tail _ (.tail _ (.head _))))))))))))), mem4 z 2 3 2112 1024 h0 h1 (by omega) (by omega) inb_S3x6x3200x128_S1x1x1024x128_2_3_2112_0⟩
  · exact ⟨_, (.tail _ (.tail _ (.tail _ (.tail _ (.tail _ (.tail _ (.tail _ (.tail _ (.tail _ (.head _)))))))))), mem4 z 2 4 2112 1024 h0 h1 (by omega) (by omega) inb_S3x6x3200x128_S1x1x1024x128_2_4_2112_0⟩
  · exact ⟨_, (.tail _ (.tail _ (.tail _ (.tail _ (.tail _ (.tail _ (.head _))))))), mem4 z 2 5 2112 1024 h0 h1 (by omega) (by omega) inb_S3x6x3200x128_S1x1x1024x128_2_5_2112_0⟩

theorem codes_canon72 (z : S3x6x3200x128.Idx) (h : (z 2 : ℕ) < 3136) :
    View.canon (Val := Elt Ideal) (s := S3x6x3200x128) (e := .fp8e4m3) (kernelRun0_B.sl.HS0_72 (F := Ideal) c i arg3 harg3 arg7 harg7 arg8 harg8 arg10 harg10 arg11 harg11 x1 x5 x6 x8 x9) z = Codes (baseB c i arg3 harg3 x1 x5 x6 x7 x8 x9 x10) z :=
  View.canon_apply_of_pieces _ _ (codes_pieces72 c i arg3 harg3 arg7 harg7 arg8 harg8 arg9 harg9 arg10 harg10 arg11 harg11 arg12 harg12 x1 x5 x6 x7 x8 x9 x10).mem z (codes_cover72 c i arg3 harg3 arg7 harg7 arg8 harg8 arg9 harg9 arg10 harg10 arg11 harg11 arg12 harg12 x1 x5 x6 x7 x8 x9 x10 z h)

theorem codes_load72 {kw f o : ℕ} (arg19 : Memref sig .tc .vmem S3x6x3200x128 .fp8e4m3)
    (inb : ∀ a, ![kw, f, o, 0] a + S1x1x1024x128.size a ≤ S3x6x3200x128.size a) (ho : o + 1024 ≤ 3136) (p : Fin 1024) (l : Fin 128) :
    arg19.view.readCov (kernelRun0_B.sl.HS0_72 (F := Ideal) c i arg3 harg3 arg7 harg7 arg8 harg8 arg10 harg10 arg11 harg11 x1 x5 x6 x8 x9) (Rect.unit (s := S3x6x3200x128) ![kw, f, o, 0] S1x1x1024x128.size inb).toLoadRect (ix4 0 0 p l)
      = shifted (baseB c i arg3 harg3 x1 x5 x6 x7 x8 x9 x10) kw f (o + p) l := by
  rw [View.readCov_eq_canon']
  refine (codes_canon72 c i arg3 harg3 arg7 harg7 arg8 harg8 arg9 harg9 arg10 harg10 arg11 harg11 arg12 harg12 x1 x5 x6 x7 x8 x9 x10 _ ?_).trans (Codes_emb _ kw f o p l inb)
  refine lt_of_eq_of_lt (Rect.idx_unit_val (s := S3x6x3200x128) ![kw, f, o, 0] S1x1x1024x128.size inb (ix4 0 0 p l) 2) ?_
  simp; omega

theorem codes_cover90 (z : S3x6x3200x128.Idx) (h : (z 2 : ℕ) < 3200) :
    ∃ p ∈ kernelRun0_B.sl.HS0_90 (F := Ideal) c i arg3 harg3 arg7 harg7 arg8 harg8 arg9 harg9 arg10 harg10 arg11 harg11 arg12 harg12 x1 x5 x6 x7 x8 x9 x10, z ∈ p.1.set := by
  by_cases hr : (z 2 : ℕ) < 3136
  · obtain ⟨p, hp, hz⟩ := codes_cover72 c i arg3 harg3 arg7 harg7 arg8 harg8 arg9 harg9 arg10 harg10 arg11 harg11 arg12 harg12 x1 x5 x6 x7 x8 x9 x10 z hr
    exact ⟨p, (.tail _ (.tail _ (.tail _ (.tail _ (.tail _ (.tail _ (.tail _ (.tail _ (.tail _ (.tail _ (.tail _ (.tail _ (.tail _ (.tail _ (.tail _ (.tail _ (.tail _ (.tail _ hp)))))))))))))))))), hz⟩
  have k0 : (z 0 : ℕ) = 0 ∨ (z 0 : ℕ) = 1 ∨ (z 0 : ℕ) = 2 := by have := (z 0).isLt; simp at this; omega
  have k1 : (z 1 : ℕ) = 0 ∨ (z 1 : ℕ) = 1 ∨ (z 1 : ℕ) = 2 ∨ (z 1 : ℕ) = 3 ∨ (z 1 : ℕ) = 4 ∨ (z 1 : ℕ) = 5 := by have := (z 1).isLt; simp at this; omega
  rcases k0 with h0 | h0 | h0 <;> rcases k1 with h1 | h1 | h1 | h1 | h1 | h1
  · exact ⟨_, (.tail _ (.tail _ (.tail _ (.tail _ (.tail _ (.head _)))))), mem4 z 0 0 3136 64 h0 h1 (by omega) (by omega) inb_S3x6x3200x128_S1x1x64x128_0_0_3136_0⟩
  · exact ⟨_, (.tail _ (.tail _ (.head _))), mem4 z 0 1 3136 64 h0 h1 (by omega) (by omega) inb_S3x6x3200x128_S1x1x64x128_0_1_3136_0⟩
  · exact ⟨_, (.tail _ (.tail _ (.tail _ (.tail _ (.tail _ (.tail _ (.tail _ (.tail _ (.tail _ (.tail _ (.tail _ (.tail _ (.tail _ (.tail _ (.tail _ (.tail _ (.tail _ (.head _)))))))))))))))))), mem4 z 0 2 3136 64 h0 h1 (by omega) (by omega) inb_S3x6x3200x128_S1x1x64x128_0_2_3136_0⟩
  · exact ⟨_, (.tail _ (.tail _ (.tail _ (.tail _ (.tail _ (.tail _ (.tail _ (.tail _ (.tail _ (.tail _ (.tail _ (.tail _ (.tail _ (.tail _ (.head _))))))))))))))), mem4 z 0 3 3136 64 h0 h1 (by omega) (by omega) inb_S3x6x3200x128_S1x1x64x128_0_3_3136_0⟩
  · exact ⟨_, (.tail _ (.tail _ (.tail _ (.tail _ (.tail _ (.tail _ (.tail _ (.tail _ (.tail _ (.tail _ (.tail _ (.head _)))))))))))), mem4 z 0 4 3136 64 h0 h1 (by omega) (by omega) inb_S3x6x3200x128_S1x1x64x128_0_4_3136_0⟩
  · exact ⟨_, (.tail _ (.tail _ (.tail _ (.tail _ (.tail _ (.tail _ (.tail _ (.tail _ (.head _))))))))), mem4 z 0 5 3136 64 h0 h1 (by omega) (by omega) inb_S3x6x3200x128_S1x1x64x128_0_5_3136_0⟩
  · exact ⟨_, (.tail _ (.tail _ (.tail _ (.tail _ (.head _))))), mem4 z 1 0 3136 64 h0 h1 (by omega) (by omega) inb_S3x6x3200x128_S1x1x64x128_1_0_3136_0⟩
  · exact ⟨_, (.tail _ (.head _)), mem4 z 1 1 3136 64 h0 h1 (by omega) (by omega) inb_S3x6x3200x128_S1x1x64x128_1_1_3136_0⟩
  · exact ⟨_, (.tail _ (.tail _ (.tail _ (.tail _ (.tail _ (.tail _ (.tail _ (.tail _ (.tail _ (.tail _ (.tail _ (.tail _ (.tail _ (.tail _ (.tail _ (.tail _ (.head _))))))))))))))))), mem4 z 1 2 3136 64 h0 h1 (by omega) (by omega) inb_S3x6x3200x128_S1x1x64x128_1_2_3136_0⟩
  · exact ⟨_, (.tail _ (.tail _ (.tail _ (.tail _ (.tail _ (.tail _ (.tail _ (.tail _ (.tail _ (.tail _ (.tail _ (.tail _ (.tail _ (.head _)))))))))))))), mem4 z 1 3 3136 64 h0 h1 (by omega) (by omega) inb_S3x6x3200x128_S1x1x64x128_1_3_3136_0⟩
  · exact ⟨_, (.tail _ (.tail _ (.tail _ (.tail _ (.tail _ (.tail _ (.tail _ (.tail _ (.tail _ (.tail _ (.head _))))))))))), mem4 z 1 4 3136 64 h0 h1 (by omega) (by omega) inb_S3x6x3200x128_S1x1x64x128_1_4_3136_0⟩
  · exact ⟨_, (.tail _ (.tail _ (.tail _ (.tail _ (.tail _ (.tail _ (.tail _ (.head _)))))))), mem4 z 1 5 3136 64 h0 h1 (by omega) (by omega) inb_S3x6x3200x128_S1x1x64x128_1_5_3136_0⟩
  · exact ⟨_, (.tail _ (.tail _ (.tail _ (.head _)))), mem4 z 2 0 3136 64 h0 h1 (by omega) (by omega) inb_S3x6x3200x128_S1x1x64x128_2_0_3136_0⟩
  · exact ⟨_, (.head _), mem4 z 2 1 3136 64 h0 h1 (by omega) (by omega) inb_S3x6x3200x128_S1x1x64x128_2_1_3136_0⟩
  · exact ⟨_, (.tail _ (.tail _ (.tail _ (.tail _ (.tail _ (.tail _ (.tail _ (.tail _ (.tail _ (.tail _ (.tail _ (.tail _ (.tail _ (.tail _ (.tail _ (.head _)))))))))))))))), mem4 z 2 2 3136 64 h0 h1 (by omega) (by omega) inb_S3x6x3200x128_S1x1x64x128_2_2_3136_0⟩
  · exact ⟨_, (.tail _ (.tail _ (.tail _ (.tail _ (.tail _ (.tail _ (.tail _ (.tail _ (.tail _ (.tail _ (.tail _ (.tail _ (.head _))))))))))))), mem4 z 2 3 3136 64 h0 h1 (by omega) (by omega) inb_S3x6x3200x128_S1x1x64x128_2_3_3136_0⟩
  · exact ⟨_, (.tail _ (.tail _ (.tail _ (.tail _ (.tail _ (.tail _ (.tail _ (.tail _ (.tail _ (.head _)))))))))), mem4 z 2 4 3136 64 h0 h1 (by omega) (by omega) inb_S3x6x3200x128_S1x1x64x128_2_4_3136_0⟩
  · exact ⟨_, (.tail _ (.tail _ (.tail _ (.tail _ (.tail _ (.tail _ (.head _))))))), mem4 z 2 5 3136 64 h0 h1 (by omega) (by omega) inb_S3x6x3200x128_S1x1x64x128_2_5_3136_0⟩

theorem codes_canon90 (z : S3x6x3200x128.Idx) (h : (z 2 : ℕ) < 3200) :
    View.canon (Val := Elt Ideal) (s := S3x6x3200x128) (e := .fp8e4m3) (kernelRun0_B.sl.HS0_90 (F := Ideal) c i arg3 harg3 arg7 harg7 arg8 harg8 arg9 harg9 arg10 harg10 arg11 harg11 arg12 harg12 x1 x5 x6 x7 x8 x9 x10) z = Codes (baseB c i arg3 harg3 x1 x5 x6 x7 x8 x9 x10) z :=
  View.canon_apply_of_pieces _ _ (codes_pieces90 c i arg3 harg3 arg7 harg7 arg8 harg8 arg9 harg9 arg10 harg10 arg11 harg11 arg12 harg12 x1 x5 x6 x7 x8 x9 x10).mem z (codes_cover90 c i arg3 harg3 arg7 harg7 arg8 harg8 arg9 harg9 arg10 harg10 arg11 harg11 arg12 harg12 x1 x5 x6 x7 x8 x9 x10 z h)

theorem codes_load90 {kw f o : ℕ} (arg19 : Memref sig .tc .vmem S3x6x3200x128 .fp8e4m3)
    (inb : ∀ a, ![kw, f, o, 0] a + S1x1x1024x128.size a ≤ S3x6x3200x128.size a) (ho : o + 1024 ≤ 3200) (p : Fin 1024) (l : Fin 128) :
    arg19.view.readCov (kernelRun0_B.sl.HS0_90 (F := Ideal) c i arg3 harg3 arg7 harg7 arg8 harg8 arg9 harg9 arg10 harg10 arg11 harg11 arg12 harg12 x1 x5 x6 x7 x8 x9 x10) (Rect.unit (s := S3x6x3200x128) ![kw, f, o, 0] S1x1x1024x128.size inb).toLoadRect (ix4 0 0 p l)
      = shifted (baseB c i arg3 harg3 x1 x5 x6 x7 x8 x9 x10) kw f (o + p) l := by
  rw [View.readCov_eq_canon']
  refine (codes_canon90 c i arg3 harg3 arg7 harg7 arg8 harg8 arg9 harg9 arg10 harg10 arg11 harg11 arg12 harg12 x1 x5 x6 x7 x8 x9 x10 _ ?_).trans (Codes_emb _ kw f o p l inb)
  refine lt_of_eq_of_lt (Rect.idx_unit_val (s := S3x6x3200x128) ![kw, f, o, 0] S1x1x1024x128.size inb (ix4 0 0 p l) 2) ?_
  simp; omega
end Conv
-- ==== Proof.Tops.lean ====
/-
  The four gathered channels a grid point of the convolution keeps: what its 12, then 16, then 20 stores into the second
  scratch leave, as one function of the point's input blocks.
-/
module

public import proofs.«01_k».proof.Proof.Codes

@[expose] public section

set_option maxRecDepth 16384

noncomputable section

namespace Conv

open Idealize.ShloMosaic Idealize.ShloMosaic.TcCoe Idealize.SL.Sem
open Cert.KernelIdeal Cert.KernelIdeal.Gen

/-- The machine's floor division. -/
def wdiv (x d : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt d 0#32)) (Scalar.extui (Scalar.cmpi CmpIPredicate.slt d 0#32))))
      (IntOp.cmpi CmpIPredicate.ne (IntOp.remsi ArithUnit.vector x d) 0#32))
    (IntOp.subi (IntOp.divsi ArithUnit.vector x d) 1#32) (IntOp.divsi ArithUnit.vector x d)

/-- The channel a lane gathers. -/
def topOf (v6 : Vec Ideal S1x128 .i32) (l : Fin 128) : Fin 128 :=
  ⟨(Scalar.select (IntOp.cmpi CmpIPredicate.slt (v6 (ix2 0 l)) 0#32) (IntOp.addi (v6 (ix2 0 l)) 128#32) (v6 (ix2 0 l))).toNat % 128, Nat.mod_lt _ (by decide)⟩

theorem lane_kw0 : ∀ l : Fin 128, IntOp.cmpi CmpIPredicate.eq (wmod (wdiv (BitVec.ofNat 32 l) 4#32) 3#32) 0#32 = if (l : ℕ) / 4 % 3 = 0 then 1#1 else 0#1 := by
  decide +kernel

theorem lane_kw1 : ∀ l : Fin 128, IntOp.cmpi CmpIPredicate.eq (wmod (wdiv (BitVec.ofNat 32 l) 4#32) 3#32) 1#32 = if (l : ℕ) / 4 % 3 = 1 then 1#1 else 0#1 := by
  decide +kernel

/-- The gathered channels over their scratch's index: lane `4 t + j` keeps channel `tl (4 t + j)`, moved by the column that
    tap `t` looks at. -/
def Tops (b : ℕ → ℕ → ℕ → EReal) (tl : Fin 128 → Fin 128) (z : S4x3200x128.Idx) : EReal :=
  shifted b ((z 2 : ℕ) / 4 % 3) ((z 0 : ℕ) + 2) (z 1) (tl (z 2))

theorem Tops_emb (b : ℕ → ℕ → ℕ → EReal) (tl : Fin 128 → Fin 128) (f off : ℕ) {n : ℕ} (y2 : Fin n) (y3 : Fin 128)
    (inb : ∀ a, ![f, off, 0] a + (⟨3, ![1, n, 128]⟩ : Shape).size a ≤ S4x3200x128.size a) :
    Tops b tl ((Rect.unit (s := S4x3200x128) ![f, off, 0] (⟨3, ![1, n, 128]⟩ : Shape).size inb).emb (ix3 0 y2 y3))
      = shifted b ((y3 : ℕ) / 4 % 3) (f + 2) (off + y2) (tl y3) := by
  have e : ∀ a, ((Rect.unit (s := S4x3200x128) ![f, off, 0] (⟨3, ![1, n, 128]⟩ : Shape).size inb).emb (ix3 0 y2 y3) a : ℕ)
      = ![f, off, 0] a + ((ix3 0 y2 y3 : (⟨3, ![1, n, 128]⟩ : Shape).Idx) a : ℕ) :=
    fun a => Rect.idx_unit_val _ _ _ _ a
  have e0 := (e 0).trans (Nat.add_zero f)
  have e1 := e 1
  have e2 := (e 2).trans (Nat.zero_add (y3 : ℕ))
  unfold Tops
  rw [show (Rect.unit (s := S4x3200x128) ![f, off, 0] (⟨3, ![1, n, 128]⟩ : Shape).size inb).emb (ix3 0 y2 y3) 2 = y3 from Fin.ext e2, e0, e1]
  rfl

theorem tops64_at (v6 : Vec Ideal S1x128 .i32) (q : FVec Ideal S64x128 .fp8e4m3) (p : Fin 64) (l : Fin 128) :
    k0_pay160 (F := Ideal) (k0_pay150 v6 (k0_pay144 q)) (k0_pay152 v6 (k0_pay144 q)) (select k0_pay153 k0_pay155 (k0_pay154 v6 (k0_pay144 q)))
      kernelRun0_B.sl.v152 (cmpi CmpIPredicate.eq kernelRun0_B.sl.v152 kernelRun0_B.sl.v115) kernelRun0_B.sl.v127 (ix3 0 p l)
      = if (l : ℕ) / 4 % 3 = 0 then (if (p : ℕ) % 64 = 0 then (0 : EReal) else q (ix2 ⟨(p + 64 - 1) % 64, by omega⟩ (topOf v6 l)))
        else if (l : ℕ) / 4 % 3 = 1 then q (ix2 p (topOf v6 l))
        else (if (p : ℕ) % 64 = 63 then (0 : EReal) else q (ix2 ⟨(p + 64 - 63) % 64, by omega⟩ (topOf v6 l))) := by
  pointwise [k0_pay160, k0_pay150, k0_pay144, k0_pay152, k0_pay153, k0_pay155, k0_pay154, k0_pay151, kernelRun0_B.sl.v152, kernelRun0_B.sl.v115, kernelRun0_B.sl.v127, kernelRun0_B.sl.v148, kernelRun0_B.sl.v142, kernelRun0_B.sl.v151, kernelRun0_B.sl.v136, kernelRun0_B.sl.v139, kernelRun0_B.sl.v128, kernelRun0_B.sl.v132, kernelRun0_B.sl.v135, kernelRun0_B.sl.v112, kernelRun0_B.sl.v113, kernelRun0_B.sl.v144, kernelRun0_B.sl.v146, kernelRun0_B.sl.v117, kernelRun0_B.sl.v120]
  show Scalar.select (IntOp.cmpi CmpIPredicate.eq (wmod (wdiv (BitVec.ofNat 32 l) 4#32) 3#32) 0#32)
      (Scalar.select (IntOp.cmpi CmpIPredicate.eq (wmod (BitVec.ofNat 32 p) 64#32) 0#32) ((((0#32 : BitVec 32).toInt : ℝ)) : EReal) (q (ix2 ⟨(p + 64 - 1) % 64, by omega⟩ (topOf v6 l))))
      (Scalar.select (IntOp.cmpi CmpIPredicate.eq (wmod (wdiv (BitVec.ofNat 32 l) 4#32) 3#32) 1#32) (q (ix2 p (topOf v6 l)))
        (Scalar.select (IntOp.cmpi CmpIPredicate.eq (wmod (BitVec.ofNat 32 p) 64#32) 63#32) ((((0#32 : BitVec 32).toInt : ℝ)) : EReal) (q (ix2 ⟨(p + 64 - 63) % 64, by omega⟩ (topOf v6 l))))) = _
  have m1 := first_col (p.castLE (by decide))
  have m2 := last_col (p.castLE (by decide))
  simp only [Fin.val_castLE] at m1 m2
  rw [lane_kw0, lane_kw1, m1, m2]
  simp only [select_ite, zero_int]

theorem tops64 (b : ℕ → ℕ → ℕ → EReal) (f off : ℕ) (v6 : Vec Ideal S1x128 .i32) (q : FVec Ideal S64x128 .fp8e4m3) (ho : off % 64 = 0)
    (hq : ∀ (p : Fin 64) (l : Fin 128), q (ix2 p l) = b (f + 2) (off + p) l) (inb : ∀ a, ![f, off, 0] a + S1x64x128.size a ≤ S4x3200x128.size a)
    (y : S1x64x128.Idx) :
    k0_pay160 (F := Ideal) (k0_pay150 v6 (k0_pay144 q)) (k0_pay152 v6 (k0_pay144 q)) (select k0_pay153 k0_pay155 (k0_pay154 v6 (k0_pay144 q)))
      kernelRun0_B.sl.v152 (cmpi CmpIPredicate.eq kernelRun0_B.sl.v152 kernelRun0_B.sl.v115) kernelRun0_B.sl.v127 y = Tops b (topOf v6) ((Rect.unit (s := S4x3200x128) ![f, off, 0] S1x64x128.size inb).emb y) := by
  idx_vars y
  obtain rfl := Subsingleton.elim y0 0
  refine (tops64_at v6 q y1 y2).trans ?_
  rw [Tops_emb]
  unfold shifted
  by_cases h0 : (y2 : ℕ) / 4 % 3 = 0
  · rw [if_pos h0, if_pos h0]
    by_cases h : (y1 : ℕ) % 64 = 0
    · rw [if_pos h, if_pos (by omega)]
    · rw [if_neg h, if_neg (by omega), hq]
      exact congrArg (fun p => b (f + 2) p (topOf v6 y2)) (by simp; omega)
  · rw [if_neg h0, if_neg h0]
    by_cases h1 : (y2 : ℕ) / 4 % 3 = 1
    · rw [if_pos h1, if_pos h1, hq]
    · rw [if_neg h1, if_neg h1]
      by_cases h : (y1 : ℕ) % 64 = 63
      · rw [if_pos h, if_pos (by omega)]
      · rw [if_neg h, if_neg (by omega), hq]
        exact congrArg (fun p => b (f + 2) p (topOf v6 y2)) (by simp; omega)

theorem tops1024_at (v6 : Vec Ideal S1x128 .i32) (q : FVec Ideal S1024x128 .fp8e4m3) (p : Fin 1024) (l : Fin 128) :
    k0_pay266 (F := Ideal) (k0_pay259 v6 (extf .f32 q bitsLt_fp8e4m3_f32)) (k0_pay263 (k0_pay259 v6 (extf .f32 q bitsLt_fp8e4m3_f32)) 64#32 k0_pay260 k0_pay261)
      (k0_pay264 (k0_pay259 v6 (extf .f32 q bitsLt_fp8e4m3_f32)) 64#32 k0_pay260 k0_pay261) 3#32 k0_pay265 (ix3 0 p l)
      = if (l : ℕ) / 4 % 3 = 0 then (if (p : ℕ) % 64 = 0 then (0 : EReal) else q (ix2 ⟨(p + 1024 - 1) % 1024, by omega⟩ (topOf v6 l)))
        else if (l : ℕ) / 4 % 3 = 1 then q (ix2 p (topOf v6 l))
        else (if (p : ℕ) % 64 = 63 then (0 : EReal) else q (ix2 ⟨(p + 1024 - 1023) % 1024, by omega⟩ (topOf v6 l))) := by
  pointwise [k0_pay266,k0_pay259,k0_pay263,k0_pay264,k0_pay260,k0_pay261,k0_pay262,k0_pay265]
  show Scalar.select (IntOp.cmpi CmpIPredicate.eq (wmod (wdiv (BitVec.ofNat 32 l) 4#32) 3#32) 0#32)
      (Scalar.select (IntOp.cmpi CmpIPredicate.eq (wmod (BitVec.ofNat 32 p) 64#32) 0#32) ((((0#32 : BitVec 32).toInt : ℝ)) : EReal) (q (ix2 ⟨(p + 1024 - 1) % 1024, by omega⟩ (topOf v6 l))))
      (Scalar.select (IntOp.cmpi CmpIPredicate.eq (wmod (wdiv (BitVec.ofNat 32 l) 4#32) 3#32) 1#32) (q (ix2 p (topOf v6 l)))
        (Scalar.select (IntOp.cmpi CmpIPredicate.eq (wmod (BitVec.ofNat 32 p) 64#32) 63#32) ((((0#32 : BitVec 32).toInt : ℝ)) : EReal) (q (ix2 ⟨(p + 1024 - 1023) % 1024, by omega⟩ (topOf v6 l))))) = _
  have m1 := first_col p
  have m2 := last_col p
  rw [lane_kw0, lane_kw1, m1, m2]
  simp only [select_ite, zero_int]

theorem tops1024 (b : ℕ → ℕ → ℕ → EReal) (f off : ℕ) (v6 : Vec Ideal S1x128 .i32) (q : FVec Ideal S1024x128 .fp8e4m3) (ho : off % 64 = 0)
    (hq : ∀ (p : Fin 1024) (l : Fin 128), q (ix2 p l) = b (f + 2) (off + p) l) (inb : ∀ a, ![f, off, 0] a + S1x1024x128.size a ≤ S4x3200x128.size a)
    (y : S1x1024x128.Idx) :
    k0_pay266 (F := Ideal) (k0_pay259 v6 (extf .f32 q bitsLt_fp8e4m3_f32)) (k0_pay263 (k0_pay259 v6 (extf .f32 q bitsLt_fp8e4m3_f32)) 64#32 k0_pay260 k0_pay261)
      (k0_pay264 (k0_pay259 v6 (extf .f32 q bitsLt_fp8e4m3_f32)) 64#32 k0_pay260 k0_pay261) 3#32 k0_pay265 y = Tops b (topOf v6) ((Rect.unit (s := S4x3200x128) ![f, off, 0] S1x1024x128.size inb).emb y) := by
  idx_vars y
  obtain rfl := Subsingleton.elim y0 0
  refine (tops1024_at v6 q y1 y2).trans ?_
  rw [Tops_emb]
  unfold shifted
  by_cases h0 : (y2 : ℕ) / 4 % 3 = 0
  · rw [if_pos h0, if_pos h0]
    by_cases h : (y1 : ℕ) % 64 = 0
    · rw [if_pos h, if_pos (by omega)]
    · rw [if_neg h, if_neg (by omega), hq]
      exact congrArg (fun p => b (f + 2) p (topOf v6 y2)) (by simp; omega)
  · rw [if_neg h0, if_neg h0]
    by_cases h1 : (y2 : ℕ) / 4 % 3 = 1
    · rw [if_pos h1, if_pos h1, hq]
    · rw [if_neg h1, if_neg h1]
      by_cases h : (y1 : ℕ) % 64 = 63
      · rw [if_pos h, if_pos (by omega)]
      · rw [if_neg h, if_neg (by omega), hq]
        exact congrArg (fun p => b (f + 2) p (topOf v6 y2)) (by simp; omega)

variable (c : Dev nD) (i : grid0.Coords)
  (arg3 : Memref sig .tc .smem S1x1 .f32) (harg3 : arg3.IsWhole)
  (arg6 : Memref sig .tc .vmem S1x128 .i32) (harg6 : arg6.IsWhole)
  (arg7 : Memref sig .tc .vmem S1x4x64x128 .bf16) (harg7 : arg7.IsWhole)
  (arg8 : Memref sig .tc .vmem S1x4x3072x128 .bf16) (harg8 : arg8.IsWhole)
  (arg9 : Memref sig .tc .vmem S1x4x64x128 .bf16) (harg9 : arg9.IsWhole)
  (arg10 : Memref sig .tc .vmem S1x2x64x128 .fp8e4m3) (harg10 : arg10.IsWhole)
  (arg11 : Memref sig .tc .vmem S1x2x3072x128 .fp8e4m3) (harg11 : arg11.IsWhole)
  (arg12 : Memref sig .tc .vmem S1x2x64x128 .fp8e4m3) (harg12 : arg12.IsWhole)
  (x1 : Vec Ideal S1x1 .f32) (x4 : Vec Ideal S1x128 .i32)
  (x5 : Vec Ideal S1x4x64x128 .bf16) (x6 : Vec Ideal S1x4x3072x128 .bf16) (x7 : Vec Ideal S1x4x64x128 .bf16)
  (x8 : Vec Ideal S1x2x64x128 .fp8e4m3) (x9 : Vec Ideal S1x2x3072x128 .fp8e4m3) (x10 : Vec Ideal S1x2x64x128 .fp8e4m3)

include c i arg3 harg3 arg6 harg6 arg7 harg7 arg8 harg8 arg9 harg9 arg10 harg10 arg11 harg11 arg12 harg12 x1 x4 x5 x6 x7 x8 x9 x10

/-- The four channels' numbers, one per lane, as the point reads them. -/
abbrev topsV (c : Dev nD) (arg6 : Memref sig .tc .vmem S1x128 .i32) (harg6 : arg6.IsWhole) (x4 : Vec Ideal S1x128 .i32) : Vec Ideal S1x128 .i32 :=
  kernelRun0_B.sl.r_6 (F := Ideal) c arg6 harg6 x4

theorem tops_pieces12 : View.PiecesOf (Tops (baseB c i arg3 harg3 x1 x5 x6 x7 x8 x9 x10) (topOf (topsV c arg6 harg6 x4)))
    (kernelRun0_B.sl.HS1_12 (F := Ideal) c i arg3 harg3 arg6 harg6 arg7 harg7 arg8 harg8 x1 x4 x5 x6) := by
  unfold kernelRun0_B.sl.HS1_12
  exact ⟨tops1024 _ 3 1088 (topsV c arg6 harg6 x4) _ (by decide) (codeX c i arg3 harg3 arg7 harg7 arg8 harg8 arg9 harg9 arg10 harg10 arg11 harg11 arg12 harg12 x1 x5 x6 x7 x8 x9 x10 3 1024 (by decide) inb_S1x4x3072x128_S1x1x1024x128_0_3_1024_0) inb_S4x3200x128_S1x1024x128_3_1088_0,
    tops1024 _ 2 1088 (topsV c arg6 harg6 x4) _ (by decide) (codeX c i arg3 harg3 arg7 harg7 arg8 harg8 arg9 harg9 arg10 harg10 arg11 harg11 arg12 harg12 x1 x5 x6 x7 x8 x9 x10 2 1024 (by decide) inb_S1x4x3072x128_S1x1x1024x128_0_2_1024_0) inb_S4x3200x128_S1x1024x128_2_1088_0,
    tops1024 _ 1 1088 (topsV c arg6 harg6 x4) _ (by decide) (codeX c i arg3 harg3 arg7 harg7 arg8 harg8 arg9 harg9 arg10 harg10 arg11 harg11 arg12 harg12 x1 x5 x6 x7 x8 x9 x10 1 1024 (by decide) inb_S1x4x3072x128_S1x1x1024x128_0_1_1024_0) inb_S4x3200x128_S1x1024x128_1_1088_0,
    tops1024 _ 0 1088 (topsV c arg6 harg6 x4) _ (by decide) (codeX c i arg3 harg3 arg7 harg7 arg8 harg8 arg9 harg9 arg10 harg10 arg11 harg11 arg12 harg12 x1 x5 x6 x7 x8 x9 x10 0 1024 (by decide) inb_S1x4x3072x128_S1x1x1024x128_0_0_1024_0) inb_S4x3200x128_S1x1024x128_0_1088_0,
    tops1024 _ 3 64 (topsV c arg6 harg6 x4) _ (by decide) (codeX c i arg3 harg3 arg7 harg7 arg8 harg8 arg9 harg9 arg10 harg10 arg11 harg11 arg12 harg12 x1 x5 x6 x7 x8 x9 x10 3 0 (by decide) inb_S1x4x3072x128_S1x1x1024x128_0_3_0_0) inb_S4x3200x128_S1x1024x128_3_64_0,
    tops1024 _ 2 64 (topsV c arg6 harg6 x4) _ (by decide) (codeX c i arg3 harg3 arg7 harg7 arg8 harg8 arg9 harg9 arg10 harg10 arg11 harg11 arg12 harg12 x1 x5 x6 x7 x8 x9 x10 2 0 (by decide) inb_S1x4x3072x128_S1x1x1024x128_0_2_0_0) inb_S4x3200x128_S1x1024x128_2_64_0,
    tops1024 _ 1 64 (topsV c arg6 harg6 x4) _ (by decide) (codeX c i arg3 harg3 arg7 harg7 arg8 harg8 arg9 harg9 arg10 harg10 arg11 harg11 arg12 harg12 x1 x5 x6 x7 x8 x9 x10 1 0 (by decide) inb_S1x4x3072x128_S1x1x1024x128_0_1_0_0) inb_S4x3200x128_S1x1024x128_1_64_0,
    tops1024 _ 0 64 (topsV c arg6 harg6 x4) _ (by decide) (codeX c i arg3 harg3 arg7 harg7 arg8 harg8 arg9 harg9 arg10 harg10 arg11 harg11 arg12 harg12 x1 x5 x6 x7 x8 x9 x10 0 0 (by decide) inb_S1x4x3072x128_S1x1x1024x128_0_0_0_0) inb_S4x3200x128_S1x1024x128_0_64_0,
    tops64 _ 3 0 (topsV c arg6 harg6 x4) _ (by decide) (codeT c i arg3 harg3 arg7 harg7 arg8 harg8 arg9 harg9 arg10 harg10 arg11 harg11 arg12 harg12 x1 x5 x6 x7 x8 x9 x10 3 (by decide) inb_S1x4x64x128_S1x1x64x128_0_3_0_0) inb_S4x3200x128_S1x64x128_3_0_0,
    tops64 _ 2 0 (topsV c arg6 harg6 x4) _ (by decide) (codeT c i arg3 harg3 arg7 harg7 arg8 harg8 arg9 harg9 arg10 harg10 arg11 harg11 arg12 harg12 x1 x5 x6 x7 x8 x9 x10 2 (by decide) inb_S1x4x64x128_S1x1x64x128_0_2_0_0) inb_S4x3200x128_S1x64x128_2_0_0,
    tops64 _ 1 0 (topsV c arg6 harg6 x4) _ (by decide) (codeT c i arg3 harg3 arg7 harg7 arg8 harg8 arg9 harg9 arg10 harg10 arg11 harg11 arg12 harg12 x1 x5 x6 x7 x8 x9 x10 1 (by decide) inb_S1x4x64x128_S1x1x64x128_0_1_0_0) inb_S4x3200x128_S1x64x128_1_0_0,
    tops64 _ 0 0 (topsV c arg6 harg6 x4) _ (by decide) (codeT c i arg3 harg3 arg7 harg7 arg8 harg8 arg9 harg9 arg10 harg10 arg11 harg11 arg12 harg12 x1 x5 x6 x7 x8 x9 x10 0 (by decide) inb_S1x4x64x128_S1x1x64x128_0_0_0_0) inb_S4x3200x128_S1x64x128_0_0_0,
    trivial⟩

omit c i arg3 harg3 arg6 harg6 arg7 harg7 arg8 harg8 arg9 harg9 arg10 harg10 arg11 harg11 arg12 harg12 x1 x4 x5 x6 x7 x8 x9 x10 in
theorem mem3 (z : S4x3200x128.Idx) (f off n : ℕ) (h1 : (z 0 : ℕ) = f) (h2 : off ≤ (z 1 : ℕ)) (h3 : (z 1 : ℕ) < off + n)
    (inb : ∀ a, ![f, off, 0] a + (⟨3, ![1, n, 128]⟩ : Shape).size a ≤ S4x3200x128.size a) :
    z ∈ (Rect.unit (s := S4x3200x128) ![f, off, 0] (⟨3, ![1, n, 128]⟩ : Shape).size inb).set := by
  refine Rect.mem_set_unit.2 fun a => ?_
  match a with
  | ⟨0, _⟩ => exact ⟨h1.ge, by show (z 0 : ℕ) < f + 1; omega⟩
  | ⟨1, _⟩ => exact ⟨h2, h3⟩
  | ⟨2, _⟩ => exact ⟨Nat.zero_le _, by have := (z 2).isLt; show (z 2 : ℕ) < 0 + 128; simpa using this⟩

theorem tops_cover12 (z : S4x3200x128.Idx) (h : (z 1 : ℕ) < 2112) :
    ∃ p ∈ kernelRun0_B.sl.HS1_12 (F := Ideal) c i arg3 harg3 arg6 harg6 arg7 harg7 arg8 harg8 x1 x4 x5 x6, z ∈ p.1.set := by
  have k1 : (z 0 : ℕ) = 0 ∨ (z 0 : ℕ) = 1 ∨ (z 0 : ℕ) = 2 ∨ (z 0 : ℕ) = 3 := by have := (z 0).isLt; simp at this; omega
  have k2 : (z 1 : ℕ) < 64 ∨ (64 ≤ (z 1 : ℕ) ∧ (z 1 : ℕ) < 1088) ∨ 1088 ≤ (z 1 : ℕ) := by omega
  rcases k1 with h1 | h1 | h1 | h1 <;> rcases k2 with h2 | h2 | h2
  · exact ⟨_, (.tail _ (.tail _ (.tail _ (.tail _ (.tail _ (.tail _ (.tail _ (.tail _ (.tail _ (.tail _ (.tail _ (.head _)))))))))))), mem3 z 0 0 64 h1 (by omega) (by omega) inb_S4x3200x128_S1x64x128_0_0_0⟩
  · exact ⟨_, (.tail _ (.tail _ (.tail _ (.tail _ (.tail _ (.tail _ (.tail _ (.head _)))))))), mem3 z 0 64 1024 h1 (by omega) (by omega) inb_S4x3200x128_S1x1024x128_0_64_0⟩
  · exact ⟨_, (.tail _ (.tail _ (.tail _ (.head _)))), mem3 z 0 1088 1024 h1 (by omega) (by omega) inb_S4x3200x128_S1x1024x128_0_1088_0⟩
  · exact ⟨_, (.tail _ (.tail _ (.tail _ (.tail _ (.tail _ (.tail _ (.tail _ (.tail _ (.tail _ (.tail _ (.head _))))))))))), mem3 z 1 0 64 h1 (by omega) (by omega) inb_S4x3200x128_S1x64x128_1_0_0⟩
  · exact ⟨_, (.tail _ (.tail _ (.tail _ (.tail _ (.tail _ (.tail _ (.head _))))))), mem3 z 1 64 1024 h1 (by omega) (by omega) inb_S4x3200x128_S1x1024x128_1_64_0⟩
  · exact ⟨_, (.tail _ (.tail _ (.head _))), mem3 z 1 1088 1024 h1 (by omega) (by omega) inb_S4x3200x128_S1x1024x128_1_1088_0⟩
  · exact ⟨_, (.tail _ (.tail _ (.tail _ (.tail _ (.tail _ (.tail _ (.tail _ (.tail _ (.tail _ (.head _)))))))))), mem3 z 2 0 64 h1 (by omega) (by omega) inb_S4x3200x128_S1x64x128_2_0_0⟩
  · exact ⟨_, (.tail _ (.tail _ (.tail _ (.tail _ (.tail _ (.head _)))))), mem3 z 2 64 1024 h1 (by omega) (by omega) inb_S4x3200x128_S1x1024x128_2_64_0⟩
  · exact ⟨_, (.tail _ (.head _)), mem3 z 2 1088 1024 h1 (by omega) (by omega) inb_S4x3200x128_S1x1024x128_2_1088_0⟩
  · exact ⟨_, (.tail _ (.tail _ (.tail _ (.tail _ (.tail _ (.tail _ (.tail _ (.tail _ (.head _))))))))), mem3 z 3 0 64 h1 (by omega) (by omega) inb_S4x3200x128_S1x64x128_3_0_0⟩
  · exact ⟨_, (.tail _ (.tail _ (.tail _ (.tail _ (.head _))))), mem3 z 3 64 1024 h1 (by omega) (by omega) inb_S4x3200x128_S1x1024x128_3_64_0⟩
  · exact ⟨_, (.head _), mem3 z 3 1088 1024 h1 (by omega) (by omega) inb_S4x3200x128_S1x1024x128_3_1088_0⟩

theorem tops_load12 {f o : ℕ} (arg20 : Memref sig .tc .vmem S4x3200x128 .f32)
    (inb : ∀ a, ![f, o, 0] a + S1x1024x128.size a ≤ S4x3200x128.size a) (ho : o + 1024 ≤ 2112) (p : Fin 1024) (l : Fin 128) :
    arg20.view.readCov (kernelRun0_B.sl.HS1_12 (F := Ideal) c i arg3 harg3 arg6 harg6 arg7 harg7 arg8 harg8 x1 x4 x5 x6) (Rect.unit (s := S4x3200x128) ![f, o, 0] S1x1024x128.size inb).toLoadRect (ix3 0 p l)
      = shifted (baseB c i arg3 harg3 x1 x5 x6 x7 x8 x9 x10) ((l : ℕ) / 4 % 3) (f + 2) (o + p) (topOf (topsV c arg6 harg6 x4) l) := by
  rw [View.readCov_eq_canon']
  refine (View.canon_apply_of_pieces _ _ (tops_pieces12 c i arg3 harg3 arg6 harg6 arg7 harg7 arg8 harg8 arg9 harg9 arg10 harg10 arg11 harg11 arg12 harg12 x1 x4 x5 x6 x7 x8 x9 x10).mem _ (tops_cover12 c i arg3 harg3 arg6 harg6 arg7 harg7 arg8 harg8 arg9 harg9 arg10 harg10 arg11 harg11 arg12 harg12 x1 x4 x5 x6 x7 x8 x9 x10 _ ?_)).trans (Tops_emb _ _ f o p l inb)
  refine lt_of_eq_of_lt (Rect.idx_unit_val (s := S4x3200x128) ![f, o, 0] S1x1024x128.size inb (ix3 0 p l) 1) ?_
  simp; omega

theorem tops_pieces16 : View.PiecesOf (Tops (baseB c i arg3 harg3 x1 x5 x6 x7 x8 x9 x10) (topOf (topsV c arg6 harg6 x4)))
    (kernelRun0_B.sl.HS1_16 (F := Ideal) c i arg3 harg3 arg6 harg6 arg7 harg7 arg8 harg8 x1 x4 x5 x6) := by
  unfold kernelRun0_B.sl.HS1_16
  exact ⟨tops1024 _ 3 2112 (topsV c arg6 harg6 x4) _ (by decide) (codeX c i arg3 harg3 arg7 harg7 arg8 harg8 arg9 harg9 arg10 harg10 arg11 harg11 arg12 harg12 x1 x5 x6 x7 x8 x9 x10 3 2048 (by decide) inb_S1x4x3072x128_S1x1x1024x128_0_3_2048_0) inb_S4x3200x128_S1x1024x128_3_2112_0,
    tops1024 _ 2 2112 (topsV c arg6 harg6 x4) _ (by decide) (codeX c i arg3 harg3 arg7 harg7 arg8 harg8 arg9 harg9 arg10 harg10 arg11 harg11 arg12 harg12 x1 x5 x6 x7 x8 x9 x10 2 2048 (by decide) inb_S1x4x3072x128_S1x1x1024x128_0_2_2048_0) inb_S4x3200x128_S1x1024x128_2_2112_0,
    tops1024 _ 1 2112 (topsV c arg6 harg6 x4) _ (by decide) (codeX c i arg3 harg3 arg7 harg7 arg8 harg8 arg9 harg9 arg10 harg10 arg11 harg11 arg12 harg12 x1 x5 x6 x7 x8 x9 x10 1 2048 (by decide) inb_S1x4x3072x128_S1x1x1024x128_0_1_2048_0) inb_S4x3200x128_S1x1024x128_1_2112_0,
    tops1024 _ 0 2112 (topsV c arg6 harg6 x4) _ (by decide) (codeX c i arg3 harg3 arg7 harg7 arg8 harg8 arg9 harg9 arg10 harg10 arg11 harg11 arg12 harg12 x1 x5 x6 x7 x8 x9 x10 0 2048 (by decide) inb_S1x4x3072x128_S1x1x1024x128_0_0_2048_0) inb_S4x3200x128_S1x1024x128_0_2112_0,
    tops_pieces12 c i arg3 harg3 arg6 harg6 arg7 harg7 arg8 harg8 arg9 harg9 arg10 harg10 arg11 harg11 arg12 harg12 x1 x4 x5 x6 x7 x8 x9 x10⟩

theorem tops_cover16 (z : S4x3200x128.Idx) (h : (z 1 : ℕ) < 3136) :
    ∃ p ∈ kernelRun0_B.sl.HS1_16 (F := Ideal) c i arg3 harg3 arg6 harg6 arg7 harg7 arg8 harg8 x1 x4 x5 x6, z ∈ p.1.set := by
  by_cases hr : (z 1 : ℕ) < 2112
  · obtain ⟨p, hp, hz⟩ := tops_cover12 c i arg3 harg3 arg6 harg6 arg7 harg7 arg8 harg8 arg9 harg9 arg10 harg10 arg11 harg11 arg12 harg12 x1 x4 x5 x6 x7 x8 x9 x10 z hr
    exact ⟨p, (.tail _ (.tail _ (.tail _ (.tail _ hp)))), hz⟩
  have k1 : (z 0 : ℕ) = 0 ∨ (z 0 : ℕ) = 1 ∨ (z 0 : ℕ) = 2 ∨ (z 0 : ℕ) = 3 := by have := (z 0).isLt; simp at this; omega
  rcases k1 with h1 | h1 | h1 | h1
  · exact ⟨_, (.tail _ (.tail _ (.tail _ (.head _)))), mem3 z 0 2112 1024 h1 (by omega) (by omega) inb_S4x3200x128_S1x1024x128_0_2112_0⟩
  · exact ⟨_, (.tail _ (.tail _ (.head _))), mem3 z 1 2112 1024 h1 (by omega) (by omega) inb_S4x3200x128_S1x1024x128_1_2112_0⟩
  · exact ⟨_, (.tail _ (.head _)), mem3 z 2 2112 1024 h1 (by omega) (by omega) inb_S4x3200x128_S1x1024x128_2_2112_0⟩
  · exact ⟨_, (.head _), mem3 z 3 2112 1024 h1 (by omega) (by omega) inb_S4x3200x128_S1x1024x128_3_2112_0⟩

theorem tops_load16 {f o : ℕ} (arg20 : Memref sig .tc .vmem S4x3200x128 .f32)
    (inb : ∀ a, ![f, o, 0] a + S1x1024x128.size a ≤ S4x3200x128.size a) (ho : o + 1024 ≤ 3136) (p : Fin 1024) (l : Fin 128) :
    arg20.view.readCov (kernelRun0_B.sl.HS1_16 (F := Ideal) c i arg3 harg3 arg6 harg6 arg7 harg7 arg8 harg8 x1 x4 x5 x6) (Rect.unit (s := S4x3200x128) ![f, o, 0] S1x1024x128.size inb).toLoadRect (ix3 0 p l)
      = shifted (baseB c i arg3 harg3 x1 x5 x6 x7 x8 x9 x10) ((l : ℕ) / 4 % 3) (f + 2) (o + p) (topOf (topsV c arg6 harg6 x4) l) := by
  rw [View.readCov_eq_canon']
  refine (View.canon_apply_of_pieces _ _ (tops_pieces16 c i arg3 harg3 arg6 harg6 arg7 harg7 arg8 harg8 arg9 harg9 arg10 harg10 arg11 harg11 arg12 harg12 x1 x4 x5 x6 x7 x8 x9 x10).mem _ (tops_cover16 c i arg3 harg3 arg6 harg6 arg7 harg7 arg8 harg8 arg9 harg9 arg10 harg10 arg11 harg11 arg12 harg12 x1 x4 x5 x6 x7 x8 x9 x10 _ ?_)).trans (Tops_emb _ _ f o p l inb)
  refine lt_of_eq_of_lt (Rect.idx_unit_val (s := S4x3200x128) ![f, o, 0] S1x1024x128.size inb (ix3 0 p l) 1) ?_
  simp; omega

theorem tops_pieces20 : View.PiecesOf (Tops (baseB c i arg3 harg3 x1 x5 x6 x7 x8 x9 x10) (topOf (topsV c arg6 harg6 x4)))
    (kernelRun0_B.sl.HS1_20 (F := Ideal) c i arg3 harg3 arg6 harg6 arg7 harg7 arg8 harg8 arg9 harg9 x1 x4 x5 x6 x7) := by
  unfold kernelRun0_B.sl.HS1_20
  exact ⟨tops64 _ 3 3136 (topsV c arg6 harg6 x4) _ (by decide) (codeB c i arg3 harg3 arg7 harg7 arg8 harg8 arg9 harg9 arg10 harg10 arg11 harg11 arg12 harg12 x1 x5 x6 x7 x8 x9 x10 3 (by decide) inb_S1x4x64x128_S1x1x64x128_0_3_0_0) inb_S4x3200x128_S1x64x128_3_3136_0,
    tops64 _ 2 3136 (topsV c arg6 harg6 x4) _ (by decide) (codeB c i arg3 harg3 arg7 harg7 arg8 harg8 arg9 harg9 arg10 harg10 arg11 harg11 arg12 harg12 x1 x5 x6 x7 x8 x9 x10 2 (by decide) inb_S1x4x64x128_S1x1x64x128_0_2_0_0) inb_S4x3200x128_S1x64x128_2_3136_0,
    tops64 _ 1 3136 (topsV c arg6 harg6 x4) _ (by decide) (codeB c i arg3 harg3 arg7 harg7 arg8 harg8 arg9 harg9 arg10 harg10 arg11 harg11 arg12 harg12 x1 x5 x6 x7 x8 x9 x10 1 (by decide) inb_S1x4x64x128_S1x1x64x128_0_1_0_0) inb_S4x3200x128_S1x64x128_1_3136_0,
    tops64 _ 0 3136 (topsV c arg6 harg6 x4) _ (by decide) (codeB c i arg3 harg3 arg7 harg7 arg8 harg8 arg9 harg9 arg10 harg10 arg11 harg11 arg12 harg12 x1 x5 x6 x7 x8 x9 x10 0 (by decide) inb_S1x4x64x128_S1x1x64x128_0_0_0_0) inb_S4x3200x128_S1x64x128_0_3136_0,
    tops_pieces16 c i arg3 harg3 arg6 harg6 arg7 harg7 arg8 harg8 arg9 harg9 arg10 harg10 arg11 harg11 arg12 harg12 x1 x4 x5 x6 x7 x8 x9 x10⟩

theorem tops_cover20 (z : S4x3200x128.Idx) (h : (z 1 : ℕ) < 3200) :
    ∃ p ∈ kernelRun0_B.sl.HS1_20 (F := Ideal) c i arg3 harg3 arg6 harg6 arg7 harg7 arg8 harg8 arg9 harg9 x1 x4 x5 x6 x7, z ∈ p.1.set := by
  by_cases hr : (z 1 : ℕ) < 3136
  · obtain ⟨p, hp, hz⟩ := tops_cover16 c i arg3 harg3 arg6 harg6 arg7 harg7 arg8 harg8 arg9 harg9 arg10 harg10 arg11 harg11 arg12 harg12 x1 x4 x5 x6 x7 x8 x9 x10 z hr
    exact ⟨p, (.tail _ (.tail _ (.tail _ (.tail _ hp)))), hz⟩
  have k1 : (z 0 : ℕ) = 0 ∨ (z 0 : ℕ) = 1 ∨ (z 0 : ℕ) = 2 ∨ (z 0 : ℕ) = 3 := by have := (z 0).isLt; simp at this; omega
  rcases k1 with h1 | h1 | h1 | h1
  · exact ⟨_, (.tail _ (.tail _ (.tail _ (.head _)))), mem3 z 0 3136 64 h1 (by omega) (by omega) inb_S4x3200x128_S1x64x128_0_3136_0⟩
  · exact ⟨_, (.tail _ (.tail _ (.head _))), mem3 z 1 3136 64 h1 (by omega) (by omega) inb_S4x3200x128_S1x64x128_1_3136_0⟩
  · exact ⟨_, (.tail _ (.head _)), mem3 z 2 3136 64 h1 (by omega) (by omega) inb_S4x3200x128_S1x64x128_2_3136_0⟩
  · exact ⟨_, (.head _), mem3 z 3 3136 64 h1 (by omega) (by omega) inb_S4x3200x128_S1x64x128_3_3136_0⟩

theorem tops_load20 {f o : ℕ} (arg20 : Memref sig .tc .vmem S4x3200x128 .f32)
    (inb : ∀ a, ![f, o, 0] a + S1x1024x128.size a ≤ S4x3200x128.size a) (ho : o + 1024 ≤ 3200) (p : Fin 1024) (l : Fin 128) :
    arg20.view.readCov (kernelRun0_B.sl.HS1_20 (F := Ideal) c i arg3 harg3 arg6 harg6 arg7 harg7 arg8 harg8 arg9 harg9 x1 x4 x5 x6 x7) (Rect.unit (s := S4x3200x128) ![f, o, 0] S1x1024x128.size inb).toLoadRect (ix3 0 p l)
      = shifted (baseB c i arg3 harg3 x1 x5 x6 x7 x8 x9 x10) ((l : ℕ) / 4 % 3) (f + 2) (o + p) (topOf (topsV c arg6 harg6 x4) l) := by
  rw [View.readCov_eq_canon']
  refine (View.canon_apply_of_pieces _ _ (tops_pieces20 c i arg3 harg3 arg6 harg6 arg7 harg7 arg8 harg8 arg9 harg9 arg10 harg10 arg11 harg11 arg12 harg12 x1 x4 x5 x6 x7 x8 x9 x10).mem _ (tops_cover20 c i arg3 harg3 arg6 harg6 arg7 harg7 arg8 harg8 arg9 harg9 arg10 harg10 arg11 harg11 arg12 harg12 x1 x4 x5 x6 x7 x8 x9 x10 _ ?_)).trans (Tops_emb _ _ f o p l inb)
  refine lt_of_eq_of_lt (Rect.idx_unit_val (s := S4x3200x128) ![f, o, 0] S1x1024x128.size inb (ix3 0 p l) 1) ?_
  simp; omega
end Conv
-- ==== Proof.Weights.lean ====
/-
  The two weight arrays that the first grid point of the convolution builds and keeps: the weights without the four gathered
  channels, and those four channels' weights of all taps side by side.
-/
module

public import proofs.«01_k».proof.Proof.Tops

@[expose] public section

set_option maxRecDepth 16384

noncomputable section

namespace Conv

open Idealize.ShloMosaic Idealize.ShloMosaic.TcCoe Idealize.SL.Sem
open Cert.KernelIdeal Cert.KernelIdeal.Gen

/-- Whether a channel is one of the first four numbers of the vector of channel numbers. -/
def inTop (v6 : Vec Ideal S1x128 .i32) (l : Fin 128) : BitVec 1 :=
  IntOp.ori (IntOp.ori (IntOp.ori
    (IntOp.cmpi CmpIPredicate.eq (BitVec.ofNat 32 l) (v6 (ix2 0 0)))
    (IntOp.cmpi CmpIPredicate.eq (BitVec.ofNat 32 l) (v6 (ix2 0 1))))
    (IntOp.cmpi CmpIPredicate.eq (BitVec.ofNat 32 l) (v6 (ix2 0 2))))
    (IntOp.cmpi CmpIPredicate.eq (BitVec.ofNat 32 l) (v6 (ix2 0 3)))

/-- The weight of tap `t`, result channel `o`, channel `c`; zero when there is no such tap. -/
def wt (w : Vec Ideal S27x256x128 .fp8e4m3) (t : ℕ) (o : Fin 256) (c : Fin 128) : EReal :=
  if h : t < 27 then w (ix3 ⟨t, h⟩ o c) else 0

/-- One tap's block of the weights, as it is loaded. -/
abbrev wblk (c : Dev nD) (arg13 : Memref sig .tc .vmem S27x256x128 .fp8e4m3) (harg13 : arg13.IsWhole)
    (x11 : Vec Ideal S27x256x128 .fp8e4m3) (t : ℕ) (inb : ∀ a, ![t, 0, 0] a + S1x256x128.size a ≤ S27x256x128.size a) :
    Vec Ideal S1x256x128 .fp8e4m3 :=
  View.readAt (Elt Ideal) arg13.view (Rect.unit (s := S27x256x128) ![t, 0, 0] S1x256x128.size inb).toLoadRect (harg13.unread x11)

/-- A tap's block read at an index of its own is the weight. -/
theorem blk3 {n m : ℕ} (w : (⟨3, ![n, 256, m]⟩ : Shape).Idx → EReal) (t : ℕ) (ht : t < n)
    (inb : ∀ a, ![t, 0, 0] a + (⟨3, ![1, 256, m]⟩ : Shape).size a ≤ (⟨3, ![n, 256, m]⟩ : Shape).size a) (o : Fin 256) (l : Fin m) :
    w ((Rect.unit (s := ⟨3, ![n, 256, m]⟩) ![t, 0, 0] (⟨3, ![1, 256, m]⟩ : Shape).size inb).idx (ix3 0 o l)) = w (ix3 ⟨t, ht⟩ o l) := by
  have e : ∀ a, ((Rect.unit (s := ⟨3, ![n, 256, m]⟩) ![t, 0, 0] (⟨3, ![1, 256, m]⟩ : Shape).size inb).idx (ix3 0 o l) a : ℕ)
      = ![t, 0, 0] a + ((ix3 0 o l : (⟨3, ![1, 256, m]⟩ : Shape).Idx) a : ℕ) :=
    fun a => Rect.idx_unit_val _ _ _ _ a
  refine congrArg w (funext fun a => Fin.ext ?_)
  match a with
  | ⟨0, _⟩ => exact (e 0).trans (Nat.add_zero t)
  | ⟨1, _⟩ => exact (e 1).trans (Nat.zero_add (o : ℕ))
  | ⟨2, _⟩ => exact (e 2).trans (Nat.zero_add (l : ℕ))

theorem wblk_at (c : Dev nD) (arg13 : Memref sig .tc .vmem S27x256x128 .fp8e4m3) (harg13 : arg13.IsWhole)
    (x11 : Vec Ideal S27x256x128 .fp8e4m3) (t : ℕ) (inb : ∀ a, ![t, 0, 0] a + S1x256x128.size a ≤ S27x256x128.size a)
    (ht : t < 27) (o : Fin 256) (l : Fin 128) :
    wblk c arg13 harg13 x11 t inb (ix3 0 o l) = wt x11 t o l := by
  unfold wblk wt
  rw [dif_pos ht]
  exact (harg13.readAt_unread _ _ _).trans (blk3 x11 t ht inb o l)

/-- A tap's weights with the four channels set to zero, as the kernel computes them. -/
theorem rest_at (v6 : Vec Ideal S1x128 .i32) (w : Vec Ideal S1x256x128 .fp8e4m3) (o : Fin 256) (l : Fin 128) :
    k0_pay11 (F := Ideal) (k0_pay2 v6) w (ix3 0 o l) = Scalar.select (inTop v6 l) (0 : EReal) (w (ix3 0 o l)) := by
  pointwise [k0_pay11, k0_pay2, k0_pay10]
  rw [← zero_int]
  rfl

/-- Tap number as a lane has it. -/
theorem lane_tap : ∀ (l : Fin 128) (t : Fin 27), IntOp.cmpi CmpIPredicate.eq (wdiv (BitVec.ofNat 32 l) 4#32) (BitVec.ofNat 32 t)
    = if (l : ℕ) / 4 = (t : ℕ) then 1#1 else 0#1 := by
  decide +kernel

theorem lane_ge18 : ∀ l : Fin 128, IntOp.cmpi CmpIPredicate.sge (wdiv (BitVec.ofNat 32 l) 4#32) 18#32
    = if 18 ≤ (l : ℕ) / 4 then 1#1 else 0#1 := by
  decide +kernel

theorem lane_ge9 : ∀ l : Fin 128, IntOp.cmpi CmpIPredicate.sge (wdiv (BitVec.ofNat 32 l) 4#32) 9#32
    = if 9 ≤ (l : ℕ) / 4 then 1#1 else 0#1 := by
  decide +kernel

/-- The lane number. -/
abbrev laneV : IVec S256x128 32 := kernelRun0_A.sl.v5855

/-- The lane's tap, by the machine's floor division. -/
def tapV : IVec S256x128 32 :=
  select (andi (cmpi .ne (subi (extui 32 (cmpi .sgt laneV (broadcast S256x128 0#32)) natLt_1_32) (extui 32 (cmpi .slt laneV (broadcast S256x128 0#32)) natLt_1_32))
      (broadcast S256x128 (Scalar.subi (Scalar.extui (Scalar.cmpi .sgt 4#32 0#32)) (Scalar.extui (Scalar.cmpi .slt 4#32 0#32)))))
    (cmpi .ne (remsi laneV (broadcast S256x128 4#32)) (broadcast S256x128 0#32)))
    (subi (divsi laneV (broadcast S256x128 4#32)) (broadcast S256x128 1#32)) (divsi laneV (broadcast S256x128 4#32))

/-- The channels gathered by lane. -/
def gatherV (v6 : Vec Ideal S1x128 .i32) (q : FVec Ideal S256x128 .f32) : FVec Ideal S256x128 .f32 :=
  dynamicGather 1 q (shapeCast S256x128 (shapeCast S256x128x1
    (select (cmpi .slt (broadcastTo S256x128 (shapeCast S1x128 v6 shapeCasts_S1x128_S1x128) broadcasts_S1x128_S256x128) (broadcast S256x128 0#32))
      (addi (broadcastTo S256x128 (shapeCast S1x128 v6 shapeCasts_S1x128_S1x128) broadcasts_S1x128_S256x128) (broadcast S256x128 128#32))
      (broadcastTo S256x128 (shapeCast S1x128 v6 shapeCasts_S1x128_S1x128) broadcasts_S1x128_S256x128))
    shapeCasts_S256x128_S256x128x1) shapeCasts_S256x128x1_S256x128)

/-- One tap's turn: its lanes take the tap's gathered channels, the others stay. -/
def narrowStep (v6 : Vec Ideal S1x128 .i32) (p : ℕ × Vec Ideal S1x256x128 .fp8e4m3) (n : FVec Ideal S256x128 .f32) : FVec Ideal S256x128 .f32 :=
  select (cmpi .eq tapV (broadcast S256x128 (BitVec.ofNat 32 p.1))) (gatherV v6 (k0_pay4 p.2)) n

/-- The four channels' weights side by side, tap by tap: a fold over the taps met. -/
def narrow (v6 : Vec Ideal S1x128 .i32) : List (ℕ × Vec Ideal S1x256x128 .fp8e4m3) → FVec Ideal S256x128 .f32
  | [] => k0_pay3
  | p :: L => narrowStep v6 p (narrow v6 L)

theorem tapV_at (o : Fin 256) (l : Fin 128) : tapV (ix2 o l) = wdiv (BitVec.ofNat 32 l) 4#32 := by
  pointwise [tapV, laneV, kernelRun0_A.sl.v5855]
  rfl

theorem gatherV_at (v6 : Vec Ideal S1x128 .i32) (w : Vec Ideal S1x256x128 .fp8e4m3) (o : Fin 256) (l : Fin 128) :
    gatherV v6 (k0_pay4 w) (ix2 o l) = w (ix3 0 o (topOf v6 l)) := by
  pointwise [gatherV, k0_pay4]
  rfl

/-- Lane `4 t + j` holds tap `t`'s weight of the lane's channel, if the tap was met, else zero. -/
theorem narrow_at (v6 : Vec Ideal S1x128 .i32) (W : ℕ → Fin 256 → Fin 128 → EReal) (o : Fin 256) (l : Fin 128) :
    ∀ L : List (ℕ × Vec Ideal S1x256x128 .fp8e4m3), (∀ p ∈ L, p.1 < 27) → (∀ p ∈ L, ∀ c, p.2 (ix3 0 o c) = W p.1 o c) →
      narrow v6 L (ix2 o l) = if (l : ℕ) / 4 ∈ L.map (·.1) then W ((l : ℕ) / 4) o (topOf v6 l) else 0
  | [], _, _ => by
    rw [if_neg (by simp)]
    show k0_pay3 (F := Ideal) (ix2 o l) = 0
    pointwise [k0_pay3]
  | p :: L, h, hW => by
    have ih := narrow_at v6 W o l L (fun q hq => h q (List.mem_cons_of_mem _ hq)) (fun q hq => hW q (List.mem_cons_of_mem _ hq))
    have e : narrow v6 (p :: L) (ix2 o l)
        = Scalar.select (IntOp.cmpi CmpIPredicate.eq (tapV (ix2 o l)) (BitVec.ofNat 32 p.1)) (gatherV v6 (k0_pay4 p.2) (ix2 o l)) (narrow v6 L (ix2 o l)) := rfl
    rw [e, tapV_at, gatherV_at, ih, lane_tap l ⟨p.1, h p (List.mem_cons_self ..)⟩, select_ite, hW p (List.mem_cons_self ..)]
    by_cases hp : (l : ℕ) / 4 = p.1
    · rw [if_pos hp, if_pos (by simp [hp]), hp]
    · rw [if_neg hp]
      exact if_congr (by rw [List.map_cons, List.mem_cons]; exact (or_iff_right hp).symm) rfl rfl

variable (c : Dev nD) (arg6 : Memref sig .tc .vmem S1x128 .i32) (harg6 : arg6.IsWhole)
  (arg13 : Memref sig .tc .vmem S27x256x128 .fp8e4m3) (harg13 : arg13.IsWhole)
  (x4 : Vec Ideal S1x128 .i32) (x11 : Vec Ideal S27x256x128 .fp8e4m3)

/-- The taps the narrow weights are folded from. -/
def tapList : List (ℕ × Vec Ideal S1x256x128 .fp8e4m3) :=
  [(26, wblk c arg13 harg13 x11 26 inb_S27x256x128_S1x256x128_26_0_0),
   (25, wblk c arg13 harg13 x11 25 inb_S27x256x128_S1x256x128_25_0_0),
   (24, wblk c arg13 harg13 x11 24 inb_S27x256x128_S1x256x128_24_0_0),
   (23, wblk c arg13 harg13 x11 23 inb_S27x256x128_S1x256x128_23_0_0),
   (21, wblk c arg13 harg13 x11 21 inb_S27x256x128_S1x256x128_21_0_0),
   (20, wblk c arg13 harg13 x11 20 inb_S27x256x128_S1x256x128_20_0_0),
   (19, wblk c arg13 harg13 x11 19 inb_S27x256x128_S1x256x128_19_0_0),
   (18, wblk c arg13 harg13 x11 18 inb_S27x256x128_S1x256x128_18_0_0),
   (17, wblk c arg13 harg13 x11 17 inb_S27x256x128_S1x256x128_17_0_0),
   (16, wblk c arg13 harg13 x11 16 inb_S27x256x128_S1x256x128_16_0_0),
   (15, wblk c arg13 harg13 x11 15 inb_S27x256x128_S1x256x128_15_0_0),
   (14, wblk c arg13 harg13 x11 14 inb_S27x256x128_S1x256x128_14_0_0),
   (13, wblk c arg13 harg13 x11 13 inb_S27x256x128_S1x256x128_13_0_0),
   (12, wblk c arg13 harg13 x11 12 inb_S27x256x128_S1x256x128_12_0_0),
   (11, wblk c arg13 harg13 x11 11 inb_S27x256x128_S1x256x128_11_0_0),
   (10, wblk c arg13 harg13 x11 10 inb_S27x256x128_S1x256x128_10_0_0),
   (9, wblk c arg13 harg13 x11 9 inb_S27x256x128_S1x256x128_9_0_0),
   (8, wblk c arg13 harg13 x11 8 inb_S27x256x128_S1x256x128_8_0_0),
   (7, wblk c arg13 harg13 x11 7 inb_S27x256x128_S1x256x128_7_0_0),
   (6, wblk c arg13 harg13 x11 6 inb_S27x256x128_S1x256x128_6_0_0),
   (5, wblk c arg13 harg13 x11 5 inb_S27x256x128_S1x256x128_5_0_0),
   (4, wblk c arg13 harg13 x11 4 inb_S27x256x128_S1x256x128_4_0_0),
   (3, wblk c arg13 harg13 x11 3 inb_S27x256x128_S1x256x128_3_0_0),
   (2, wblk c arg13 harg13 x11 2 inb_S27x256x128_S1x256x128_2_0_0),
   (1, wblk c arg13 harg13 x11 1 inb_S27x256x128_S1x256x128_1_0_0),
   (0, wblk c arg13 harg13 x11 0 inb_S27x256x128_S1x256x128_0_0_0)]

set_option maxHeartbeats 2000000 in
/-- The kernel's 26 selects are that fold. -/
theorem narrow_word : kernelRun0_A.sl.r_64 (F := Ideal) c arg6 harg6 arg13 harg13 x4 x11
    = narrow (topsV c arg6 harg6 x4) (tapList c arg13 harg13 x11) := by
  have h0 : kernelRun0_A.sl.r_4 (F := Ideal) c arg6 harg6 arg13 harg13 x4 x11 = narrow (topsV c arg6 harg6 x4) ((tapList c arg13 harg13 x11).drop 25) := rfl
  have h1 : kernelRun0_A.sl.r_6 (F := Ideal) c arg6 harg6 arg13 harg13 x4 x11 = narrow (topsV c arg6 harg6 x4) ((tapList c arg13 harg13 x11).drop 24) := congrArg (narrowStep (topsV c arg6 harg6 x4) (1, wblk c arg13 harg13 x11 1 inb_S27x256x128_S1x256x128_1_0_0)) h0
  have h2 : kernelRun0_A.sl.r_8 (F := Ideal) c arg6 harg6 arg13 harg13 x4 x11 = narrow (topsV c arg6 harg6 x4) ((tapList c arg13 harg13 x11).drop 23) := congrArg (narrowStep (topsV c arg6 harg6 x4) (2, wblk c arg13 harg13 x11 2 inb_S27x256x128_S1x256x128_2_0_0)) h1
  have h3 : kernelRun0_A.sl.r_10 (F := Ideal) c arg6 harg6 arg13 harg13 x4 x11 = narrow (topsV c arg6 harg6 x4) ((tapList c arg13 harg13 x11).drop 22) := congrArg (narrowStep (topsV c arg6 harg6 x4) (3, wblk c arg13 harg13 x11 3 inb_S27x256x128_S1x256x128_3_0_0)) h2
  have h4 : kernelRun0_A.sl.r_12 (F := Ideal) c arg6 harg6 arg13 harg13 x4 x11 = narrow (topsV c arg6 harg6 x4) ((tapList c arg13 harg13 x11).drop 21) := congrArg (narrowStep (topsV c arg6 harg6 x4) (4, wblk c arg13 harg13 x11 4 inb_S27x256x128_S1x256x128_4_0_0)) h3
  have h5 : kernelRun0_A.sl.r_15 (F := Ideal) c arg6 harg6 arg13 harg13 x4 x11 = narrow (topsV c arg6 harg6 x4) ((tapList c arg13 harg13 x11).drop 20) := congrArg (narrowStep (topsV c arg6 harg6 x4) (5, wblk c arg13 harg13 x11 5 inb_S27x256x128_S1x256x128_5_0_0)) h4
  have h6 : kernelRun0_A.sl.r_18 (F := Ideal) c arg6 harg6 arg13 harg13 x4 x11 = narrow (topsV c arg6 harg6 x4) ((tapList c arg13 harg13 x11).drop 19) := congrArg (narrowStep (topsV c arg6 harg6 x4) (6, wblk c arg13 harg13 x11 6 inb_S27x256x128_S1x256x128_6_0_0)) h5
  have h7 : kernelRun0_A.sl.r_20 (F := Ideal) c arg6 harg6 arg13 harg13 x4 x11 = narrow (topsV c arg6 harg6 x4) ((tapList c arg13 harg13 x11).drop 18) := congrArg (narrowStep (topsV c arg6 harg6 x4) (7, wblk c arg13 harg13 x11 7 inb_S27x256x128_S1x256x128_7_0_0)) h6
  have h8 : kernelRun0_A.sl.r_23 (F := Ideal) c arg6 harg6 arg13 harg13 x4 x11 = narrow (topsV c arg6 harg6 x4) ((tapList c arg13 harg13 x11).drop 17) := congrArg (narrowStep (topsV c arg6 harg6 x4) (8, wblk c arg13 harg13 x11 8 inb_S27x256x128_S1x256x128_8_0_0)) h7
  have h9 : kernelRun0_A.sl.r_27 (F := Ideal) c arg6 harg6 arg13 harg13 x4 x11 = narrow (topsV c arg6 harg6 x4) ((tapList c arg13 harg13 x11).drop 16) := congrArg (narrowStep (topsV c arg6 harg6 x4) (9, wblk c arg13 harg13 x11 9 inb_S27x256x128_S1x256x128_9_0_0)) h8
  have h10 : kernelRun0_A.sl.r_29 (F := Ideal) c arg6 harg6 arg13 harg13 x4 x11 = narrow (topsV c arg6 harg6 x4) ((tapList c arg13 harg13 x11).drop 15) := congrArg (narrowStep (topsV c arg6 harg6 x4) (10, wblk c arg13 harg13 x11 10 inb_S27x256x128_S1x256x128_10_0_0)) h9
  have h11 : kernelRun0_A.sl.r_31 (F := Ideal) c arg6 harg6 arg13 harg13 x4 x11 = narrow (topsV c arg6 harg6 x4) ((tapList c arg13 harg13 x11).drop 14) := congrArg (narrowStep (topsV c arg6 harg6 x4) (11, wblk c arg13 harg13 x11 11 inb_S27x256x128_S1x256x128_11_0_0)) h10
  have h12 : kernelRun0_A.sl.r_33 (F := Ideal) c arg6 harg6 arg13 harg13 x4 x11 = narrow (topsV c arg6 harg6 x4) ((tapList c arg13 harg13 x11).drop 13) := congrArg (narrowStep (topsV c arg6 harg6 x4) (12, wblk c arg13 harg13 x11 12 inb_S27x256x128_S1x256x128_12_0_0)) h11
  have h13 : kernelRun0_A.sl.r_35 (F := Ideal) c arg6 harg6 arg13 harg13 x4 x11 = narrow (topsV c arg6 harg6 x4) ((tapList c arg13 harg13 x11).drop 12) := congrArg (narrowStep (topsV c arg6 harg6 x4) (13, wblk c arg13 harg13 x11 13 inb_S27x256x128_S1x256x128_13_0_0)) h12
  have h14 : kernelRun0_A.sl.r_37 (F := Ideal) c arg6 harg6 arg13 harg13 x4 x11 = narrow (topsV c arg6 harg6 x4) ((tapList c arg13 harg13 x11).drop 11) := congrArg (narrowStep (topsV c arg6 harg6 x4) (14, wblk c arg13 harg13 x11 14 inb_S27x256x128_S1x256x128_14_0_0)) h13
  have h15 : kernelRun0_A.sl.r_39 (F := Ideal) c arg6 harg6 arg13 harg13 x4 x11 = narrow (topsV c arg6 harg6 x4) ((tapList c arg13 harg13 x11).drop 10) := congrArg (narrowStep (topsV c arg6 harg6 x4) (15, wblk c arg13 harg13 x11 15 inb_S27x256x128_S1x256x128_15_0_0)) h14
  have h16 : kernelRun0_A.sl.r_41 (F := Ideal) c arg6 harg6 arg13 harg13 x4 x11 = narrow (topsV c arg6 harg6 x4) ((tapList c arg13 harg13 x11).drop 9) := congrArg (narrowStep (topsV c arg6 harg6 x4) (16, wblk c arg13 harg13 x11 16 inb_S27x256x128_S1x256x128_16_0_0)) h15
  have h17 : kernelRun0_A.sl.r_44 (F := Ideal) c arg6 harg6 arg13 harg13 x4 x11 = narrow (topsV c arg6 harg6 x4) ((tapList c arg13 harg13 x11).drop 8) := congrArg (narrowStep (topsV c arg6 harg6 x4) (17, wblk c arg13 harg13 x11 17 inb_S27x256x128_S1x256x128_17_0_0)) h16
  have h18 : kernelRun0_A.sl.r_47 (F := Ideal) c arg6 harg6 arg13 harg13 x4 x11 = narrow (topsV c arg6 harg6 x4) ((tapList c arg13 harg13 x11).drop 7) := congrArg (narrowStep (topsV c arg6 harg6 x4) (18, wblk c arg13 harg13 x11 18 inb_S27x256x128_S1x256x128_18_0_0)) h17
  have h19 : kernelRun0_A.sl.r_49 (F := Ideal) c arg6 harg6 arg13 harg13 x4 x11 = narrow (topsV c arg6 harg6 x4) ((tapList c arg13 harg13 x11).drop 6) := congrArg (narrowStep (topsV c arg6 harg6 x4) (19, wblk c arg13 harg13 x11 19 inb_S27x256x128_S1x256x128_19_0_0)) h18
  have h20 : kernelRun0_A.sl.r_52 (F := Ideal) c arg6 harg6 arg13 harg13 x4 x11 = narrow (topsV c arg6 harg6 x4) ((tapList c arg13 harg13 x11).drop 5) := congrArg (narrowStep (topsV c arg6 harg6 x4) (20, wblk c arg13 harg13 x11 20 inb_S27x256x128_S1x256x128_20_0_0)) h19
  have h21 : kernelRun0_A.sl.r_56 (F := Ideal) c arg6 harg6 arg13 harg13 x4 x11 = narrow (topsV c arg6 harg6 x4) ((tapList c arg13 harg13 x11).drop 4) := congrArg (narrowStep (topsV c arg6 harg6 x4) (21, wblk c arg13 harg13 x11 21 inb_S27x256x128_S1x256x128_21_0_0)) h20
  have h22 : kernelRun0_A.sl.r_58 (F := Ideal) c arg6 harg6 arg13 harg13 x4 x11 = narrow (topsV c arg6 harg6 x4) ((tapList c arg13 harg13 x11).drop 3) := congrArg (narrowStep (topsV c arg6 harg6 x4) (23, wblk c arg13 harg13 x11 23 inb_S27x256x128_S1x256x128_23_0_0)) h21
  have h23 : kernelRun0_A.sl.r_60 (F := Ideal) c arg6 harg6 arg13 harg13 x4 x11 = narrow (topsV c arg6 harg6 x4) ((tapList c arg13 harg13 x11).drop 2) := congrArg (narrowStep (topsV c arg6 harg6 x4) (24, wblk c arg13 harg13 x11 24 inb_S27x256x128_S1x256x128_24_0_0)) h22
  have h24 : kernelRun0_A.sl.r_62 (F := Ideal) c arg6 harg6 arg13 harg13 x4 x11 = narrow (topsV c arg6 harg6 x4) ((tapList c arg13 harg13 x11).drop 1) := congrArg (narrowStep (topsV c arg6 harg6 x4) (25, wblk c arg13 harg13 x11 25 inb_S27x256x128_S1x256x128_25_0_0)) h23
  have h25 : kernelRun0_A.sl.r_64 (F := Ideal) c arg6 harg6 arg13 harg13 x4 x11 = narrow (topsV c arg6 harg6 x4) ((tapList c arg13 harg13 x11).drop 0) := congrArg (narrowStep (topsV c arg6 harg6 x4) (26, wblk c arg13 harg13 x11 26 inb_S27x256x128_S1x256x128_26_0_0)) h24
  exact h25

theorem tapList_map : (tapList c arg13 harg13 x11).map (·.1) = [26, 25, 24, 23, 21, 20, 19, 18, 17, 16, 15, 14, 13, 12, 11, 10, 9, 8, 7, 6, 5, 4, 3, 2, 1, 0] := rfl

theorem narrow_word_at (o : Fin 256) (l : Fin 128) : kernelRun0_A.sl.r_64 (F := Ideal) c arg6 harg6 arg13 harg13 x4 x11 (ix2 o l)
    = if (l : ℕ) / 4 < 27 ∧ (l : ℕ) / 4 ≠ 22 then wt x11 ((l : ℕ) / 4) o (topOf (topsV c arg6 harg6 x4) l) else 0 := by
  rw [narrow_word, narrow_at _ (wt x11) o l]
  · rw [tapList_map]
    refine if_congr ?_ rfl rfl
    simp only [List.mem_cons, List.not_mem_nil, or_false]
    omega
  · intro p hp
    have : p.1 ∈ (tapList c arg13 harg13 x11).map (·.1) := List.mem_map_of_mem hp
    rw [tapList_map] at this
    simp only [List.mem_cons, List.not_mem_nil, or_false] at this
    omega
  · intro p hp cc
    simp only [tapList, List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl <;> exact wblk_at c arg13 harg13 x11 _ _ (by decide) o cc

/-- The weights without the four channels. -/
def Rest (v6 : Vec Ideal S1x128 .i32) (w : Vec Ideal S27x256x128 .fp8e4m3) (z : S27x256x128.Idx) : EReal :=
  Scalar.select (inTop v6 (z 2)) (0 : EReal) (w z)

/-- The first tap that plane `k` of the wide weights keeps. -/
def firstTap (k : ℕ) : ℕ := if k = 0 then 18 else if k = 1 then 0 else 9

/-- The wide weights: in the first 128 lanes the four channels' weights of every tap from the plane's first on, but tap 22;
    in the other 128 tap 22 whole. -/
def Wide (v6 : Vec Ideal S1x128 .i32) (w : Vec Ideal S27x256x128 .fp8e4m3) (z : S3x256x256.Idx) : EReal :=
  if h : (z 2 : ℕ) < 128 then
    (if firstTap (z 0) ≤ (z 2 : ℕ) / 4 ∧ (z 2 : ℕ) / 4 < 27 ∧ (z 2 : ℕ) / 4 ≠ 22
      then wt w ((z 2 : ℕ) / 4) (z 1) (topOf v6 ⟨z 2, h⟩) else 0)
  else w (ix3 22 (z 1) ⟨(z 2 : ℕ) - 128, by have := (z 2).isLt; simp at this; omega⟩)

theorem emb3 {n m k j : ℕ} (t off : ℕ) (inb : ∀ a, ![t, 0, off] a + (⟨3, ![1, m, j]⟩ : Shape).size a ≤ (⟨3, ![n, m, k]⟩ : Shape).size a)
    (o : Fin m) (l : Fin j) (a : Fin 3) :
    ((Rect.unit (s := ⟨3, ![n, m, k]⟩) ![t, 0, off] (⟨3, ![1, m, j]⟩ : Shape).size inb).emb (ix3 0 o l) a : ℕ) = ![t, (o : ℕ), off + l] a := by
  have e : ∀ a, ((Rect.unit (s := ⟨3, ![n, m, k]⟩) ![t, 0, off] (⟨3, ![1, m, j]⟩ : Shape).size inb).emb (ix3 0 o l) a : ℕ)
      = ![t, 0, off] a + ((ix3 0 o l : (⟨3, ![1, m, j]⟩ : Shape).Idx) a : ℕ) :=
    fun a => Rect.idx_unit_val _ _ _ _ a
  match a with
  | ⟨0, _⟩ => exact (e 0).trans (Nat.add_zero t)
  | ⟨1, _⟩ => exact (e 1).trans (Nat.zero_add (o : ℕ))
  | ⟨2, _⟩ => exact e 2

theorem rest_piece (t : ℕ) (ht : t < 27) (inb : ∀ a, ![t, 0, 0] a + S1x256x128.size a ≤ S27x256x128.size a) (v6 : Vec Ideal S1x128 .i32)
    (y : S1x256x128.Idx) :
    k0_pay11 (F := Ideal) (k0_pay2 v6) (wblk c arg13 harg13 x11 t inb) y
      = Rest v6 x11 ((Rect.unit (s := S27x256x128) ![t, 0, 0] S1x256x128.size inb).emb y) := by
  idx_vars y
  obtain rfl := Subsingleton.elim y0 0
  rw [rest_at, wblk_at _ _ _ _ _ _ ht]
  have e := emb3 (n := 27) (k := 128) t 0 inb y1 y2
  have e2 : (Rect.unit (s := S27x256x128) ![t, 0, 0] S1x256x128.size inb).emb (ix3 0 y1 y2) = ix3 ⟨t, ht⟩ y1 y2 := by
    funext a
    refine Fin.ext ((e a).trans ?_)
    match a with
    | ⟨0, _⟩ => rfl
    | ⟨1, _⟩ => rfl
    | ⟨2, _⟩ => exact Nat.zero_add _
  unfold Rest wt
  rw [e2, dif_pos ht]
  rfl

theorem rest_pieces : View.PiecesOf (Rest (topsV c arg6 harg6 x4) x11) (kernelRun0_A.sl.HS2_27 (F := Ideal) c arg6 harg6 arg13 harg13 x4 x11) := by
  unfold kernelRun0_A.sl.HS2_27
  exact ⟨rest_piece c arg13 harg13 x11 26 (by decide) inb_S27x256x128_S1x256x128_26_0_0 (topsV c arg6 harg6 x4),
    rest_piece c arg13 harg13 x11 25 (by decide) inb_S27x256x128_S1x256x128_25_0_0 (topsV c arg6 harg6 x4),
    rest_piece c arg13 harg13 x11 24 (by decide) inb_S27x256x128_S1x256x128_24_0_0 (topsV c arg6 harg6 x4),
    rest_piece c arg13 harg13 x11 23 (by decide) inb_S27x256x128_S1x256x128_23_0_0 (topsV c arg6 harg6 x4),
    rest_piece c arg13 harg13 x11 22 (by decide) inb_S27x256x128_S1x256x128_22_0_0 (topsV c arg6 harg6 x4),
    rest_piece c arg13 harg13 x11 21 (by decide) inb_S27x256x128_S1x256x128_21_0_0 (topsV c arg6 harg6 x4),
    rest_piece c arg13 harg13 x11 20 (by decide) inb_S27x256x128_S1x256x128_20_0_0 (topsV c arg6 harg6 x4),
    rest_piece c arg13 harg13 x11 19 (by decide) inb_S27x256x128_S1x256x128_19_0_0 (topsV c arg6 harg6 x4),
    rest_piece c arg13 harg13 x11 18 (by decide) inb_S27x256x128_S1x256x128_18_0_0 (topsV c arg6 harg6 x4),
    rest_piece c arg13 harg13 x11 17 (by decide) inb_S27x256x128_S1x256x128_17_0_0 (topsV c arg6 harg6 x4),
    rest_piece c arg13 harg13 x11 16 (by decide) inb_S27x256x128_S1x256x128_16_0_0 (topsV c arg6 harg6 x4),
    rest_piece c arg13 harg13 x11 15 (by decide) inb_S27x256x128_S1x256x128_15_0_0 (topsV c arg6 harg6 x4),
    rest_piece c arg13 harg13 x11 14 (by decide) inb_S27x256x128_S1x256x128_14_0_0 (topsV c arg6 harg6 x4),
    rest_piece c arg13 harg13 x11 13 (by decide) inb_S27x256x128_S1x256x128_13_0_0 (topsV c arg6 harg6 x4),
    rest_piece c arg13 harg13 x11 12 (by decide) inb_S27x256x128_S1x256x128_12_0_0 (topsV c arg6 harg6 x4),
    rest_piece c arg13 harg13 x11 11 (by decide) inb_S27x256x128_S1x256x128_11_0_0 (topsV c arg6 harg6 x4),
    rest_piece c arg13 harg13 x11 10 (by decide) inb_S27x256x128_S1x256x128_10_0_0 (topsV c arg6 harg6 x4),
    rest_piece c arg13 harg13 x11 9 (by decide) inb_S27x256x128_S1x256x128_9_0_0 (topsV c arg6 harg6 x4),
    rest_piece c arg13 harg13 x11 8 (by decide) inb_S27x256x128_S1x256x128_8_0_0 (topsV c arg6 harg6 x4),
    rest_piece c arg13 harg13 x11 7 (by decide) inb_S27x256x128_S1x256x128_7_0_0 (topsV c arg6 harg6 x4),
    rest_piece c arg13 harg13 x11 6 (by decide) inb_S27x256x128_S1x256x128_6_0_0 (topsV c arg6 harg6 x4),
    rest_piece c arg13 harg13 x11 5 (by decide) inb_S27x256x128_S1x256x128_5_0_0 (topsV c arg6 harg6 x4),
    rest_piece c arg13 harg13 x11 4 (by decide) inb_S27x256x128_S1x256x128_4_0_0 (topsV c arg6 harg6 x4),
    rest_piece c arg13 harg13 x11 3 (by decide) inb_S27x256x128_S1x256x128_3_0_0 (topsV c arg6 harg6 x4),
    rest_piece c arg13 harg13 x11 2 (by decide) inb_S27x256x128_S1x256x128_2_0_0 (topsV c arg6 harg6 x4),
    rest_piece c arg13 harg13 x11 1 (by decide) inb_S27x256x128_S1x256x128_1_0_0 (topsV c arg6 harg6 x4),
    rest_piece c arg13 harg13 x11 0 (by decide) inb_S27x256x128_S1x256x128_0_0_0 (topsV c arg6 harg6 x4),
    trivial⟩

theorem rest_cover (z : S27x256x128.Idx) : ∃ p ∈ kernelRun0_A.sl.HS2_27 (F := Ideal) c arg6 harg6 arg13 harg13 x4 x11, z ∈ p.1.set := by
  have mem : ∀ (t : ℕ) (inb : ∀ a, ![t, 0, 0] a + S1x256x128.size a ≤ S27x256x128.size a), (z 0 : ℕ) = t →
      z ∈ (Rect.unit (s := S27x256x128) ![t, 0, 0] S1x256x128.size inb).set := fun t inb h => by
    refine Rect.mem_set_unit.2 fun a => ?_
    match a with
    | ⟨0, _⟩ => exact ⟨h.ge, by show (z 0 : ℕ) < t + 1; omega⟩
    | ⟨1, _⟩ => exact ⟨Nat.zero_le _, by have := (z 1).isLt; show (z 1 : ℕ) < 0 + 256; simpa using this⟩
    | ⟨2, _⟩ => exact ⟨Nat.zero_le _, by have := (z 2).isLt; show (z 2 : ℕ) < 0 + 128; simpa using this⟩
  have hz : (z 0 : ℕ) < 27 := (z 0).isLt
  generalize hk : (z 0 : ℕ) = k at hz
  interval_cases k
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), mem 0 inb_S27x256x128_S1x256x128_0_0_0 hk⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), mem 1 inb_S27x256x128_S1x256x128_1_0_0 hk⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), mem 2 inb_S27x256x128_S1x256x128_2_0_0 hk⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), mem 3 inb_S27x256x128_S1x256x128_3_0_0 hk⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), mem 4 inb_S27x256x128_S1x256x128_4_0_0 hk⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), mem 5 inb_S27x256x128_S1x256x128_5_0_0 hk⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), mem 6 inb_S27x256x128_S1x256x128_6_0_0 hk⟩
  · exact ⟨_, (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), mem 7 inb_S27x256x128_S1x256x128_7_0_0 hk⟩
  · exact ⟨_, (.tail _ (.tail _ (.tail _ (.tail _ (.tail _ (.tail _ (.tail _ (.tail _ (.tail _ (.tail _ (.tail _ (.tail _ (.tail _ (.tail _ (.tail _ (.tail _ (.tail _ (.tail _ (.head _))))))))))))))))))), mem 8 inb_S27x256x128_S1x256x128_8_0_0 hk⟩
  · exact ⟨_, (.tail _ (.tail _ (.tail _ (.tail _ (.tail _ (.tail _ (.tail _ (.tail _ (.tail _ (.tail _ (.tail _ (.tail _ (.tail _ (.tail _ (.tail _ (.tail _ (.tail _ (.head _)))))))))))))))))), mem 9 inb_S27x256x128_S1x256x128_9_0_0 hk⟩
  · exact ⟨_, (.tail _ (.tail _ (.tail _ (.tail _ (.tail _ (.tail _ (.tail _ (.tail _ (.tail _ (.tail _ (.tail _ (.tail _ (.tail _ (.tail _ (.tail _ (.tail _ (.head _))))))))))))))))), mem 10 inb_S27x256x128_S1x256x128_10_0_0 hk⟩
  · exact ⟨_, (.tail _ (.tail _ (.tail _ (.tail _ (.tail _ (.tail _ (.tail _ (.tail _ (.tail _ (.tail _ (.tail _ (.tail _ (.tail _ (.tail _ (.tail _ (.head _)))))))))))))))), mem 11 inb_S27x256x128_S1x256x128_11_0_0 hk⟩
  · exact ⟨_, (.tail _ (.tail _ (.tail _ (.tail _ (.tail _ (.tail _ (.tail _ (.tail _ (.tail _ (.tail _ (.tail _ (.tail _ (.tail _ (.tail _ (.head _))))))))))))))), mem 12 inb_S27x256x128_S1x256x128_12_0_0 hk⟩
  · exact ⟨_, (.tail _ (.tail _ (.tail _ (.tail _ (.tail _ (.tail _ (.tail _ (.tail _ (.tail _ (.tail _ (.tail _ (.tail _ (.tail _ (.head _)))))))))))))), mem 13 inb_S27x256x128_S1x256x128_13_0_0 hk⟩
  · exact ⟨_, (.tail _ (.tail _ (.tail _ (.tail _ (.tail _ (.tail _ (.tail _ (.tail _ (.tail _ (.tail _ (.tail _ (.tail _ (.head _))))))))))))), mem 14 inb_S27x256x128_S1x256x128_14_0_0 hk⟩
  · exact ⟨_, (.tail _ (.tail _ (.tail _ (.tail _ (.tail _ (.tail _ (.tail _ (.tail _ (.tail _ (.tail _ (.tail _ (.head _)))))))))))), mem 15 inb_S27x256x128_S1x256x128_15_0_0 hk⟩
  · exact ⟨_, (.tail _ (.tail _ (.tail _ (.tail _ (.tail _ (.tail _ (.tail _ (.tail _ (.tail _ (.tail _ (.head _))))))))))), mem 16 inb_S27x256x128_S1x256x128_16_0_0 hk⟩
  · exact ⟨_, (.tail _ (.tail _ (.tail _ (.tail _ (.tail _ (.tail _ (.tail _ (.tail _ (.tail _ (.head _)))))))))), mem 17 inb_S27x256x128_S1x256x128_17_0_0 hk⟩
  · exact ⟨_, (.tail _ (.tail _ (.tail _ (.tail _ (.tail _ (.tail _ (.tail _ (.tail _ (.head _))))))))), mem 18 inb_S27x256x128_S1x256x128_18_0_0 hk⟩
  · exact ⟨_, (.tail _ (.tail _ (.tail _ (.tail _ (.tail _ (.tail _ (.tail _ (.head _)))))))), mem 19 inb_S27x256x128_S1x256x128_19_0_0 hk⟩
  · exact ⟨_, (.tail _ (.tail _ (.tail _ (.tail _ (.tail _ (.tail _ (.head _))))))), mem 20 inb_S27x256x128_S1x256x128_20_0_0 hk⟩
  · exact ⟨_, (.tail _ (.tail _ (.tail _ (.tail _ (.tail _ (.head _)))))), mem 21 inb_S27x256x128_S1x256x128_21_0_0 hk⟩
  · exact ⟨_, (.tail _ (.tail _ (.tail _ (.tail _ (.head _))))), mem 22 inb_S27x256x128_S1x256x128_22_0_0 hk⟩
  · exact ⟨_, (.tail _ (.tail _ (.tail _ (.head _)))), mem 23 inb_S27x256x128_S1x256x128_23_0_0 hk⟩
  · exact ⟨_, (.tail _ (.tail _ (.head _))), mem 24 inb_S27x256x128_S1x256x128_24_0_0 hk⟩
  · exact ⟨_, (.tail _ (.head _)), mem 25 inb_S27x256x128_S1x256x128_25_0_0 hk⟩
  · exact ⟨_, (.head _), mem 26 inb_S27x256x128_S1x256x128_26_0_0 hk⟩

theorem rest_canon (z : S27x256x128.Idx) :
    View.canon (kernelRun0_A.sl.HS2_27 (F := Ideal) c arg6 harg6 arg13 harg13 x4 x11) z = Rest (topsV c arg6 harg6 x4) x11 z :=
  View.canon_apply_of_pieces _ _ (rest_pieces c arg6 harg6 arg13 harg13 x4 x11).mem _ (rest_cover c arg6 harg6 arg13 harg13 x4 x11 z)

/-- A store of the narrow weights into one plane. -/
theorem wide_piece (k : ℕ) (hk : k < 3) (inb : ∀ a, ![k, 0, 0] a + S1x256x128.size a ≤ S3x256x256.size a)
    (v : Vec Ideal S1x256x128 .bf16)
    (hv : ∀ (o : Fin 256) (l : Fin 128), v (ix3 0 o l)
      = if firstTap k ≤ (l : ℕ) / 4 ∧ (l : ℕ) / 4 < 27 ∧ (l : ℕ) / 4 ≠ 22 then wt x11 ((l : ℕ) / 4) o (topOf (topsV c arg6 harg6 x4) l) else 0)
    (y : S1x256x128.Idx) :
    v y = Wide (topsV c arg6 harg6 x4) x11 ((Rect.unit (s := S3x256x256) ![k, 0, 0] S1x256x128.size inb).emb y) := by
  idx_vars y
  obtain rfl := Subsingleton.elim y0 0
  have e := emb3 (n := 3) (k := 256) k 0 inb y1 y2
  have e2 : (Rect.unit (s := S3x256x256) ![k, 0, 0] S1x256x128.size inb).emb (ix3 0 y1 y2) = ix3 ⟨k, hk⟩ y1 ⟨y2, by omega⟩ := by
    funext a
    refine Fin.ext ((e a).trans ?_)
    match a with
    | ⟨0, _⟩ => rfl
    | ⟨1, _⟩ => rfl
    | ⟨2, _⟩ => exact Nat.zero_add _
  rw [e2, hv]
  unfold Wide
  rw [dif_pos (show ((ix3 ⟨k, hk⟩ y1 ⟨y2, by omega⟩ : S3x256x256.Idx) 2 : ℕ) < 128 from y2.isLt)]
  rfl

/-- A store of tap 22 into the other lanes of one plane. -/
theorem full_piece (k : ℕ) (hk : k < 3) (inb : ∀ a, ![k, 0, 128] a + S1x256x128.size a ≤ S3x256x256.size a) (v6 : Vec Ideal S1x128 .i32)
    (y : S1x256x128.Idx) :
    k0_pay135 (F := Ideal) (wblk c arg13 harg13 x11 22 inb_S27x256x128_S1x256x128_22_0_0) y
      = Wide v6 x11 ((Rect.unit (s := S3x256x256) ![k, 0, 128] S1x256x128.size inb).emb y) := by
  idx_vars y
  obtain rfl := Subsingleton.elim y0 0
  have e := emb3 (n := 3) (k := 256) k 128 inb y1 y2
  have e2 : (Rect.unit (s := S3x256x256) ![k, 0, 128] S1x256x128.size inb).emb (ix3 0 y1 y2) = ix3 ⟨k, hk⟩ y1 ⟨128 + y2, by omega⟩ := by
    funext a
    refine Fin.ext ((e a).trans ?_)
    match a with
    | ⟨0, _⟩ => rfl
    | ⟨1, _⟩ => rfl
    | ⟨2, _⟩ => rfl
  have e3 : k0_pay135 (F := Ideal) (wblk c arg13 harg13 x11 22 inb_S27x256x128_S1x256x128_22_0_0) (ix3 0 y1 y2) = wt x11 22 y1 y2 := by
    rw [← wblk_at c arg13 harg13 x11 22 inb_S27x256x128_S1x256x128_22_0_0 (by decide)]
    pointwise [k0_pay135]
  rw [e2, e3]
  unfold Wide wt
  rw [dif_neg (show ¬ ((ix3 ⟨k, hk⟩ y1 ⟨128 + y2, by omega⟩ : S3x256x256.Idx) 2 : ℕ) < 128 by show ¬ (128 + (y2 : ℕ) < 128); omega), dif_pos (by decide)]
  refine congrArg x11 (congrArg (ix3 _ _) (Fin.ext ?_))
  show (y2 : ℕ) = 128 + y2 - 128
  omega

theorem wide_pieces : View.PiecesOf (Wide (topsV c arg6 harg6 x4) x11) (kernelRun0_A.sl.HS3_6 (F := Ideal) c arg6 harg6 arg13 harg13 x4 x11) := by
  unfold kernelRun0_A.sl.HS3_6
  have n0 : ∀ (o : Fin 256) (l : Fin 128), k0_pay131 (F := Ideal) kernelRun0_A.sl.v5855 (kernelRun0_A.sl.r_64 c arg6 harg6 arg13 harg13 x4 x11) 4#32
      (k0_pay129 kernelRun0_A.sl.v5855) k0_pay130 (ix3 0 o l)
      = if firstTap 0 ≤ (l : ℕ) / 4 ∧ (l : ℕ) / 4 < 27 ∧ (l : ℕ) / 4 ≠ 22 then wt x11 ((l : ℕ) / 4) o (topOf (topsV c arg6 harg6 x4) l) else 0 := by
    intro o l
    rw [ite_and, ← narrow_word_at c arg6 harg6 arg13 harg13 x4 x11 o l]
    generalize kernelRun0_A.sl.r_64 (F := Ideal) c arg6 harg6 arg13 harg13 x4 x11 = nar
    pointwise [k0_pay131, k0_pay129, k0_pay130, kernelRun0_A.sl.v5855]
    refine (congrArg (fun m => Scalar.select m _ _) (lane_ge18 l)).trans ?_
    rw [select_ite, zero_int]
    rfl
  have n2 : ∀ (o : Fin 256) (l : Fin 128), k0_pay134 (F := Ideal) kernelRun0_A.sl.v5855 (kernelRun0_A.sl.r_64 c arg6 harg6 arg13 harg13 x4 x11) 4#32
      (k0_pay132 kernelRun0_A.sl.v5855) (k0_pay133 kernelRun0_A.sl.v5855) 1#32 0#32 (ix3 0 o l)
      = if firstTap 2 ≤ (l : ℕ) / 4 ∧ (l : ℕ) / 4 < 27 ∧ (l : ℕ) / 4 ≠ 22 then wt x11 ((l : ℕ) / 4) o (topOf (topsV c arg6 harg6 x4) l) else 0 := by
    intro o l
    rw [ite_and, ← narrow_word_at c arg6 harg6 arg13 harg13 x4 x11 o l]
    generalize kernelRun0_A.sl.r_64 (F := Ideal) c arg6 harg6 arg13 harg13 x4 x11 = nar
    pointwise [k0_pay134, k0_pay132, k0_pay133, kernelRun0_A.sl.v5855]
    refine (congrArg (fun m => Scalar.select m _ _) (lane_ge9 l)).trans ?_
    rw [select_ite, zero_int]
    rfl
  have n1 : ∀ (o : Fin 256) (l : Fin 128), (shapeCast S1x256x128 (extf .bf16 (truncf .fp8e4m3 (kernelRun0_A.sl.r_64 (F := Ideal) c arg6 harg6 arg13 harg13 x4 x11) bitsLt_fp8e4m3_f32) bitsLt_fp8e4m3_bf16) shapeCasts_S256x128_S1x256x128 : FVec Ideal S1x256x128 .bf16) (ix3 0 o l)
      = if firstTap 1 ≤ (l : ℕ) / 4 ∧ (l : ℕ) / 4 < 27 ∧ (l : ℕ) / 4 ≠ 22 then wt x11 ((l : ℕ) / 4) o (topOf (topsV c arg6 harg6 x4) l) else 0 := by
    intro o l
    rw [ite_and, ← narrow_word_at c arg6 harg6 arg13 harg13 x4 x11 o l, if_pos (show firstTap 1 ≤ (l : ℕ) / 4 from Nat.zero_le _)]
    generalize kernelRun0_A.sl.r_64 (F := Ideal) c arg6 harg6 arg13 harg13 x4 x11 = nar
    pointwise []
  exact ⟨full_piece c arg13 harg13 x11 2 (by decide) inb_S3x256x256_S1x256x128_2_0_128 (topsV c arg6 harg6 x4),
    full_piece c arg13 harg13 x11 1 (by decide) inb_S3x256x256_S1x256x128_1_0_128 (topsV c arg6 harg6 x4),
    full_piece c arg13 harg13 x11 0 (by decide) inb_S3x256x256_S1x256x128_0_0_128 (topsV c arg6 harg6 x4),
    wide_piece c arg6 harg6 x4 x11 2 (by decide) inb_S3x256x256_S1x256x128_2_0_0 _ n2,
    wide_piece c arg6 harg6 x4 x11 0 (by decide) inb_S3x256x256_S1x256x128_0_0_0 _ n0,
    wide_piece c arg6 harg6 x4 x11 1 (by decide) inb_S3x256x256_S1x256x128_1_0_0 _ n1,
    trivial⟩

theorem wide_cover (z : S3x256x256.Idx) : ∃ p ∈ kernelRun0_A.sl.HS3_6 (F := Ideal) c arg6 harg6 arg13 harg13 x4 x11, z ∈ p.1.set := by
  have mem : ∀ (t off : ℕ) (inb : ∀ a, ![t, 0, off] a + S1x256x128.size a ≤ S3x256x256.size a), (z 0 : ℕ) = t → off ≤ (z 2 : ℕ) → (z 2 : ℕ) < off + 128 →
      z ∈ (Rect.unit (s := S3x256x256) ![t, 0, off] S1x256x128.size inb).set := fun t off inb h h1 h2 => by
    refine Rect.mem_set_unit.2 fun a => ?_
    match a with
    | ⟨0, _⟩ => exact ⟨h.ge, by show (z 0 : ℕ) < t + 1; omega⟩
    | ⟨1, _⟩ => exact ⟨Nat.zero_le _, by have := (z 1).isLt; show (z 1 : ℕ) < 0 + 256; simpa using this⟩
    | ⟨2, _⟩ => exact ⟨h1, h2⟩
  have hz : (z 0 : ℕ) < 3 := (z 0).isLt
  have hz2 : (z 2 : ℕ) < 256 := (z 2).isLt
  generalize hk : (z 0 : ℕ) = k at hz
  by_cases h : (z 2 : ℕ) < 128
  · interval_cases k
    · exact ⟨_, (.tail _ (.tail _ (.tail _ (.tail _ (.head _))))), mem 0 0 inb_S3x256x256_S1x256x128_0_0_0 hk (Nat.zero_le _) (by omega)⟩
    · exact ⟨_, (.tail _ (.tail _ (.tail _ (.tail _ (.tail _ (.head _)))))), mem 1 0 inb_S3x256x256_S1x256x128_1_0_0 hk (Nat.zero_le _) (by omega)⟩
    · exact ⟨_, (.tail _ (.tail _ (.tail _ (.head _)))), mem 2 0 inb_S3x256x256_S1x256x128_2_0_0 hk (Nat.zero_le _) (by omega)⟩
  · interval_cases k
    · exact ⟨_, (.tail _ (.tail _ (.head _))), mem 0 128 inb_S3x256x256_S1x256x128_0_0_128 hk (by omega) (by omega)⟩
    · exact ⟨_, (.tail _ (.head _)), mem 1 128 inb_S3x256x256_S1x256x128_1_0_128 hk (by omega) (by omega)⟩
    · exact ⟨_, (.head _), mem 2 128 inb_S3x256x256_S1x256x128_2_0_128 hk (by omega) (by omega)⟩

theorem wide_canon (z : S3x256x256.Idx) :
    View.canon (kernelRun0_A.sl.HS3_6 (F := Ideal) c arg6 harg6 arg13 harg13 x4 x11) z = Wide (topsV c arg6 harg6 x4) x11 z :=
  View.canon_apply_of_pieces _ _ (wide_pieces c arg6 harg6 arg13 harg13 x4 x11).mem _ (wide_cover c arg6 harg6 arg13 harg13 x4 x11 z)

end Conv
-- ==== Proof.Dots.lean ====
/-
  One output element of the convolution as the kernel adds it up: the two contractions over concatenated taps, the wide one,
  the scales and the bias, each read at an element.
-/
module

public import proofs.«01_k».proof.Proof.Weights

@[expose] public section

set_option maxRecDepth 16384

noncomputable section

namespace Conv

open Idealize.ShloMosaic Idealize.ShloMosaic.TcCoe Idealize.SL.Sem
open Cert.KernelIdeal Cert.KernelIdeal.Gen

/-- Tap `t`'s pixels, as rows of 128 lanes. -/
def lhsV (blk : Fin 27 → Vec Ideal S1x1x1024x128 .fp8e4m3) (t : Fin 27) : (Sh 1024 128).Idx → EReal :=
  shapeCast S1024x128 (blk t) shapeCasts_S1x1x1024x128_S1024x128

/-- Tap `t`'s weights, as rows of 128 lanes. -/
def rhsV (w : Fin 27 → Vec Ideal S1x256x128 .fp8e4m3) (t : Fin 27) : (Sh 256 128).Idx → EReal :=
  shapeCast S256x128 (w t) shapeCasts_S1x256x128_S256x128

theorem lhsV_at (blk : Fin 27 → Vec Ideal S1x1x1024x128 .fp8e4m3) (t : Fin 27) (p : Fin 1024) (c : Fin 128) :
    lhsV blk t (ix2 p c) = blk t (ix4 0 0 p c) := by
  pointwise [lhsV]

theorem rhsV_at (w : Fin 27 → Vec Ideal S1x256x128 .fp8e4m3) (t : Fin 27) (o : Fin 256) (c : Fin 128) :
    rhsV w t (ix2 o c) = w t (ix3 0 o c) := by
  pointwise [rhsV]

/-- The contraction over concatenated taps at an element: the taps' own contractions added up. -/
theorem sum_taps {K : ℕ} (ts : List (Fin 27)) (blk : Fin 27 → Vec Ideal S1x1x1024x128 .fp8e4m3) (w : Fin 27 → Vec Ideal S1x256x128 .fp8e4m3)
    (hL : Shape.Concatenates (((ts.map (lhsV blk)).map fun x => (⟨Sh 1024 128, x⟩ : (s : Shape) × (s.Idx → EReal))).map (·.1)) (Sh 1024 K) 1)
    (hR : Shape.Concatenates (((ts.map (rhsV w)).map fun x => (⟨Sh 256 128, x⟩ : (s : Shape) × (s.Idx → EReal))).map (·.1)) (Sh 256 K) 1)
    (hK : K = ts.length * 128) (p : Fin 1024) (o : Fin 256) :
    (∑ k : Fin K, concatenate (Sh 1024 K) 1 ((ts.map (lhsV blk)).map fun x => (⟨Sh 1024 128, x⟩ : (s : Shape) × (s.Idx → EReal))) hL (ix2 p k)
        * concatenate (Sh 256 K) 1 ((ts.map (rhsV w)).map fun x => (⟨Sh 256 128, x⟩ : (s : Shape) × (s.Idx → EReal))) hR (ix2 o k))
      = (ts.map fun t => ∑ c : Fin 128, blk t (ix4 0 0 p c) * w t (ix3 0 o c)).sum := by
  refine sum_lanes _ _ hL hR p o ts (fun t c => blk t (ix4 0 0 p c)) (fun t c => w t (ix3 0 o c)) ?_ ?_ hK
  · rw [List.forall₂_map_left_iff]
    exact List.forall₂_same.2 fun t _ c => lhsV_at blk t p c
  · rw [List.forall₂_map_left_iff]
    exact List.forall₂_same.2 fun t _ c => rhsV_at w t o c

/-- The taps in the order the kernel concatenates them: new frames' taps of output frame `f`, tap 22 left to the wide contraction. -/
def tx : ℕ → List (Fin 27)
  | 0 => [18, 19, 20, 21, 23, 24, 25, 26]
  | 1 => [9, 10, 11, 12, 13, 14, 15, 16, 17, 18, 19, 20, 21, 23, 24, 25, 26]
  | _ => [0, 1, 2, 3, 4, 5, 6, 7, 8, 9, 10, 11, 12, 13, 14, 15, 16, 17, 18, 19, 20, 21, 23, 24, 25, 26]

/-- The cached frames' taps of output frame `f`. -/
def tc : ℕ → List (Fin 27)
  | 0 => [0, 1, 2, 3, 4, 5, 6, 7, 8, 9, 10, 11, 12, 13, 14, 15, 16, 17]
  | 1 => [0, 1, 2, 3, 4, 5, 6, 7, 8]
  | _ => []

theorem mm1024 (l : FVec Ideal S1024x1024 .fp8e4m3) (r : FVec Ideal S256x1024 .fp8e4m3) (p : Fin 1024) (o : Fin 256) :
    matmul dot_S1024x1024_S256x1024_S1024x256_1_1_0_0_n_n none l r (constant S1024x256 .f32 0x00000000#32) (ix2 p o)
      = ∑ k : Fin 1024, l (ix2 p k) * r (ix2 o k) := by
  pointwise []

/-- The contraction over 8 concatenated taps. -/
def dot1024 (blk : Fin 27 → Vec Ideal S1x1x1024x128 .fp8e4m3) (w : Fin 27 → Vec Ideal S1x256x128 .fp8e4m3) : FVec Ideal S1024x256 .f32 :=
  matmul (φ₁ := .fp8e4m3) (φ₂ := .fp8e4m3) dot_S1024x1024_S256x1024_S1024x256_1_1_0_0_n_n none
    (concatenate S1024x1024 1 (((tx 0).map (lhsV blk)).map fun x => (⟨Sh 1024 128, x⟩ : (s : Shape) × (s.Idx → EReal))) concatenates_S1024x128_S1024x128_S1024x128_S1024x128_S1024x128_S1024x128_S1024x128_S1024x128_S1024x1024_d1)
    (concatenate S256x1024 1 (((tx 0).map (rhsV w)).map fun x => (⟨Sh 256 128, x⟩ : (s : Shape) × (s.Idx → EReal))) concatenates_S256x128_S256x128_S256x128_S256x128_S256x128_S256x128_S256x128_S256x128_S256x1024_d1)
    (constant S1024x256 .f32 0x00000000#32)

theorem dot1024_at (blk : Fin 27 → Vec Ideal S1x1x1024x128 .fp8e4m3) (w : Fin 27 → Vec Ideal S1x256x128 .fp8e4m3) (p : Fin 1024) (o : Fin 256) :
    dot1024 blk w (ix2 p o) = ((tx 0).map fun t => ∑ c : Fin 128, blk t (ix4 0 0 p c) * w t (ix3 0 o c)).sum :=
  (mm1024 _ _ p o).trans (sum_taps (K := 1024) (tx 0) blk w _ _ rfl p o)

theorem mm2176 (l : FVec Ideal S1024x2176 .fp8e4m3) (r : FVec Ideal S256x2176 .fp8e4m3) (p : Fin 1024) (o : Fin 256) :
    matmul dot_S1024x2176_S256x2176_S1024x256_1_1_0_0_n_n none l r (constant S1024x256 .f32 0x00000000#32) (ix2 p o)
      = ∑ k : Fin 2176, l (ix2 p k) * r (ix2 o k) := by
  pointwise []

/-- The contraction over 17 concatenated taps. -/
def dot2176 (blk : Fin 27 → Vec Ideal S1x1x1024x128 .fp8e4m3) (w : Fin 27 → Vec Ideal S1x256x128 .fp8e4m3) : FVec Ideal S1024x256 .f32 :=
  matmul (φ₁ := .fp8e4m3) (φ₂ := .fp8e4m3) dot_S1024x2176_S256x2176_S1024x256_1_1_0_0_n_n none
    (concatenate S1024x2176 1 (((tx 1).map (lhsV blk)).map fun x => (⟨Sh 1024 128, x⟩ : (s : Shape) × (s.Idx → EReal))) concatenates_S1024x128_S1024x128_S1024x128_S1024x128_S1024x128_S1024x128_S1024x128_S1024x128_S1024x128_S1024x128_S1024x128_S1024x128_S1024x128_S1024x128_S1024x128_S1024x128_S1024x128_S1024x2176_d1)
    (concatenate S256x2176 1 (((tx 1).map (rhsV w)).map fun x => (⟨Sh 256 128, x⟩ : (s : Shape) × (s.Idx → EReal))) concatenates_S256x128_S256x128_S256x128_S256x128_S256x128_S256x128_S256x128_S256x128_S256x128_S256x128_S256x128_S256x128_S256x128_S256x128_S256x128_S256x128_S256x128_S256x2176_d1)
    (constant S1024x256 .f32 0x00000000#32)

theorem dot2176_at (blk : Fin 27 → Vec Ideal S1x1x1024x128 .fp8e4m3) (w : Fin 27 → Vec Ideal S1x256x128 .fp8e4m3) (p : Fin 1024) (o : Fin 256) :
    dot2176 blk w (ix2 p o) = ((tx 1).map fun t => ∑ c : Fin 128, blk t (ix4 0 0 p c) * w t (ix3 0 o c)).sum :=
  (mm2176 _ _ p o).trans (sum_taps (K := 2176) (tx 1) blk w _ _ rfl p o)

theorem mm3328 (l : FVec Ideal S1024x3328 .fp8e4m3) (r : FVec Ideal S256x3328 .fp8e4m3) (p : Fin 1024) (o : Fin 256) :
    matmul dot_S1024x3328_S256x3328_S1024x256_1_1_0_0_n_n none l r (constant S1024x256 .f32 0x00000000#32) (ix2 p o)
      = ∑ k : Fin 3328, l (ix2 p k) * r (ix2 o k) := by
  pointwise []

/-- The contraction over 26 concatenated taps. -/
def dot3328 (blk : Fin 27 → Vec Ideal S1x1x1024x128 .fp8e4m3) (w : Fin 27 → Vec Ideal S1x256x128 .fp8e4m3) : FVec Ideal S1024x256 .f32 :=
  matmul (φ₁ := .fp8e4m3) (φ₂ := .fp8e4m3) dot_S1024x3328_S256x3328_S1024x256_1_1_0_0_n_n none
    (concatenate S1024x3328 1 (((tx 2).map (lhsV blk)).map fun x => (⟨Sh 1024 128, x⟩ : (s : Shape) × (s.Idx → EReal))) concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x3328_d1)
    (concatenate S256x3328 1 (((tx 2).map (rhsV w)).map fun x => (⟨Sh 256 128, x⟩ : (s : Shape) × (s.Idx → EReal))) concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x3328_d1)
    (constant S1024x256 .f32 0x00000000#32)

theorem dot3328_at (blk : Fin 27 → Vec Ideal S1x1x1024x128 .fp8e4m3) (w : Fin 27 → Vec Ideal S1x256x128 .fp8e4m3) (p : Fin 1024) (o : Fin 256) :
    dot3328 blk w (ix2 p o) = ((tx 2).map fun t => ∑ c : Fin 128, blk t (ix4 0 0 p c) * w t (ix3 0 o c)).sum :=
  (mm3328 _ _ p o).trans (sum_taps (K := 3328) (tx 2) blk w _ _ rfl p o)

theorem mm2304 (l : FVec Ideal S1024x2304 .fp8e4m3) (r : FVec Ideal S256x2304 .fp8e4m3) (p : Fin 1024) (o : Fin 256) :
    matmul dot_S1024x2304_S256x2304_S1024x256_1_1_0_0_n_n none l r (constant S1024x256 .f32 0x00000000#32) (ix2 p o)
      = ∑ k : Fin 2304, l (ix2 p k) * r (ix2 o k) := by
  pointwise []

/-- The contraction over 18 concatenated taps. -/
def dot2304 (blk : Fin 27 → Vec Ideal S1x1x1024x128 .fp8e4m3) (w : Fin 27 → Vec Ideal S1x256x128 .fp8e4m3) : FVec Ideal S1024x256 .f32 :=
  matmul (φ₁ := .fp8e4m3) (φ₂ := .fp8e4m3) dot_S1024x2304_S256x2304_S1024x256_1_1_0_0_n_n none
    (concatenate S1024x2304 1 (((tc 0).map (lhsV blk)).map fun x => (⟨Sh 1024 128, x⟩ : (s : Shape) × (s.Idx → EReal))) concatenates_S1024x128_S1024x128_S1024x128_S1024x128_S1024x128_S1024x128_S1024x128_S1024x128_S1024x128_S1024x128_S1024x128_S1024x128_S1024x128_S1024x128_S1024x128_S1024x128_S1024x128_S1024x128_S1024x2304_d1)
    (concatenate S256x2304 1 (((tc 0).map (rhsV w)).map fun x => (⟨Sh 256 128, x⟩ : (s : Shape) × (s.Idx → EReal))) concatenates_S256x128_S256x128_S256x128_S256x128_S256x128_S256x128_S256x128_S256x128_S256x128_S256x128_S256x128_S256x128_S256x128_S256x128_S256x128_S256x128_S256x128_S256x128_S256x2304_d1)
    (constant S1024x256 .f32 0x00000000#32)

theorem dot2304_at (blk : Fin 27 → Vec Ideal S1x1x1024x128 .fp8e4m3) (w : Fin 27 → Vec Ideal S1x256x128 .fp8e4m3) (p : Fin 1024) (o : Fin 256) :
    dot2304 blk w (ix2 p o) = ((tc 0).map fun t => ∑ c : Fin 128, blk t (ix4 0 0 p c) * w t (ix3 0 o c)).sum :=
  (mm2304 _ _ p o).trans (sum_taps (K := 2304) (tc 0) blk w _ _ rfl p o)

theorem mm1152 (l : FVec Ideal S1024x1152 .fp8e4m3) (r : FVec Ideal S256x1152 .fp8e4m3) (p : Fin 1024) (o : Fin 256) :
    matmul dot_S1024x1152_S256x1152_S1024x256_1_1_0_0_n_n none l r (constant S1024x256 .f32 0x00000000#32) (ix2 p o)
      = ∑ k : Fin 1152, l (ix2 p k) * r (ix2 o k) := by
  pointwise []

/-- The contraction over 9 concatenated taps. -/
def dot1152 (blk : Fin 27 → Vec Ideal S1x1x1024x128 .fp8e4m3) (w : Fin 27 → Vec Ideal S1x256x128 .fp8e4m3) : FVec Ideal S1024x256 .f32 :=
  matmul (φ₁ := .fp8e4m3) (φ₂ := .fp8e4m3) dot_S1024x1152_S256x1152_S1024x256_1_1_0_0_n_n none
    (concatenate S1024x1152 1 (((tc 1).map (lhsV blk)).map fun x => (⟨Sh 1024 128, x⟩ : (s : Shape) × (s.Idx → EReal))) concatenates_S1024x128_S1024x128_S1024x128_S1024x128_S1024x128_S1024x128_S1024x128_S1024x128_S1024x128_S1024x1152_d1)
    (concatenate S256x1152 1 (((tc 1).map (rhsV w)).map fun x => (⟨Sh 256 128, x⟩ : (s : Shape) × (s.Idx → EReal))) concatenates_S256x128_S256x128_S256x128_S256x128_S256x128_S256x128_S256x128_S256x128_S256x128_S256x1152_d1)
    (constant S1024x256 .f32 0x00000000#32)

theorem dot1152_at (blk : Fin 27 → Vec Ideal S1x1x1024x128 .fp8e4m3) (w : Fin 27 → Vec Ideal S1x256x128 .fp8e4m3) (p : Fin 1024) (o : Fin 256) :
    dot1152 blk w (ix2 p o) = ((tc 1).map fun t => ∑ c : Fin 128, blk t (ix4 0 0 p c) * w t (ix3 0 o c)).sum :=
  (mm1152 _ _ p o).trans (sum_taps (K := 1152) (tc 1) blk w _ _ rfl p o)

theorem mm256 (l : FVec Ideal S1024x256 .bf16) (r : FVec Ideal S256x256 .bf16) (p : Fin 1024) (o : Fin 256) :
    matmul dot_S1024x256_S256x256_S1024x256_1_1_0_0_n_n none l r (constant S1024x256 .f32 0x00000000#32) (ix2 p o)
      = ∑ k : Fin 256, l (ix2 p k) * r (ix2 o k) := by
  pointwise []

/-- The wide contraction: the gathered lanes beside the channels of tap 22. -/
def wideDot (a : FVec Ideal S1024x128 .f32) (u : Vec Ideal S1x1x1024x128 .fp8e4m3) (w : Vec Ideal S1x256x256 .bf16) : FVec Ideal S1024x256 .f32 :=
  matmul dot_S1024x256_S256x256_S1024x256_1_1_0_0_n_n none
    (concatenate S1024x256 1 [⟨S1024x128, (extf .bf16 (truncf .fp8e4m3 a bitsLt_fp8e4m3_f32 : FVec Ideal S1024x128 .fp8e4m3) bitsLt_fp8e4m3_bf16 : FVec Ideal S1024x128 .bf16)⟩,
      ⟨S1024x128, (extf .bf16 (shapeCast S1024x128 u shapeCasts_S1x1x1024x128_S1024x128 : FVec Ideal S1024x128 .fp8e4m3) bitsLt_fp8e4m3_bf16 : FVec Ideal S1024x128 .bf16)⟩] concatenates_S1024x128_S1024x128_S1024x256_d1)
    (shapeCast S256x256 w shapeCasts_S1x256x256_S256x256 : FVec Ideal S256x256 .bf16) (constant S1024x256 .f32 0x00000000#32)

theorem wideDot_at (a : FVec Ideal S1024x128 .f32) (u : Vec Ideal S1x1x1024x128 .fp8e4m3) (w : Vec Ideal S1x256x256 .bf16) (p : Fin 1024) (o : Fin 256) :
    wideDot a u w (ix2 p o) = (∑ l : Fin 128, a (ix2 p l) * w (ix3 0 o (Fin.castAdd 128 l : Fin 256)))
      + ∑ c : Fin 128, u (ix4 0 0 p c) * w (ix3 0 o (Fin.natAdd 128 c : Fin 256)) := by
  refine (mm256 _ _ p o).trans ?_
  refine (Fin.sum_univ_add (a := 128) (b := 128) _).trans ?_
  refine congrArg₂ (· + ·) (Finset.sum_congr rfl fun l _ => congrArg₂ (· * ·) ?_ ?_) (Finset.sum_congr rfl fun l _ => congrArg₂ (· * ·) ?_ ?_)
  · exact concat_lanes (m := 1024) (K := 256) [_, _] concatenates_S1024x128_S1024x128_S1024x256_d1 p _ 0 (by simp) l (by simp)
  · pointwise []
  · refine (concat_lanes (m := 1024) (K := 256) [_, _] concatenates_S1024x128_S1024x128_S1024x256_d1 p _ 1 (by simp) l (by simp [Nat.add_comm])).trans ?_
    show extf .bf16 (shapeCast S1024x128 u shapeCasts_S1x1x1024x128_S1024x128 : FVec Ideal S1024x128 .fp8e4m3) bitsLt_fp8e4m3_bf16 (ix2 p l) = _
    pointwise []
  · pointwise []

/-- The lane number of every element. -/
def lane : IVec S1024x128 32 := iota .tc S1024x128 32 [1] iota_S1024x128_d1_w32

/-- Floor division, element by element. -/
def divV (x : IVec S1024x128 32) (d : BitVec 32) : IVec S1024x128 32 := fun i => wdiv (x i) d

/-- The remainder of floor division, element by element. -/
def modV (x : IVec S1024x128 32) (d : BitVec 32) : IVec S1024x128 32 := fun i => wmod (x i) d

theorem lane_at (p : Fin 1024) (l : Fin 128) : lane (ix2 p l) = BitVec.ofNat 32 l := by
  pointwise [lane]

/-- The gathered lanes of one frame: by lane, the row of the image that the lane's tap looks at. -/
def byKh (u0 u1 u2 : Vec Ideal S1x1024x128 .f32) : FVec Ideal S1024x128 .f32 :=
  select (cmpi .eq (modV (divV lane 12#32) 3#32) (broadcast S1024x128 0#32)) (shapeCast S1024x128 u0 shapeCasts_S1x1024x128_S1024x128 : FVec Ideal S1024x128 .f32)
    (select (cmpi .eq (modV (divV lane 12#32) 3#32) (broadcast S1024x128 1#32)) (shapeCast S1024x128 u1 shapeCasts_S1x1024x128_S1024x128 : FVec Ideal S1024x128 .f32)
      (shapeCast S1024x128 u2 shapeCasts_S1x1024x128_S1024x128 : FVec Ideal S1024x128 .f32))

theorem lane_kh0 : ∀ l : Fin 128, IntOp.cmpi CmpIPredicate.eq (wmod (wdiv (BitVec.ofNat 32 l) 12#32) 3#32) 0#32 = if (l : ℕ) / 12 % 3 = 0 then 1#1 else 0#1 := by
  decide +kernel

theorem lane_kh1 : ∀ l : Fin 128, IntOp.cmpi CmpIPredicate.eq (wmod (wdiv (BitVec.ofNat 32 l) 12#32) 3#32) 1#32 = if (l : ℕ) / 12 % 3 = 1 then 1#1 else 0#1 := by
  decide +kernel

theorem lane_kt0 : ∀ l : Fin 128, IntOp.cmpi CmpIPredicate.eq (wdiv (BitVec.ofNat 32 l) 36#32) 0#32 = if (l : ℕ) / 36 = 0 then 1#1 else 0#1 := by
  decide +kernel

theorem lane_kt1 : ∀ l : Fin 128, IntOp.cmpi CmpIPredicate.sle (wdiv (BitVec.ofNat 32 l) 36#32) 1#32 = if (l : ℕ) / 36 ≤ 1 then 1#1 else 0#1 := by
  decide +kernel

theorem byKh_at (u0 u1 u2 : Vec Ideal S1x1024x128 .f32) (p : Fin 1024) (l : Fin 128) :
    byKh u0 u1 u2 (ix2 p l) = if (l : ℕ) / 12 % 3 = 0 then u0 (ix3 0 p l) else if (l : ℕ) / 12 % 3 = 1 then u1 (ix3 0 p l) else u2 (ix3 0 p l) := by
  have h : byKh u0 u1 u2 (ix2 p l) = Scalar.select (IntOp.cmpi CmpIPredicate.eq (wmod (wdiv (BitVec.ofNat 32 l) 12#32) 3#32) 0#32) (u0 (ix3 0 p l))
      (Scalar.select (IntOp.cmpi CmpIPredicate.eq (wmod (wdiv (BitVec.ofNat 32 l) 12#32) 3#32) 1#32) (u1 (ix3 0 p l)) (u2 (ix3 0 p l))) := by
    pointwise [byKh, modV, divV, lane]
  rw [h, lane_kh0, lane_kh1]
  simp only [select_ite]

/-- Output frame 1: the lanes of the first two taps' frames from the frame before. -/
def by1 (b0 b1 : FVec Ideal S1024x128 .f32) : FVec Ideal S1024x128 .f32 :=
  select (cmpi .sle (divV lane 36#32) (broadcast S1024x128 1#32)) b0 b1

/-- Output frames 2 and 3: each lane from its tap's own frame. -/
def by2 (b0 b1 b2 : FVec Ideal S1024x128 .f32) : FVec Ideal S1024x128 .f32 :=
  select (cmpi .eq (divV lane 36#32) (broadcast S1024x128 0#32)) b0 (by1 b1 b2)

theorem by1_at (b0 b1 : FVec Ideal S1024x128 .f32) (p : Fin 1024) (l : Fin 128) :
    by1 b0 b1 (ix2 p l) = if (l : ℕ) / 36 ≤ 1 then b0 (ix2 p l) else b1 (ix2 p l) := by
  have h : by1 b0 b1 (ix2 p l) = Scalar.select (IntOp.cmpi CmpIPredicate.sle (wdiv (BitVec.ofNat 32 l) 36#32) 1#32) (b0 (ix2 p l)) (b1 (ix2 p l)) := by
    pointwise [by1, divV, lane]
  rw [h, lane_kt1]
  simp only [select_ite]

theorem by2_at (b0 b1 b2 : FVec Ideal S1024x128 .f32) (p : Fin 1024) (l : Fin 128) :
    by2 b0 b1 b2 (ix2 p l) = if (l : ℕ) / 36 = 0 then b0 (ix2 p l) else if (l : ℕ) / 36 ≤ 1 then b1 (ix2 p l) else b2 (ix2 p l) := by
  have h : by2 b0 b1 b2 (ix2 p l) = Scalar.select (IntOp.cmpi CmpIPredicate.eq (wdiv (BitVec.ofNat 32 l) 36#32) 0#32) (b0 (ix2 p l)) (by1 b1 b2 (ix2 p l)) := by
    pointwise [by2, divV, lane]
  rw [h, lane_kt0, by1_at]
  simp only [select_ite]

/-- A store of the result of output frames 2 and 3. -/
def yNew (rest wide : FVec Ideal S1024x256 .f32) (gx bias : Vec Ideal S1x256 .f32) : FVec Ideal S1x1x1024x256 .bf16 :=
  shapeCast S1x1x1024x256 (truncf .bf16 (addf (mulf (addf rest wide) (broadcastTo S1024x256 gx broadcasts_S1x256_S1024x256))
    (broadcastTo S1024x256 bias broadcasts_S1x256_S1024x256)) bitsLt_bf16_f32 : FVec Ideal S1024x256 .bf16) shapeCasts_S1024x256_S1x1x1024x256

/-- A store of the result of output frames 0 and 1, which also look at cached frames. -/
def yOld (rest wide cached : FVec Ideal S1024x256 .f32) (gx gc bias : Vec Ideal S1x256 .f32) : FVec Ideal S1x1x1024x256 .bf16 :=
  shapeCast S1x1x1024x256 (truncf .bf16 (addf (addf (mulf (addf rest wide) (broadcastTo S1024x256 gx broadcasts_S1x256_S1024x256))
    (mulf cached (broadcastTo S1024x256 gc broadcasts_S1x256_S1024x256)))
    (broadcastTo S1024x256 bias broadcasts_S1x256_S1024x256)) bitsLt_bf16_f32 : FVec Ideal S1024x256 .bf16) shapeCasts_S1024x256_S1x1x1024x256

theorem yNew_at (rest wide : FVec Ideal S1024x256 .f32) (gx bias : Vec Ideal S1x256 .f32) (p : Fin 1024) (o : Fin 256) :
    yNew rest wide gx bias (ix4 0 0 p o) = (rest (ix2 p o) + wide (ix2 p o)) * gx (ix2 0 o) + bias (ix2 0 o) := by
  pointwise [yNew]

theorem yOld_at (rest wide cached : FVec Ideal S1024x256 .f32) (gx gc bias : Vec Ideal S1x256 .f32) (p : Fin 1024) (o : Fin 256) :
    yOld rest wide cached gx gc bias (ix4 0 0 p o)
      = (rest (ix2 p o) + wide (ix2 p o)) * gx (ix2 0 o) + cached (ix2 p o) * gc (ix2 0 o) + bias (ix2 0 o) := by
  pointwise [yOld]

/-- The frame whose gathered channels a lane of output frame `f` takes. -/
def frame (f l : ℕ) : ℕ :=
  if f = 0 then 2 else if f = 1 then (if l / 36 ≤ 1 then 2 else 3) else if l / 36 = 0 then f else if l / 36 ≤ 1 then f + 1 else f + 2

/-- The code that tap `t` of output frame `f` meets at pixel `q` of the block, channel `c`. -/
def tapCode (b : ℕ → ℕ → ℕ → EReal) (f q : ℕ) (t : Fin 27) (c : ℕ) : EReal :=
  shifted b ((t : ℕ) % 3) (f + (t : ℕ) / 9) (q + 64 * ((t : ℕ) / 3 % 3)) c

/-- The code that lane `l` of the gathered channels holds. -/
def laneCode (b : ℕ → ℕ → ℕ → EReal) (tl : Fin 128 → Fin 128) (f q : ℕ) (l : Fin 128) : EReal :=
  shifted b ((l : ℕ) / 4 % 3) (frame f l) (q + 64 * ((l : ℕ) / 12 % 3)) (tl l)

/-- Which of the three planes of gathered weights output frame `f` takes. -/
def plane (f : ℕ) : Fin 3 := if f = 0 then 0 else if f = 1 then 2 else 1

/-- One element of the result as the kernel adds it up: output frame `f`, pixel `q` of the block, channel `o`. -/
def yAt (b : ℕ → ℕ → ℕ → EReal) (tl : Fin 128 → Fin 128) (w rest : S27x256x128.Idx → EReal) (wide : S3x256x256.Idx → EReal)
    (gx gc bias : Fin 256 → EReal) (f q : ℕ) (o : Fin 256) : EReal :=
  (((tx f).map fun t => ∑ c : Fin 128, tapCode b f q t c * rest (ix3 t o c)).sum
      + ((∑ l : Fin 128, laneCode b tl f q l * wide (ix3 (plane f) o (Fin.castAdd 128 l : Fin 256)))
        + ∑ c : Fin 128, tapCode b f q 22 c * wide (ix3 (plane f) o (Fin.natAdd 128 c : Fin 256)))) * gx o
    + ((tc f).map fun t => ∑ c : Fin 128, tapCode b f q t c * w (ix3 t o c)).sum * gc o + bias o

theorem inbT (f off : ℕ) (hf : f ≤ 3) (ho : off + 1152 ≤ 3200) (t : Fin 27) :
    ∀ a, ![(t : ℕ) % 3, f + (t : ℕ) / 9, off + 64 * ((t : ℕ) / 3 % 3), 0] a + S1x1x1024x128.size a ≤ S3x6x3200x128.size a := by
  intro a
  fin_cases a
  · show (t : ℕ) % 3 + 1 ≤ 3; omega
  · show f + (t : ℕ) / 9 + 1 ≤ 6; omega
  · show off + 64 * ((t : ℕ) / 3 % 3) + 1024 ≤ 3200; omega
  · exact Nat.le_refl _

theorem inbW (t : Fin 27) : ∀ a, ![(t : ℕ), 0, 0] a + S1x256x128.size a ≤ S27x256x128.size a := by
  intro a
  fin_cases a
  · show (t : ℕ) + 1 ≤ 27; omega
  · exact Nat.le_refl _
  · exact Nat.le_refl _

theorem inbU (f off : ℕ) (hf : f ≤ 3) (ho : off + 1152 ≤ 3200) (kh : Fin 3) :
    ∀ a, ![f, off + 64 * (kh : ℕ), 0] a + S1x1024x128.size a ≤ S4x3200x128.size a := by
  intro a
  fin_cases a
  · show f + 1 ≤ 4; omega
  · show off + 64 * (kh : ℕ) + 1024 ≤ 3200; omega
  · exact Nat.le_refl _

/-- Tap `t`'s block of pixels, as it is loaded back from the code scratch. -/
abbrev tapBlk (v : View sig .tc .vmem S3x6x3200x128 .fp8e4m3) (L : List (View.Piece (Elt Ideal) S3x6x3200x128 .fp8e4m3)) (f off : ℕ) (hf : f ≤ 3)
    (ho : off + 1152 ≤ 3200) (t : Fin 27) : Vec Ideal S1x1x1024x128 .fp8e4m3 :=
  v.readCov L (Rect.unit (s := S3x6x3200x128) ![(t : ℕ) % 3, f + (t : ℕ) / 9, off + 64 * ((t : ℕ) / 3 % 3), 0] S1x1x1024x128.size (inbT f off hf ho t)).toLoadRect

/-- The gathered channels' block of frame `f`, image row `kh`, as it is loaded back from its scratch. -/
abbrev topBlk (v : View sig .tc .vmem S4x3200x128 .f32) (L : List (View.Piece (Elt Ideal) S4x3200x128 .f32)) (f off : ℕ) (hf : f ≤ 3)
    (ho : off + 1152 ≤ 3200) (kh : Fin 3) : Vec Ideal S1x1024x128 .f32 :=
  v.readCov L (Rect.unit (s := S4x3200x128) ![f, off + 64 * (kh : ℕ), 0] S1x1024x128.size (inbU f off hf ho kh)).toLoadRect

/-- A frame's gathered lanes. -/
abbrev khBlk (v : View sig .tc .vmem S4x3200x128 .f32) (L : List (View.Piece (Elt Ideal) S4x3200x128 .f32)) (f off : ℕ) (hf : f ≤ 3)
    (ho : off + 1152 ≤ 3200) : FVec Ideal S1024x128 .f32 :=
  byKh (topBlk v L f off hf ho 0) (topBlk v L f off hf ho 1) (topBlk v L f off hf ho 2)

/-- What the code scratch holds after a chunk's stores, as the loads see it. -/
def CodesOk (v : View sig .tc .vmem S3x6x3200x128 .fp8e4m3) (L : List (View.Piece (Elt Ideal) S3x6x3200x128 .fp8e4m3)) (b : ℕ → ℕ → ℕ → EReal) (n : ℕ) : Prop :=
  ∀ (kw f o : ℕ) (inb : ∀ a, ![kw, f, o, 0] a + S1x1x1024x128.size a ≤ S3x6x3200x128.size a) (_ : o + 1024 ≤ n) (p : Fin 1024) (l : Fin 128),
    v.readCov L (Rect.unit (s := S3x6x3200x128) ![kw, f, o, 0] S1x1x1024x128.size inb).toLoadRect (ix4 0 0 p l) = shifted b kw f (o + p) l

/-- What the gathered channels' scratch holds after a chunk's stores, as the loads see it. -/
def TopsOk (v : View sig .tc .vmem S4x3200x128 .f32) (L : List (View.Piece (Elt Ideal) S4x3200x128 .f32)) (b : ℕ → ℕ → ℕ → EReal) (tl : Fin 128 → Fin 128) (n : ℕ) : Prop :=
  ∀ (f o : ℕ) (inb : ∀ a, ![f, o, 0] a + S1x1024x128.size a ≤ S4x3200x128.size a) (_ : o + 1024 ≤ n) (p : Fin 1024) (l : Fin 128),
    v.readCov L (Rect.unit (s := S4x3200x128) ![f, o, 0] S1x1024x128.size inb).toLoadRect (ix3 0 p l) = shifted b ((l : ℕ) / 4 % 3) (f + 2) (o + p) (tl l)

variable {v0 : View sig .tc .vmem S3x6x3200x128 .fp8e4m3} {L0 : List (View.Piece (Elt Ideal) S3x6x3200x128 .fp8e4m3)}
  {v1 : View sig .tc .vmem S4x3200x128 .f32} {L1 : List (View.Piece (Elt Ideal) S4x3200x128 .f32)} {b : ℕ → ℕ → ℕ → EReal} {tl : Fin 128 → Fin 128} {n : ℕ}

theorem tapBlk_at (h0 : CodesOk v0 L0 b n) (f off : ℕ) (hf : f ≤ 3) (ho : off + 1152 ≤ 3200) (hn : off + 1152 ≤ n) (t : Fin 27) (p : Fin 1024) (c : Fin 128) :
    tapBlk v0 L0 f off hf ho t (ix4 0 0 p c) = tapCode b f (off + p) t c := by
  refine (h0 _ _ _ _ (by omega) p c).trans ?_
  unfold tapCode
  rw [show off + 64 * ((t : ℕ) / 3 % 3) + (p : ℕ) = off + p + 64 * ((t : ℕ) / 3 % 3) by omega]

theorem khBlk_at (h1 : TopsOk v1 L1 b tl n) (f off : ℕ) (hf : f ≤ 3) (ho : off + 1152 ≤ 3200) (hn : off + 1152 ≤ n) (p : Fin 1024) (l : Fin 128) :
    khBlk v1 L1 f off hf ho (ix2 p l) = shifted b ((l : ℕ) / 4 % 3) (f + 2) (off + p + 64 * ((l : ℕ) / 12 % 3)) (tl l) := by
  refine (byKh_at _ _ _ p l).trans ?_
  have e : ∀ kh : Fin 3, topBlk v1 L1 f off hf ho kh (ix3 0 p l) = shifted b ((l : ℕ) / 4 % 3) (f + 2) (off + p + 64 * (kh : ℕ)) (tl l) := fun kh => by
    have hk := kh.isLt
    refine (h1 _ _ _ (by omega) p l).trans ?_
    rw [show off + 64 * (kh : ℕ) + (p : ℕ) = off + p + 64 * (kh : ℕ) by omega]
  rw [e 0, e 1, e 2]
  split
  · next h => rw [h]; rfl
  · split
    · next h => rw [h]; rfl
    · rw [show (l : ℕ) / 12 % 3 = 2 by omega]; rfl

theorem h03 : 0 ≤ 3 := by decide
theorem h13 : 1 ≤ 3 := by decide
theorem h23 : 2 ≤ 3 := by decide
theorem h33 : 3 ≤ 3 := by decide

/-- The result over one grid point's block. -/
def Yblk (b : ℕ → ℕ → ℕ → EReal) (tl : Fin 128 → Fin 128) (w rest : S27x256x128.Idx → EReal) (wide : S3x256x256.Idx → EReal)
    (gx gc bias : Vec Ideal S1x256 .f32) (z : S1x4x3072x256.Idx) : EReal :=
  yAt b tl w rest wide (fun o => gx (ix2 0 o)) (fun o => gc (ix2 0 o)) (fun o => bias (ix2 0 o)) (z 1) (z 2) (z 3)

theorem Yblk_emb (b : ℕ → ℕ → ℕ → EReal) (tl : Fin 128 → Fin 128) (w rest : S27x256x128.Idx → EReal) (wide : S3x256x256.Idx → EReal)
    (gx gc bias : Vec Ideal S1x256 .f32) (f off : ℕ) (y2 : Fin 1024) (y3 : Fin 256)
    (inb : ∀ a, ![0, f, off, 0] a + S1x1x1024x256.size a ≤ S1x4x3072x256.size a) :
    Yblk b tl w rest wide gx gc bias ((Rect.unit (s := S1x4x3072x256) ![0, f, off, 0] S1x1x1024x256.size inb).emb (ix4 0 0 y2 y3))
      = yAt b tl w rest wide (fun o => gx (ix2 0 o)) (fun o => gc (ix2 0 o)) (fun o => bias (ix2 0 o)) f (off + y2) y3 := by
  have e : ∀ a, ((Rect.unit (s := S1x4x3072x256) ![0, f, off, 0] S1x1x1024x256.size inb).emb (ix4 0 0 y2 y3) a : ℕ)
      = ![0, f, off, 0] a + ((ix4 0 0 y2 y3 : S1x1x1024x256.Idx) a : ℕ) :=
    fun a => Rect.idx_unit_val _ _ _ _ a
  have e1 := (e 1).trans (Nat.add_zero f)
  have e2 := e 2
  have e3 := (e 3).trans (Nat.zero_add (y3 : ℕ))
  unfold Yblk
  rw [show (Rect.unit (s := S1x4x3072x256) ![0, f, off, 0] S1x1x1024x256.size inb).emb (ix4 0 0 y2 y3) 3 = y3 from Fin.ext e3, e1, e2]
  rfl

/-- The store of output frame 0's chunk of the result is the result. -/
theorem y_piece0 (h0 : CodesOk v0 L0 b n) (h1 : TopsOk v1 L1 b tl n) (off : ℕ) (ho : off + 1152 ≤ 3200) (hn : off + 1152 ≤ n)
    {wr : Fin 27 → Vec Ideal S1x256x128 .fp8e4m3} {w rest : S27x256x128.Idx → EReal} (hr : ∀ t o c, wr t (ix3 0 o c) = rest (ix3 t o c))
    {wc : Fin 27 → Vec Ideal S1x256x128 .fp8e4m3} (hc : ∀ t o c, wc t (ix3 0 o c) = w (ix3 t o c))
    {wd : Vec Ideal S1x256x256 .bf16} {wide : S3x256x256.Idx → EReal} (hd : ∀ o c, wd (ix3 0 o c) = wide (ix3 (plane 0) o c))
    (gx gc bias : Vec Ideal S1x256 .f32)
    (inb : ∀ a, ![0, 0, off, 0] a + S1x1x1024x256.size a ≤ S1x4x3072x256.size a) (y : S1x1x1024x256.Idx) :
    yOld (dot1024 (tapBlk v0 L0 0 off h03 ho) wr) (wideDot (khBlk v1 L1 0 off h03 ho) ((tapBlk v0 L0 0 off h03 ho) 22) wd) (dot2304 (tapBlk v0 L0 0 off h03 ho) wc) gx gc bias y
      = Yblk b tl w rest wide gx gc bias ((Rect.unit (s := S1x4x3072x256) ![0, 0, off, 0] S1x1x1024x256.size inb).emb y) := by
  idx_vars y
  obtain rfl := Subsingleton.elim y0 0
  obtain rfl := Subsingleton.elim y1 0
  rw [Yblk_emb, yOld_at, dot1024_at, wideDot_at, dot2304_at]
  unfold yAt
  skip
  have ea : ∀ l : Fin 128, (khBlk v1 L1 0 off h03 ho) (ix2 y2 l) = laneCode b tl 0 (off + y2) l := fun l => by

    simp only [khBlk_at h1 _ off _ ho hn]
    unfold laneCode frame
    rfl
  simp only [tapBlk_at h0 0 off h03 ho hn, hr, hc, hd, ea]
  done

/-- The store of output frame 1's chunk of the result is the result. -/
theorem y_piece1 (h0 : CodesOk v0 L0 b n) (h1 : TopsOk v1 L1 b tl n) (off : ℕ) (ho : off + 1152 ≤ 3200) (hn : off + 1152 ≤ n)
    {wr : Fin 27 → Vec Ideal S1x256x128 .fp8e4m3} {w rest : S27x256x128.Idx → EReal} (hr : ∀ t o c, wr t (ix3 0 o c) = rest (ix3 t o c))
    {wc : Fin 27 → Vec Ideal S1x256x128 .fp8e4m3} (hc : ∀ t o c, wc t (ix3 0 o c) = w (ix3 t o c))
    {wd : Vec Ideal S1x256x256 .bf16} {wide : S3x256x256.Idx → EReal} (hd : ∀ o c, wd (ix3 0 o c) = wide (ix3 (plane 1) o c))
    (gx gc bias : Vec Ideal S1x256 .f32)
    (inb : ∀ a, ![0, 1, off, 0] a + S1x1x1024x256.size a ≤ S1x4x3072x256.size a) (y : S1x1x1024x256.Idx) :
    yOld (dot2176 (tapBlk v0 L0 1 off h13 ho) wr) (wideDot (by1 (khBlk v1 L1 0 off h03 ho) (khBlk v1 L1 1 off h13 ho)) ((tapBlk v0 L0 1 off h13 ho) 22) wd) (dot1152 (tapBlk v0 L0 1 off h13 ho) wc) gx gc bias y
      = Yblk b tl w rest wide gx gc bias ((Rect.unit (s := S1x4x3072x256) ![0, 1, off, 0] S1x1x1024x256.size inb).emb y) := by
  idx_vars y
  obtain rfl := Subsingleton.elim y0 0
  obtain rfl := Subsingleton.elim y1 0
  rw [Yblk_emb, yOld_at, dot2176_at, wideDot_at, dot1152_at]
  unfold yAt
  skip
  have ea : ∀ l : Fin 128, (by1 (khBlk v1 L1 0 off h03 ho) (khBlk v1 L1 1 off h13 ho)) (ix2 y2 l) = laneCode b tl 1 (off + y2) l := fun l => by
    rw [by1_at]
    simp only [khBlk_at h1 _ off _ ho hn]
    unfold laneCode frame
    split_ifs <;> first | rfl | (exfalso; omega)
  simp only [tapBlk_at h0 1 off h13 ho hn, hr, hc, hd, ea]
  done

/-- The store of output frame 2's chunk of the result is the result. -/
theorem y_piece2 (h0 : CodesOk v0 L0 b n) (h1 : TopsOk v1 L1 b tl n) (off : ℕ) (ho : off + 1152 ≤ 3200) (hn : off + 1152 ≤ n)
    {wr : Fin 27 → Vec Ideal S1x256x128 .fp8e4m3} {w rest : S27x256x128.Idx → EReal} (hr : ∀ t o c, wr t (ix3 0 o c) = rest (ix3 t o c))
    {wc : Fin 27 → Vec Ideal S1x256x128 .fp8e4m3} (hc : ∀ t o c, wc t (ix3 0 o c) = w (ix3 t o c))
    {wd : Vec Ideal S1x256x256 .bf16} {wide : S3x256x256.Idx → EReal} (hd : ∀ o c, wd (ix3 0 o c) = wide (ix3 (plane 2) o c))
    (gx gc bias : Vec Ideal S1x256 .f32)
    (inb : ∀ a, ![0, 2, off, 0] a + S1x1x1024x256.size a ≤ S1x4x3072x256.size a) (y : S1x1x1024x256.Idx) :
    yNew (dot3328 (tapBlk v0 L0 2 off h23 ho) wr) (wideDot (by2 (khBlk v1 L1 0 off h03 ho) (khBlk v1 L1 1 off h13 ho) (khBlk v1 L1 2 off h23 ho)) ((tapBlk v0 L0 2 off h23 ho) 22) wd) gx bias y
      = Yblk b tl w rest wide gx gc bias ((Rect.unit (s := S1x4x3072x256) ![0, 2, off, 0] S1x1x1024x256.size inb).emb y) := by
  idx_vars y
  obtain rfl := Subsingleton.elim y0 0
  obtain rfl := Subsingleton.elim y1 0
  rw [Yblk_emb, yNew_at, dot3328_at, wideDot_at]
  unfold yAt
  rw [show tc 2 = [] from rfl, List.map_nil, List.sum_nil, zero_mul, add_zero]
  have ea : ∀ l : Fin 128, (by2 (khBlk v1 L1 0 off h03 ho) (khBlk v1 L1 1 off h13 ho) (khBlk v1 L1 2 off h23 ho)) (ix2 y2 l) = laneCode b tl 2 (off + y2) l := fun l => by
    rw [by2_at]
    simp only [khBlk_at h1 _ off _ ho hn]
    unfold laneCode frame
    split_ifs <;> first | rfl | (exfalso; omega)
  simp only [tapBlk_at h0 2 off h23 ho hn, hr, hc, hd, ea]
  done

/-- The store of output frame 3's chunk of the result is the result. -/
theorem y_piece3 (h0 : CodesOk v0 L0 b n) (h1 : TopsOk v1 L1 b tl n) (off : ℕ) (ho : off + 1152 ≤ 3200) (hn : off + 1152 ≤ n)
    {wr : Fin 27 → Vec Ideal S1x256x128 .fp8e4m3} {w rest : S27x256x128.Idx → EReal} (hr : ∀ t o c, wr t (ix3 0 o c) = rest (ix3 t o c))
    {wc : Fin 27 → Vec Ideal S1x256x128 .fp8e4m3} (hc : ∀ t o c, wc t (ix3 0 o c) = w (ix3 t o c))
    {wd : Vec Ideal S1x256x256 .bf16} {wide : S3x256x256.Idx → EReal} (hd : ∀ o c, wd (ix3 0 o c) = wide (ix3 (plane 3) o c))
    (gx gc bias : Vec Ideal S1x256 .f32)
    (inb : ∀ a, ![0, 3, off, 0] a + S1x1x1024x256.size a ≤ S1x4x3072x256.size a) (y : S1x1x1024x256.Idx) :
    yNew (dot3328 (tapBlk v0 L0 3 off h33 ho) wr) (wideDot (by2 (khBlk v1 L1 1 off h13 ho) (khBlk v1 L1 2 off h23 ho) (khBlk v1 L1 3 off h33 ho)) ((tapBlk v0 L0 3 off h33 ho) 22) wd) gx bias y
      = Yblk b tl w rest wide gx gc bias ((Rect.unit (s := S1x4x3072x256) ![0, 3, off, 0] S1x1x1024x256.size inb).emb y) := by
  idx_vars y
  obtain rfl := Subsingleton.elim y0 0
  obtain rfl := Subsingleton.elim y1 0
  rw [Yblk_emb, yNew_at, dot3328_at, wideDot_at]
  unfold yAt
  rw [show tc 3 = [] from rfl, List.map_nil, List.sum_nil, zero_mul, add_zero]
  have ea : ∀ l : Fin 128, (by2 (khBlk v1 L1 1 off h13 ho) (khBlk v1 L1 2 off h23 ho) (khBlk v1 L1 3 off h33 ho)) (ix2 y2 l) = laneCode b tl 3 (off + y2) l := fun l => by
    rw [by2_at]
    simp only [khBlk_at h1 _ off _ ho hn]
    unfold laneCode frame
    split_ifs <;> first | rfl | (exfalso; omega)
  simp only [tapBlk_at h0 3 off h33 ho hn, hr, hc, hd, ea]
  rfl

end Conv
-- ==== Proof.ResultB.lean ====
/-
  The twelve stores of the result at a grid point after the first.
-/
module

public import proofs.«01_k».proof.Proof.Dots

@[expose] public section

set_option maxRecDepth 16384

noncomputable section

namespace Conv

open Idealize.ShloMosaic Idealize.ShloMosaic.TcCoe Idealize.SL.Sem
open Cert.KernelIdeal Cert.KernelIdeal.Gen

variable (c : Dev nD) (i : grid0.Coords)
  (arg2 : Memref sig .tc .smem S1x1 .f32) (harg2 : arg2.IsWhole)
  (arg3 : Memref sig .tc .smem S1x1 .f32) (harg3 : arg3.IsWhole)
  (arg4 : Memref sig .tc .smem S1x1 .f32) (harg4 : arg4.IsWhole)
  (arg5 : Memref sig .tc .smem S1x1 .f32) (harg5 : arg5.IsWhole)
  (arg6 : Memref sig .tc .vmem S1x128 .i32) (harg6 : arg6.IsWhole)
  (arg7 : Memref sig .tc .vmem S1x4x64x128 .bf16) (harg7 : arg7.IsWhole)
  (arg8 : Memref sig .tc .vmem S1x4x3072x128 .bf16) (harg8 : arg8.IsWhole)
  (arg9 : Memref sig .tc .vmem S1x4x64x128 .bf16) (harg9 : arg9.IsWhole)
  (arg10 : Memref sig .tc .vmem S1x2x64x128 .fp8e4m3) (harg10 : arg10.IsWhole)
  (arg11 : Memref sig .tc .vmem S1x2x3072x128 .fp8e4m3) (harg11 : arg11.IsWhole)
  (arg12 : Memref sig .tc .vmem S1x2x64x128 .fp8e4m3) (harg12 : arg12.IsWhole)
  (arg13 : Memref sig .tc .vmem S27x256x128 .fp8e4m3) (harg13 : arg13.IsWhole)
  (arg14 : Memref sig .tc .vmem S1x256 .f32) (harg14 : arg14.IsWhole)
  (arg15 : Memref sig .tc .vmem S1x256 .f32) (harg15 : arg15.IsWhole)
  (arg16 : Memref sig .tc .vmem S1x4x3072x256 .bf16) (harg16 : arg16.IsWhole)
  (arg17 : Memref sig .tc .vmem S1x4x3072x128 .fp8e4m3) (harg17 : arg17.IsWhole)
  (arg18 : Memref sig .tc .vmem S1x2x3072x128 .fp8e4m3) (harg18 : arg18.IsWhole)
  (arg19 : Memref sig .tc .vmem S3x6x3200x128 .fp8e4m3) (harg19 : arg19.IsWhole)
  (arg20 : Memref sig .tc .vmem S4x3200x128 .f32) (harg20 : arg20.IsWhole)
  (arg21 : Memref sig .tc .vmem S27x256x128 .fp8e4m3) (harg21 : arg21.IsWhole)
  (arg22 : Memref sig .tc .vmem S3x256x256 .bf16) (harg22 : arg22.IsWhole)
  (x0 : Vec Ideal S1x1 .f32)
  (x1 : Vec Ideal S1x1 .f32)
  (x2 : Vec Ideal S1x1 .f32)
  (x3 : Vec Ideal S1x1 .f32)
  (x4 : Vec Ideal S1x128 .i32)
  (x5 : Vec Ideal S1x4x64x128 .bf16)
  (x6 : Vec Ideal S1x4x3072x128 .bf16)
  (x7 : Vec Ideal S1x4x64x128 .bf16)
  (x8 : Vec Ideal S1x2x64x128 .fp8e4m3)
  (x9 : Vec Ideal S1x2x3072x128 .fp8e4m3)
  (x10 : Vec Ideal S1x2x64x128 .fp8e4m3)
  (x11 : Vec Ideal S27x256x128 .fp8e4m3)
  (x12 : Vec Ideal S1x256 .f32)
  (x13 : Vec Ideal S1x256 .f32)
  (xs2 : Vec Ideal S27x256x128 .fp8e4m3) (xs3 : Vec Ideal S3x256x256 .bf16)

/-- A scale times the weights' scales, as the kernel has it. -/
def gxV (c : Dev nD) (arg2 : Memref sig .tc .smem S1x1 .f32) (harg2 : arg2.IsWhole) (arg14 : Memref sig .tc .vmem S1x256 .f32) (harg14 : arg14.IsWhole)
    (x0 : Vec Ideal S1x1 .f32) (x12 : Vec Ideal S1x256 .f32) : Vec Ideal S1x256 .f32 :=
  kernelRun0_B.sl.r_8 (F := Ideal) c arg2 harg2 arg14 harg14 x0 x12

/-- The bias, as it is loaded. -/
def biasV (c : Dev nD) (arg15 : Memref sig .tc .vmem S1x256 .f32) (harg15 : arg15.IsWhole) (x13 : Vec Ideal S1x256 .f32) : Vec Ideal S1x256 .f32 :=
  kernelRun0_B.sl.r_7 (F := Ideal) c arg15 harg15 x13

include arg7 harg7 arg8 harg8 arg9 harg9 arg10 harg10 arg11 harg11 arg12 harg12 in
theorem codesOk54B : CodesOk arg19.view (kernelRun0_B.sl.HS0_54 (F := Ideal) c i arg3 harg3 arg7 harg7 arg8 harg8 arg10 harg10 arg11 harg11 x1 x5 x6 x8 x9) (baseB c i arg3 harg3 x1 x5 x6 x7 x8 x9 x10) 2112 :=
  fun _ _ _ inb ho p l => codes_load54 c i arg3 harg3 arg7 harg7 arg8 harg8 arg9 harg9 arg10 harg10 arg11 harg11 arg12 harg12 x1 x5 x6 x7 x8 x9 x10 arg19 inb ho p l

include arg7 harg7 arg8 harg8 arg9 harg9 arg10 harg10 arg11 harg11 arg12 harg12 in
theorem topsOk12B : TopsOk arg20.view (kernelRun0_B.sl.HS1_12 (F := Ideal) c i arg3 harg3 arg6 harg6 arg7 harg7 arg8 harg8 x1 x4 x5 x6) (baseB c i arg3 harg3 x1 x5 x6 x7 x8 x9 x10) (topOf (topsV c arg6 harg6 x4)) 2112 :=
  fun _ _ inb ho p l => tops_load12 c i arg3 harg3 arg6 harg6 arg7 harg7 arg8 harg8 arg9 harg9 arg10 harg10 arg11 harg11 arg12 harg12 x1 x4 x5 x6 x7 x8 x9 x10 arg20 inb ho p l

include arg7 harg7 arg8 harg8 arg9 harg9 arg10 harg10 arg11 harg11 arg12 harg12 in
theorem codesOk72B : CodesOk arg19.view (kernelRun0_B.sl.HS0_72 (F := Ideal) c i arg3 harg3 arg7 harg7 arg8 harg8 arg10 harg10 arg11 harg11 x1 x5 x6 x8 x9) (baseB c i arg3 harg3 x1 x5 x6 x7 x8 x9 x10) 3136 :=
  fun _ _ _ inb ho p l => codes_load72 c i arg3 harg3 arg7 harg7 arg8 harg8 arg9 harg9 arg10 harg10 arg11 harg11 arg12 harg12 x1 x5 x6 x7 x8 x9 x10 arg19 inb ho p l

include arg7 harg7 arg8 harg8 arg9 harg9 arg10 harg10 arg11 harg11 arg12 harg12 in
theorem topsOk16B : TopsOk arg20.view (kernelRun0_B.sl.HS1_16 (F := Ideal) c i arg3 harg3 arg6 harg6 arg7 harg7 arg8 harg8 x1 x4 x5 x6) (baseB c i arg3 harg3 x1 x5 x6 x7 x8 x9 x10) (topOf (topsV c arg6 harg6 x4)) 3136 :=
  fun _ _ inb ho p l => tops_load16 c i arg3 harg3 arg6 harg6 arg7 harg7 arg8 harg8 arg9 harg9 arg10 harg10 arg11 harg11 arg12 harg12 x1 x4 x5 x6 x7 x8 x9 x10 arg20 inb ho p l

include arg7 harg7 arg8 harg8 arg9 harg9 arg10 harg10 arg11 harg11 arg12 harg12 in
theorem codesOk90B : CodesOk arg19.view (kernelRun0_B.sl.HS0_90 (F := Ideal) c i arg3 harg3 arg7 harg7 arg8 harg8 arg9 harg9 arg10 harg10 arg11 harg11 arg12 harg12 x1 x5 x6 x7 x8 x9 x10) (baseB c i arg3 harg3 x1 x5 x6 x7 x8 x9 x10) 3200 :=
  fun _ _ _ inb ho p l => codes_load90 c i arg3 harg3 arg7 harg7 arg8 harg8 arg9 harg9 arg10 harg10 arg11 harg11 arg12 harg12 x1 x5 x6 x7 x8 x9 x10 arg19 inb ho p l

include arg7 harg7 arg8 harg8 arg9 harg9 arg10 harg10 arg11 harg11 arg12 harg12 in
theorem topsOk20B : TopsOk arg20.view (kernelRun0_B.sl.HS1_20 (F := Ideal) c i arg3 harg3 arg6 harg6 arg7 harg7 arg8 harg8 arg9 harg9 x1 x4 x5 x6 x7) (baseB c i arg3 harg3 x1 x5 x6 x7 x8 x9 x10) (topOf (topsV c arg6 harg6 x4)) 3200 :=
  fun _ _ inb ho p l => tops_load20 c i arg3 harg3 arg6 harg6 arg7 harg7 arg8 harg8 arg9 harg9 arg10 harg10 arg11 harg11 arg12 harg12 x1 x4 x5 x6 x7 x8 x9 x10 arg20 inb ho p l

/-- A tap's weights read back from a whole buffer. -/
theorem wRead (arg : Memref sig .tc .vmem S27x256x128 .fp8e4m3) (harg : arg.IsWhole) (X : Vec Ideal S27x256x128 .fp8e4m3) (t : Fin 27) (o : Fin 256) (l : Fin 128) :
    View.readAt (Elt Ideal) arg.view (Rect.unit (s := S27x256x128) ![(t : ℕ), 0, 0] S1x256x128.size (inbW t)).toLoadRect (harg.unread X) (ix3 0 o l) = X (ix3 t o l) :=
  (harg.readAt_unread _ _ _).trans (blk3 X t t.isLt (inbW t) o l)

/-- A plane of the gathered weights read back from a whole buffer. -/
theorem dRead (arg : Memref sig .tc .vmem S3x256x256 .bf16) (harg : arg.IsWhole) (X : Vec Ideal S3x256x256 .bf16) (k : ℕ) (hk : k < 3)
    (inb : ∀ a, ![k, 0, 0] a + S1x256x256.size a ≤ S3x256x256.size a) (o l : Fin 256) :
    View.readAt (Elt Ideal) arg.view (Rect.unit (s := S3x256x256) ![k, 0, 0] S1x256x256.size inb).toLoadRect (harg.unread X) (ix3 0 o l) = X (ix3 ⟨k, hk⟩ o l) :=
  (harg.readAt_unread _ _ _).trans (blk3 (m := 256) X k hk inb o l)

include arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 in
set_option maxHeartbeats 8000000 in
/-- Every store of the result stores the result. -/
theorem y_pieces_B (hc0 : ¬cond0_0 i) :
    View.PiecesOf (Yblk (baseB c i arg3 harg3 x1 x5 x6 x7 x8 x9 x10) (topOf (topsV c arg6 harg6 x4)) x11 xs2 xs3 (gxV c arg2 harg2 arg14 harg14 x0 x12) (gxV c arg5 harg5 arg14 harg14 x3 x12) (biasV c arg15 harg15 x13))
      (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs2 xs3).1 :=
  ⟨y_piece3 (codesOk90B c i arg3 harg3 arg7 harg7 arg8 harg8 arg9 harg9 arg10 harg10 arg11 harg11 arg12 harg12 arg19 x1 x5 x6 x7 x8 x9 x10) (topsOk20B c i arg3 harg3 arg6 harg6 arg7 harg7 arg8 harg8 arg9 harg9 arg10 harg10 arg11 harg11 arg12 harg12 arg20 x1 x4 x5 x6 x7 x8 x9 x10) 2048 (by decide) (by decide) (wr := fun t => View.readAt (Elt Ideal) arg21.view (Rect.unit (s := S27x256x128) ![(t : ℕ), 0, 0] S1x256x128.size (inbW t)).toLoadRect (harg21.unread xs2)) (wRead arg21 harg21 xs2) (wc := fun t => View.readAt (Elt Ideal) arg13.view (Rect.unit (s := S27x256x128) ![(t : ℕ), 0, 0] S1x256x128.size (inbW t)).toLoadRect (harg13.unread x11)) (wRead arg13 harg13 x11) (dRead arg22 harg22 xs3 1 (by decide) inb_S3x256x256_S1x256x256_1_0_0) (gxV c arg2 harg2 arg14 harg14 x0 x12) (gxV c arg5 harg5 arg14 harg14 x3 x12) (biasV c arg15 harg15 x13) inb_S1x4x3072x256_S1x1x1024x256_0_3_2048_0,
   y_piece2 (codesOk90B c i arg3 harg3 arg7 harg7 arg8 harg8 arg9 harg9 arg10 harg10 arg11 harg11 arg12 harg12 arg19 x1 x5 x6 x7 x8 x9 x10) (topsOk20B c i arg3 harg3 arg6 harg6 arg7 harg7 arg8 harg8 arg9 harg9 arg10 harg10 arg11 harg11 arg12 harg12 arg20 x1 x4 x5 x6 x7 x8 x9 x10) 2048 (by decide) (by decide) (wr := fun t => View.readAt (Elt Ideal) arg21.view (Rect.unit (s := S27x256x128) ![(t : ℕ), 0, 0] S1x256x128.size (inbW t)).toLoadRect (harg21.unread xs2)) (wRead arg21 harg21 xs2) (wc := fun t => View.readAt (Elt Ideal) arg13.view (Rect.unit (s := S27x256x128) ![(t : ℕ), 0, 0] S1x256x128.size (inbW t)).toLoadRect (harg13.unread x11)) (wRead arg13 harg13 x11) (dRead arg22 harg22 xs3 1 (by decide) inb_S3x256x256_S1x256x256_1_0_0) (gxV c arg2 harg2 arg14 harg14 x0 x12) (gxV c arg5 harg5 arg14 harg14 x3 x12) (biasV c arg15 harg15 x13) inb_S1x4x3072x256_S1x1x1024x256_0_2_2048_0,
   y_piece1 (codesOk90B c i arg3 harg3 arg7 harg7 arg8 harg8 arg9 harg9 arg10 harg10 arg11 harg11 arg12 harg12 arg19 x1 x5 x6 x7 x8 x9 x10) (topsOk20B c i arg3 harg3 arg6 harg6 arg7 harg7 arg8 harg8 arg9 harg9 arg10 harg10 arg11 harg11 arg12 harg12 arg20 x1 x4 x5 x6 x7 x8 x9 x10) 2048 (by decide) (by decide) (wr := fun t => View.readAt (Elt Ideal) arg21.view (Rect.unit (s := S27x256x128) ![(t : ℕ), 0, 0] S1x256x128.size (inbW t)).toLoadRect (harg21.unread xs2)) (wRead arg21 harg21 xs2) (wc := fun t => View.readAt (Elt Ideal) arg13.view (Rect.unit (s := S27x256x128) ![(t : ℕ), 0, 0] S1x256x128.size (inbW t)).toLoadRect (harg13.unread x11)) (wRead arg13 harg13 x11) (dRead arg22 harg22 xs3 2 (by decide) inb_S3x256x256_S1x256x256_2_0_0) (gxV c arg2 harg2 arg14 harg14 x0 x12) (gxV c arg5 harg5 arg14 harg14 x3 x12) (biasV c arg15 harg15 x13) inb_S1x4x3072x256_S1x1x1024x256_0_1_2048_0,
   y_piece0 (codesOk90B c i arg3 harg3 arg7 harg7 arg8 harg8 arg9 harg9 arg10 harg10 arg11 harg11 arg12 harg12 arg19 x1 x5 x6 x7 x8 x9 x10) (topsOk20B c i arg3 harg3 arg6 harg6 arg7 harg7 arg8 harg8 arg9 harg9 arg10 harg10 arg11 harg11 arg12 harg12 arg20 x1 x4 x5 x6 x7 x8 x9 x10) 2048 (by decide) (by decide) (wr := fun t => View.readAt (Elt Ideal) arg21.view (Rect.unit (s := S27x256x128) ![(t : ℕ), 0, 0] S1x256x128.size (inbW t)).toLoadRect (harg21.unread xs2)) (wRead arg21 harg21 xs2) (wc := fun t => View.readAt (Elt Ideal) arg13.view (Rect.unit (s := S27x256x128) ![(t : ℕ), 0, 0] S1x256x128.size (inbW t)).toLoadRect (harg13.unread x11)) (wRead arg13 harg13 x11) (dRead arg22 harg22 xs3 0 (by decide) inb_S3x256x256_S1x256x256_0_0_0) (gxV c arg2 harg2 arg14 harg14 x0 x12) (gxV c arg5 harg5 arg14 harg14 x3 x12) (biasV c arg15 harg15 x13) inb_S1x4x3072x256_S1x1x1024x256_0_0_2048_0,
   y_piece3 (codesOk72B c i arg3 harg3 arg7 harg7 arg8 harg8 arg9 harg9 arg10 harg10 arg11 harg11 arg12 harg12 arg19 x1 x5 x6 x7 x8 x9 x10) (topsOk16B c i arg3 harg3 arg6 harg6 arg7 harg7 arg8 harg8 arg9 harg9 arg10 harg10 arg11 harg11 arg12 harg12 arg20 x1 x4 x5 x6 x7 x8 x9 x10) 1024 (by decide) (by decide) (wr := fun t => View.readAt (Elt Ideal) arg21.view (Rect.unit (s := S27x256x128) ![(t : ℕ), 0, 0] S1x256x128.size (inbW t)).toLoadRect (harg21.unread xs2)) (wRead arg21 harg21 xs2) (wc := fun t => View.readAt (Elt Ideal) arg13.view (Rect.unit (s := S27x256x128) ![(t : ℕ), 0, 0] S1x256x128.size (inbW t)).toLoadRect (harg13.unread x11)) (wRead arg13 harg13 x11) (dRead arg22 harg22 xs3 1 (by decide) inb_S3x256x256_S1x256x256_1_0_0) (gxV c arg2 harg2 arg14 harg14 x0 x12) (gxV c arg5 harg5 arg14 harg14 x3 x12) (biasV c arg15 harg15 x13) inb_S1x4x3072x256_S1x1x1024x256_0_3_1024_0,
   y_piece2 (codesOk72B c i arg3 harg3 arg7 harg7 arg8 harg8 arg9 harg9 arg10 harg10 arg11 harg11 arg12 harg12 arg19 x1 x5 x6 x7 x8 x9 x10) (topsOk16B c i arg3 harg3 arg6 harg6 arg7 harg7 arg8 harg8 arg9 harg9 arg10 harg10 arg11 harg11 arg12 harg12 arg20 x1 x4 x5 x6 x7 x8 x9 x10) 1024 (by decide) (by decide) (wr := fun t => View.readAt (Elt Ideal) arg21.view (Rect.unit (s := S27x256x128) ![(t : ℕ), 0, 0] S1x256x128.size (inbW t)).toLoadRect (harg21.unread xs2)) (wRead arg21 harg21 xs2) (wc := fun t => View.readAt (Elt Ideal) arg13.view (Rect.unit (s := S27x256x128) ![(t : ℕ), 0, 0] S1x256x128.size (inbW t)).toLoadRect (harg13.unread x11)) (wRead arg13 harg13 x11) (dRead arg22 harg22 xs3 1 (by decide) inb_S3x256x256_S1x256x256_1_0_0) (gxV c arg2 harg2 arg14 harg14 x0 x12) (gxV c arg5 harg5 arg14 harg14 x3 x12) (biasV c arg15 harg15 x13) inb_S1x4x3072x256_S1x1x1024x256_0_2_1024_0,
   y_piece1 (codesOk72B c i arg3 harg3 arg7 harg7 arg8 harg8 arg9 harg9 arg10 harg10 arg11 harg11 arg12 harg12 arg19 x1 x5 x6 x7 x8 x9 x10) (topsOk16B c i arg3 harg3 arg6 harg6 arg7 harg7 arg8 harg8 arg9 harg9 arg10 harg10 arg11 harg11 arg12 harg12 arg20 x1 x4 x5 x6 x7 x8 x9 x10) 1024 (by decide) (by decide) (wr := fun t => View.readAt (Elt Ideal) arg21.view (Rect.unit (s := S27x256x128) ![(t : ℕ), 0, 0] S1x256x128.size (inbW t)).toLoadRect (harg21.unread xs2)) (wRead arg21 harg21 xs2) (wc := fun t => View.readAt (Elt Ideal) arg13.view (Rect.unit (s := S27x256x128) ![(t : ℕ), 0, 0] S1x256x128.size (inbW t)).toLoadRect (harg13.unread x11)) (wRead arg13 harg13 x11) (dRead arg22 harg22 xs3 2 (by decide) inb_S3x256x256_S1x256x256_2_0_0) (gxV c arg2 harg2 arg14 harg14 x0 x12) (gxV c arg5 harg5 arg14 harg14 x3 x12) (biasV c arg15 harg15 x13) inb_S1x4x3072x256_S1x1x1024x256_0_1_1024_0,
   y_piece0 (codesOk72B c i arg3 harg3 arg7 harg7 arg8 harg8 arg9 harg9 arg10 harg10 arg11 harg11 arg12 harg12 arg19 x1 x5 x6 x7 x8 x9 x10) (topsOk16B c i arg3 harg3 arg6 harg6 arg7 harg7 arg8 harg8 arg9 harg9 arg10 harg10 arg11 harg11 arg12 harg12 arg20 x1 x4 x5 x6 x7 x8 x9 x10) 1024 (by decide) (by decide) (wr := fun t => View.readAt (Elt Ideal) arg21.view (Rect.unit (s := S27x256x128) ![(t : ℕ), 0, 0] S1x256x128.size (inbW t)).toLoadRect (harg21.unread xs2)) (wRead arg21 harg21 xs2) (wc := fun t => View.readAt (Elt Ideal) arg13.view (Rect.unit (s := S27x256x128) ![(t : ℕ), 0, 0] S1x256x128.size (inbW t)).toLoadRect (harg13.unread x11)) (wRead arg13 harg13 x11) (dRead arg22 harg22 xs3 0 (by decide) inb_S3x256x256_S1x256x256_0_0_0) (gxV c arg2 harg2 arg14 harg14 x0 x12) (gxV c arg5 harg5 arg14 harg14 x3 x12) (biasV c arg15 harg15 x13) inb_S1x4x3072x256_S1x1x1024x256_0_0_1024_0,
   y_piece3 (codesOk54B c i arg3 harg3 arg7 harg7 arg8 harg8 arg9 harg9 arg10 harg10 arg11 harg11 arg12 harg12 arg19 x1 x5 x6 x7 x8 x9 x10) (topsOk12B c i arg3 harg3 arg6 harg6 arg7 harg7 arg8 harg8 arg9 harg9 arg10 harg10 arg11 harg11 arg12 harg12 arg20 x1 x4 x5 x6 x7 x8 x9 x10) 0 (by decide) (by decide) (wr := fun t => View.readAt (Elt Ideal) arg21.view (Rect.unit (s := S27x256x128) ![(t : ℕ), 0, 0] S1x256x128.size (inbW t)).toLoadRect (harg21.unread xs2)) (wRead arg21 harg21 xs2) (wc := fun t => View.readAt (Elt Ideal) arg13.view (Rect.unit (s := S27x256x128) ![(t : ℕ), 0, 0] S1x256x128.size (inbW t)).toLoadRect (harg13.unread x11)) (wRead arg13 harg13 x11) (dRead arg22 harg22 xs3 1 (by decide) inb_S3x256x256_S1x256x256_1_0_0) (gxV c arg2 harg2 arg14 harg14 x0 x12) (gxV c arg5 harg5 arg14 harg14 x3 x12) (biasV c arg15 harg15 x13) inb_S1x4x3072x256_S1x1x1024x256_0_3_0_0,
   y_piece2 (codesOk54B c i arg3 harg3 arg7 harg7 arg8 harg8 arg9 harg9 arg10 harg10 arg11 harg11 arg12 harg12 arg19 x1 x5 x6 x7 x8 x9 x10) (topsOk12B c i arg3 harg3 arg6 harg6 arg7 harg7 arg8 harg8 arg9 harg9 arg10 harg10 arg11 harg11 arg12 harg12 arg20 x1 x4 x5 x6 x7 x8 x9 x10) 0 (by decide) (by decide) (wr := fun t => View.readAt (Elt Ideal) arg21.view (Rect.unit (s := S27x256x128) ![(t : ℕ), 0, 0] S1x256x128.size (inbW t)).toLoadRect (harg21.unread xs2)) (wRead arg21 harg21 xs2) (wc := fun t => View.readAt (Elt Ideal) arg13.view (Rect.unit (s := S27x256x128) ![(t : ℕ), 0, 0] S1x256x128.size (inbW t)).toLoadRect (harg13.unread x11)) (wRead arg13 harg13 x11) (dRead arg22 harg22 xs3 1 (by decide) inb_S3x256x256_S1x256x256_1_0_0) (gxV c arg2 harg2 arg14 harg14 x0 x12) (gxV c arg5 harg5 arg14 harg14 x3 x12) (biasV c arg15 harg15 x13) inb_S1x4x3072x256_S1x1x1024x256_0_2_0_0,
   y_piece1 (codesOk54B c i arg3 harg3 arg7 harg7 arg8 harg8 arg9 harg9 arg10 harg10 arg11 harg11 arg12 harg12 arg19 x1 x5 x6 x7 x8 x9 x10) (topsOk12B c i arg3 harg3 arg6 harg6 arg7 harg7 arg8 harg8 arg9 harg9 arg10 harg10 arg11 harg11 arg12 harg12 arg20 x1 x4 x5 x6 x7 x8 x9 x10) 0 (by decide) (by decide) (wr := fun t => View.readAt (Elt Ideal) arg21.view (Rect.unit (s := S27x256x128) ![(t : ℕ), 0, 0] S1x256x128.size (inbW t)).toLoadRect (harg21.unread xs2)) (wRead arg21 harg21 xs2) (wc := fun t => View.readAt (Elt Ideal) arg13.view (Rect.unit (s := S27x256x128) ![(t : ℕ), 0, 0] S1x256x128.size (inbW t)).toLoadRect (harg13.unread x11)) (wRead arg13 harg13 x11) (dRead arg22 harg22 xs3 2 (by decide) inb_S3x256x256_S1x256x256_2_0_0) (gxV c arg2 harg2 arg14 harg14 x0 x12) (gxV c arg5 harg5 arg14 harg14 x3 x12) (biasV c arg15 harg15 x13) inb_S1x4x3072x256_S1x1x1024x256_0_1_0_0,
   y_piece0 (codesOk54B c i arg3 harg3 arg7 harg7 arg8 harg8 arg9 harg9 arg10 harg10 arg11 harg11 arg12 harg12 arg19 x1 x5 x6 x7 x8 x9 x10) (topsOk12B c i arg3 harg3 arg6 harg6 arg7 harg7 arg8 harg8 arg9 harg9 arg10 harg10 arg11 harg11 arg12 harg12 arg20 x1 x4 x5 x6 x7 x8 x9 x10) 0 (by decide) (by decide) (wr := fun t => View.readAt (Elt Ideal) arg21.view (Rect.unit (s := S27x256x128) ![(t : ℕ), 0, 0] S1x256x128.size (inbW t)).toLoadRect (harg21.unread xs2)) (wRead arg21 harg21 xs2) (wc := fun t => View.readAt (Elt Ideal) arg13.view (Rect.unit (s := S27x256x128) ![(t : ℕ), 0, 0] S1x256x128.size (inbW t)).toLoadRect (harg13.unread x11)) (wRead arg13 harg13 x11) (dRead arg22 harg22 xs3 0 (by decide) inb_S3x256x256_S1x256x256_0_0_0) (gxV c arg2 harg2 arg14 harg14 x0 x12) (gxV c arg5 harg5 arg14 harg14 x3 x12) (biasV c arg15 harg15 x13) inb_S1x4x3072x256_S1x1x1024x256_0_0_0_0,
   trivial⟩

end Conv
-- ==== Proof.ResultA.lean ====
/-
  The twelve stores of the result at the first grid point, which builds the weights it keeps before it uses them.
-/
module

public import proofs.«01_k».proof.Proof.ResultB

@[expose] public section

set_option maxRecDepth 16384

noncomputable section

namespace Conv

open Idealize.ShloMosaic Idealize.ShloMosaic.TcCoe Idealize.SL.Sem
open Cert.KernelIdeal Cert.KernelIdeal.Gen

variable (c : Dev nD) (i : grid0.Coords)
  (arg2 : Memref sig .tc .smem S1x1 .f32) (harg2 : arg2.IsWhole)
  (arg3 : Memref sig .tc .smem S1x1 .f32) (harg3 : arg3.IsWhole)
  (arg4 : Memref sig .tc .smem S1x1 .f32) (harg4 : arg4.IsWhole)
  (arg5 : Memref sig .tc .smem S1x1 .f32) (harg5 : arg5.IsWhole)
  (arg6 : Memref sig .tc .vmem S1x128 .i32) (harg6 : arg6.IsWhole)
  (arg7 : Memref sig .tc .vmem S1x4x64x128 .bf16) (harg7 : arg7.IsWhole)
  (arg8 : Memref sig .tc .vmem S1x4x3072x128 .bf16) (harg8 : arg8.IsWhole)
  (arg9 : Memref sig .tc .vmem S1x4x64x128 .bf16) (harg9 : arg9.IsWhole)
  (arg10 : Memref sig .tc .vmem S1x2x64x128 .fp8e4m3) (harg10 : arg10.IsWhole)
  (arg11 : Memref sig .tc .vmem S1x2x3072x128 .fp8e4m3) (harg11 : arg11.IsWhole)
  (arg12 : Memref sig .tc .vmem S1x2x64x128 .fp8e4m3) (harg12 : arg12.IsWhole)
  (arg13 : Memref sig .tc .vmem S27x256x128 .fp8e4m3) (harg13 : arg13.IsWhole)
  (arg14 : Memref sig .tc .vmem S1x256 .f32) (harg14 : arg14.IsWhole)
  (arg15 : Memref sig .tc .vmem S1x256 .f32) (harg15 : arg15.IsWhole)
  (arg16 : Memref sig .tc .vmem S1x4x3072x256 .bf16) (harg16 : arg16.IsWhole)
  (arg17 : Memref sig .tc .vmem S1x4x3072x128 .fp8e4m3) (harg17 : arg17.IsWhole)
  (arg18 : Memref sig .tc .vmem S1x2x3072x128 .fp8e4m3) (harg18 : arg18.IsWhole)
  (arg19 : Memref sig .tc .vmem S3x6x3200x128 .fp8e4m3) (harg19 : arg19.IsWhole)
  (arg20 : Memref sig .tc .vmem S4x3200x128 .f32) (harg20 : arg20.IsWhole)
  (arg21 : Memref sig .tc .vmem S27x256x128 .fp8e4m3) (harg21 : arg21.IsWhole)
  (arg22 : Memref sig .tc .vmem S3x256x256 .bf16) (harg22 : arg22.IsWhole)
  (x0 : Vec Ideal S1x1 .f32)
  (x1 : Vec Ideal S1x1 .f32)
  (x2 : Vec Ideal S1x1 .f32)
  (x3 : Vec Ideal S1x1 .f32)
  (x4 : Vec Ideal S1x128 .i32)
  (x5 : Vec Ideal S1x4x64x128 .bf16)
  (x6 : Vec Ideal S1x4x3072x128 .bf16)
  (x7 : Vec Ideal S1x4x64x128 .bf16)
  (x8 : Vec Ideal S1x2x64x128 .fp8e4m3)
  (x9 : Vec Ideal S1x2x3072x128 .fp8e4m3)
  (x10 : Vec Ideal S1x2x64x128 .fp8e4m3)
  (x11 : Vec Ideal S27x256x128 .fp8e4m3)
  (x12 : Vec Ideal S1x256 .f32)
  (x13 : Vec Ideal S1x256 .f32)
  (xs2 : Vec Ideal S27x256x128 .fp8e4m3) (xs3 : Vec Ideal S3x256x256 .bf16)

include arg7 harg7 arg8 harg8 arg9 harg9 arg10 harg10 arg11 harg11 arg12 harg12 in
theorem codesOk54A : CodesOk arg19.view (kernelRun0_A.sl.HS0_54 (F := Ideal) c i arg3 harg3 arg7 harg7 arg8 harg8 arg10 harg10 arg11 harg11 x1 x5 x6 x8 x9) (baseB c i arg3 harg3 x1 x5 x6 x7 x8 x9 x10) 2112 :=
  fun _ _ _ inb ho p l => codes_load54 c i arg3 harg3 arg7 harg7 arg8 harg8 arg9 harg9 arg10 harg10 arg11 harg11 arg12 harg12 x1 x5 x6 x7 x8 x9 x10 arg19 inb ho p l

include arg7 harg7 arg8 harg8 arg9 harg9 arg10 harg10 arg11 harg11 arg12 harg12 in
theorem topsOk12A : TopsOk arg20.view (kernelRun0_A.sl.HS1_12 (F := Ideal) c i arg3 harg3 arg6 harg6 arg7 harg7 arg8 harg8 x1 x4 x5 x6) (baseB c i arg3 harg3 x1 x5 x6 x7 x8 x9 x10) (topOf (topsV c arg6 harg6 x4)) 2112 :=
  fun _ _ inb ho p l => tops_load12 c i arg3 harg3 arg6 harg6 arg7 harg7 arg8 harg8 arg9 harg9 arg10 harg10 arg11 harg11 arg12 harg12 x1 x4 x5 x6 x7 x8 x9 x10 arg20 inb ho p l

include arg7 harg7 arg8 harg8 arg9 harg9 arg10 harg10 arg11 harg11 arg12 harg12 in
theorem codesOk72A : CodesOk arg19.view (kernelRun0_A.sl.HS0_72 (F := Ideal) c i arg3 harg3 arg7 harg7 arg8 harg8 arg10 harg10 arg11 harg11 x1 x5 x6 x8 x9) (baseB c i arg3 harg3 x1 x5 x6 x7 x8 x9 x10) 3136 :=
  fun _ _ _ inb ho p l => codes_load72 c i arg3 harg3 arg7 harg7 arg8 harg8 arg9 harg9 arg10 harg10 arg11 harg11 arg12 harg12 x1 x5 x6 x7 x8 x9 x10 arg19 inb ho p l

include arg7 harg7 arg8 harg8 arg9 harg9 arg10 harg10 arg11 harg11 arg12 harg12 in
theorem topsOk16A : TopsOk arg20.view (kernelRun0_A.sl.HS1_16 (F := Ideal) c i arg3 harg3 arg6 harg6 arg7 harg7 arg8 harg8 x1 x4 x5 x6) (baseB c i arg3 harg3 x1 x5 x6 x7 x8 x9 x10) (topOf (topsV c arg6 harg6 x4)) 3136 :=
  fun _ _ inb ho p l => tops_load16 c i arg3 harg3 arg6 harg6 arg7 harg7 arg8 harg8 arg9 harg9 arg10 harg10 arg11 harg11 arg12 harg12 x1 x4 x5 x6 x7 x8 x9 x10 arg20 inb ho p l

include arg7 harg7 arg8 harg8 arg9 harg9 arg10 harg10 arg11 harg11 arg12 harg12 in
theorem codesOk90A : CodesOk arg19.view (kernelRun0_A.sl.HS0_90 (F := Ideal) c i arg3 harg3 arg7 harg7 arg8 harg8 arg9 harg9 arg10 harg10 arg11 harg11 arg12 harg12 x1 x5 x6 x7 x8 x9 x10) (baseB c i arg3 harg3 x1 x5 x6 x7 x8 x9 x10) 3200 :=
  fun _ _ _ inb ho p l => codes_load90 c i arg3 harg3 arg7 harg7 arg8 harg8 arg9 harg9 arg10 harg10 arg11 harg11 arg12 harg12 x1 x5 x6 x7 x8 x9 x10 arg19 inb ho p l

include arg7 harg7 arg8 harg8 arg9 harg9 arg10 harg10 arg11 harg11 arg12 harg12 in
theorem topsOk20A : TopsOk arg20.view (kernelRun0_A.sl.HS1_20 (F := Ideal) c i arg3 harg3 arg6 harg6 arg7 harg7 arg8 harg8 arg9 harg9 x1 x4 x5 x6 x7) (baseB c i arg3 harg3 x1 x5 x6 x7 x8 x9 x10) (topOf (topsV c arg6 harg6 x4)) 3200 :=
  fun _ _ inb ho p l => tops_load20 c i arg3 harg3 arg6 harg6 arg7 harg7 arg8 harg8 arg9 harg9 arg10 harg10 arg11 harg11 arg12 harg12 x1 x4 x5 x6 x7 x8 x9 x10 arg20 inb ho p l

/-- A tap's weights without the four channels, read back from the stores that built them. -/
theorem wReadA (t : Fin 27) (o : Fin 256) (l : Fin 128) :
    arg21.view.readCov (kernelRun0_A.sl.HS2_27 (F := Ideal) c arg6 harg6 arg13 harg13 x4 x11) (Rect.unit (s := S27x256x128) ![(t : ℕ), 0, 0] S1x256x128.size (inbW t)).toLoadRect (ix3 0 o l)
      = Rest (topsV c arg6 harg6 x4) x11 (ix3 t o l) := by
  rw [View.readCov_eq_canon']
  refine (rest_canon c arg6 harg6 arg13 harg13 x4 x11 _).trans ?_
  exact blk3 (Rest (topsV c arg6 harg6 x4) x11) t t.isLt (inbW t) o l

/-- A plane of the gathered weights, read back from the stores that built it. -/
theorem dReadA (k : ℕ) (hk : k < 3) (inb : ∀ a, ![k, 0, 0] a + S1x256x256.size a ≤ S3x256x256.size a) (o l : Fin 256) :
    arg22.view.readCov (kernelRun0_A.sl.HS3_6 (F := Ideal) c arg6 harg6 arg13 harg13 x4 x11) (Rect.unit (s := S3x256x256) ![k, 0, 0] S1x256x256.size inb).toLoadRect (ix3 0 o l)
      = Wide (topsV c arg6 harg6 x4) x11 (ix3 ⟨k, hk⟩ o l) := by
  rw [View.readCov_eq_canon']
  refine (wide_canon c arg6 harg6 arg13 harg13 x4 x11 _).trans ?_
  exact blk3 (m := 256) (Wide (topsV c arg6 harg6 x4) x11) k hk inb o l

include arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 in
set_option maxHeartbeats 8000000 in
/-- Every store of the result stores the result. -/
theorem y_pieces_A (hc0 : cond0_0 i) :
    View.PiecesOf (Yblk (baseB c i arg3 harg3 x1 x5 x6 x7 x8 x9 x10) (topOf (topsV c arg6 harg6 x4)) x11 (Rest (topsV c arg6 harg6 x4) x11) (Wide (topsV c arg6 harg6 x4) x11) (gxV c arg2 harg2 arg14 harg14 x0 x12) (gxV c arg5 harg5 arg14 harg14 x3 x12) (biasV c arg15 harg15 x13))
      (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).1 :=
  ⟨y_piece3 (codesOk90A c i arg3 harg3 arg7 harg7 arg8 harg8 arg9 harg9 arg10 harg10 arg11 harg11 arg12 harg12 arg19 x1 x5 x6 x7 x8 x9 x10) (topsOk20A c i arg3 harg3 arg6 harg6 arg7 harg7 arg8 harg8 arg9 harg9 arg10 harg10 arg11 harg11 arg12 harg12 arg20 x1 x4 x5 x6 x7 x8 x9 x10) 2048 (by decide) (by decide) (wr := fun t => arg21.view.readCov (kernelRun0_A.sl.HS2_27 (F := Ideal) c arg6 harg6 arg13 harg13 x4 x11) (Rect.unit (s := S27x256x128) ![(t : ℕ), 0, 0] S1x256x128.size (inbW t)).toLoadRect) (wReadA c arg6 harg6 arg13 harg13 arg21 x4 x11) (wc := fun t => View.readAt (Elt Ideal) arg13.view (Rect.unit (s := S27x256x128) ![(t : ℕ), 0, 0] S1x256x128.size (inbW t)).toLoadRect (harg13.unread x11)) (wRead arg13 harg13 x11) (dReadA c arg6 harg6 arg13 harg13 arg22 x4 x11 1 (by decide) inb_S3x256x256_S1x256x256_1_0_0) (gxV c arg2 harg2 arg14 harg14 x0 x12) (gxV c arg5 harg5 arg14 harg14 x3 x12) (biasV c arg15 harg15 x13) inb_S1x4x3072x256_S1x1x1024x256_0_3_2048_0,
   y_piece2 (codesOk90A c i arg3 harg3 arg7 harg7 arg8 harg8 arg9 harg9 arg10 harg10 arg11 harg11 arg12 harg12 arg19 x1 x5 x6 x7 x8 x9 x10) (topsOk20A c i arg3 harg3 arg6 harg6 arg7 harg7 arg8 harg8 arg9 harg9 arg10 harg10 arg11 harg11 arg12 harg12 arg20 x1 x4 x5 x6 x7 x8 x9 x10) 2048 (by decide) (by decide) (wr := fun t => arg21.view.readCov (kernelRun0_A.sl.HS2_27 (F := Ideal) c arg6 harg6 arg13 harg13 x4 x11) (Rect.unit (s := S27x256x128) ![(t : ℕ), 0, 0] S1x256x128.size (inbW t)).toLoadRect) (wReadA c arg6 harg6 arg13 harg13 arg21 x4 x11) (wc := fun t => View.readAt (Elt Ideal) arg13.view (Rect.unit (s := S27x256x128) ![(t : ℕ), 0, 0] S1x256x128.size (inbW t)).toLoadRect (harg13.unread x11)) (wRead arg13 harg13 x11) (dReadA c arg6 harg6 arg13 harg13 arg22 x4 x11 1 (by decide) inb_S3x256x256_S1x256x256_1_0_0) (gxV c arg2 harg2 arg14 harg14 x0 x12) (gxV c arg5 harg5 arg14 harg14 x3 x12) (biasV c arg15 harg15 x13) inb_S1x4x3072x256_S1x1x1024x256_0_2_2048_0,
   y_piece1 (codesOk90A c i arg3 harg3 arg7 harg7 arg8 harg8 arg9 harg9 arg10 harg10 arg11 harg11 arg12 harg12 arg19 x1 x5 x6 x7 x8 x9 x10) (topsOk20A c i arg3 harg3 arg6 harg6 arg7 harg7 arg8 harg8 arg9 harg9 arg10 harg10 arg11 harg11 arg12 harg12 arg20 x1 x4 x5 x6 x7 x8 x9 x10) 2048 (by decide) (by decide) (wr := fun t => arg21.view.readCov (kernelRun0_A.sl.HS2_27 (F := Ideal) c arg6 harg6 arg13 harg13 x4 x11) (Rect.unit (s := S27x256x128) ![(t : ℕ), 0, 0] S1x256x128.size (inbW t)).toLoadRect) (wReadA c arg6 harg6 arg13 harg13 arg21 x4 x11) (wc := fun t => View.readAt (Elt Ideal) arg13.view (Rect.unit (s := S27x256x128) ![(t : ℕ), 0, 0] S1x256x128.size (inbW t)).toLoadRect (harg13.unread x11)) (wRead arg13 harg13 x11) (dReadA c arg6 harg6 arg13 harg13 arg22 x4 x11 2 (by decide) inb_S3x256x256_S1x256x256_2_0_0) (gxV c arg2 harg2 arg14 harg14 x0 x12) (gxV c arg5 harg5 arg14 harg14 x3 x12) (biasV c arg15 harg15 x13) inb_S1x4x3072x256_S1x1x1024x256_0_1_2048_0,
   y_piece0 (codesOk90A c i arg3 harg3 arg7 harg7 arg8 harg8 arg9 harg9 arg10 harg10 arg11 harg11 arg12 harg12 arg19 x1 x5 x6 x7 x8 x9 x10) (topsOk20A c i arg3 harg3 arg6 harg6 arg7 harg7 arg8 harg8 arg9 harg9 arg10 harg10 arg11 harg11 arg12 harg12 arg20 x1 x4 x5 x6 x7 x8 x9 x10) 2048 (by decide) (by decide) (wr := fun t => arg21.view.readCov (kernelRun0_A.sl.HS2_27 (F := Ideal) c arg6 harg6 arg13 harg13 x4 x11) (Rect.unit (s := S27x256x128) ![(t : ℕ), 0, 0] S1x256x128.size (inbW t)).toLoadRect) (wReadA c arg6 harg6 arg13 harg13 arg21 x4 x11) (wc := fun t => View.readAt (Elt Ideal) arg13.view (Rect.unit (s := S27x256x128) ![(t : ℕ), 0, 0] S1x256x128.size (inbW t)).toLoadRect (harg13.unread x11)) (wRead arg13 harg13 x11) (dReadA c arg6 harg6 arg13 harg13 arg22 x4 x11 0 (by decide) inb_S3x256x256_S1x256x256_0_0_0) (gxV c arg2 harg2 arg14 harg14 x0 x12) (gxV c arg5 harg5 arg14 harg14 x3 x12) (biasV c arg15 harg15 x13) inb_S1x4x3072x256_S1x1x1024x256_0_0_2048_0,
   y_piece3 (codesOk72A c i arg3 harg3 arg7 harg7 arg8 harg8 arg9 harg9 arg10 harg10 arg11 harg11 arg12 harg12 arg19 x1 x5 x6 x7 x8 x9 x10) (topsOk16A c i arg3 harg3 arg6 harg6 arg7 harg7 arg8 harg8 arg9 harg9 arg10 harg10 arg11 harg11 arg12 harg12 arg20 x1 x4 x5 x6 x7 x8 x9 x10) 1024 (by decide) (by decide) (wr := fun t => arg21.view.readCov (kernelRun0_A.sl.HS2_27 (F := Ideal) c arg6 harg6 arg13 harg13 x4 x11) (Rect.unit (s := S27x256x128) ![(t : ℕ), 0, 0] S1x256x128.size (inbW t)).toLoadRect) (wReadA c arg6 harg6 arg13 harg13 arg21 x4 x11) (wc := fun t => View.readAt (Elt Ideal) arg13.view (Rect.unit (s := S27x256x128) ![(t : ℕ), 0, 0] S1x256x128.size (inbW t)).toLoadRect (harg13.unread x11)) (wRead arg13 harg13 x11) (dReadA c arg6 harg6 arg13 harg13 arg22 x4 x11 1 (by decide) inb_S3x256x256_S1x256x256_1_0_0) (gxV c arg2 harg2 arg14 harg14 x0 x12) (gxV c arg5 harg5 arg14 harg14 x3 x12) (biasV c arg15 harg15 x13) inb_S1x4x3072x256_S1x1x1024x256_0_3_1024_0,
   y_piece2 (codesOk72A c i arg3 harg3 arg7 harg7 arg8 harg8 arg9 harg9 arg10 harg10 arg11 harg11 arg12 harg12 arg19 x1 x5 x6 x7 x8 x9 x10) (topsOk16A c i arg3 harg3 arg6 harg6 arg7 harg7 arg8 harg8 arg9 harg9 arg10 harg10 arg11 harg11 arg12 harg12 arg20 x1 x4 x5 x6 x7 x8 x9 x10) 1024 (by decide) (by decide) (wr := fun t => arg21.view.readCov (kernelRun0_A.sl.HS2_27 (F := Ideal) c arg6 harg6 arg13 harg13 x4 x11) (Rect.unit (s := S27x256x128) ![(t : ℕ), 0, 0] S1x256x128.size (inbW t)).toLoadRect) (wReadA c arg6 harg6 arg13 harg13 arg21 x4 x11) (wc := fun t => View.readAt (Elt Ideal) arg13.view (Rect.unit (s := S27x256x128) ![(t : ℕ), 0, 0] S1x256x128.size (inbW t)).toLoadRect (harg13.unread x11)) (wRead arg13 harg13 x11) (dReadA c arg6 harg6 arg13 harg13 arg22 x4 x11 1 (by decide) inb_S3x256x256_S1x256x256_1_0_0) (gxV c arg2 harg2 arg14 harg14 x0 x12) (gxV c arg5 harg5 arg14 harg14 x3 x12) (biasV c arg15 harg15 x13) inb_S1x4x3072x256_S1x1x1024x256_0_2_1024_0,
   y_piece1 (codesOk72A c i arg3 harg3 arg7 harg7 arg8 harg8 arg9 harg9 arg10 harg10 arg11 harg11 arg12 harg12 arg19 x1 x5 x6 x7 x8 x9 x10) (topsOk16A c i arg3 harg3 arg6 harg6 arg7 harg7 arg8 harg8 arg9 harg9 arg10 harg10 arg11 harg11 arg12 harg12 arg20 x1 x4 x5 x6 x7 x8 x9 x10) 1024 (by decide) (by decide) (wr := fun t => arg21.view.readCov (kernelRun0_A.sl.HS2_27 (F := Ideal) c arg6 harg6 arg13 harg13 x4 x11) (Rect.unit (s := S27x256x128) ![(t : ℕ), 0, 0] S1x256x128.size (inbW t)).toLoadRect) (wReadA c arg6 harg6 arg13 harg13 arg21 x4 x11) (wc := fun t => View.readAt (Elt Ideal) arg13.view (Rect.unit (s := S27x256x128) ![(t : ℕ), 0, 0] S1x256x128.size (inbW t)).toLoadRect (harg13.unread x11)) (wRead arg13 harg13 x11) (dReadA c arg6 harg6 arg13 harg13 arg22 x4 x11 2 (by decide) inb_S3x256x256_S1x256x256_2_0_0) (gxV c arg2 harg2 arg14 harg14 x0 x12) (gxV c arg5 harg5 arg14 harg14 x3 x12) (biasV c arg15 harg15 x13) inb_S1x4x3072x256_S1x1x1024x256_0_1_1024_0,
   y_piece0 (codesOk72A c i arg3 harg3 arg7 harg7 arg8 harg8 arg9 harg9 arg10 harg10 arg11 harg11 arg12 harg12 arg19 x1 x5 x6 x7 x8 x9 x10) (topsOk16A c i arg3 harg3 arg6 harg6 arg7 harg7 arg8 harg8 arg9 harg9 arg10 harg10 arg11 harg11 arg12 harg12 arg20 x1 x4 x5 x6 x7 x8 x9 x10) 1024 (by decide) (by decide) (wr := fun t => arg21.view.readCov (kernelRun0_A.sl.HS2_27 (F := Ideal) c arg6 harg6 arg13 harg13 x4 x11) (Rect.unit (s := S27x256x128) ![(t : ℕ), 0, 0] S1x256x128.size (inbW t)).toLoadRect) (wReadA c arg6 harg6 arg13 harg13 arg21 x4 x11) (wc := fun t => View.readAt (Elt Ideal) arg13.view (Rect.unit (s := S27x256x128) ![(t : ℕ), 0, 0] S1x256x128.size (inbW t)).toLoadRect (harg13.unread x11)) (wRead arg13 harg13 x11) (dReadA c arg6 harg6 arg13 harg13 arg22 x4 x11 0 (by decide) inb_S3x256x256_S1x256x256_0_0_0) (gxV c arg2 harg2 arg14 harg14 x0 x12) (gxV c arg5 harg5 arg14 harg14 x3 x12) (biasV c arg15 harg15 x13) inb_S1x4x3072x256_S1x1x1024x256_0_0_1024_0,
   y_piece3 (codesOk54A c i arg3 harg3 arg7 harg7 arg8 harg8 arg9 harg9 arg10 harg10 arg11 harg11 arg12 harg12 arg19 x1 x5 x6 x7 x8 x9 x10) (topsOk12A c i arg3 harg3 arg6 harg6 arg7 harg7 arg8 harg8 arg9 harg9 arg10 harg10 arg11 harg11 arg12 harg12 arg20 x1 x4 x5 x6 x7 x8 x9 x10) 0 (by decide) (by decide) (wr := fun t => arg21.view.readCov (kernelRun0_A.sl.HS2_27 (F := Ideal) c arg6 harg6 arg13 harg13 x4 x11) (Rect.unit (s := S27x256x128) ![(t : ℕ), 0, 0] S1x256x128.size (inbW t)).toLoadRect) (wReadA c arg6 harg6 arg13 harg13 arg21 x4 x11) (wc := fun t => View.readAt (Elt Ideal) arg13.view (Rect.unit (s := S27x256x128) ![(t : ℕ), 0, 0] S1x256x128.size (inbW t)).toLoadRect (harg13.unread x11)) (wRead arg13 harg13 x11) (dReadA c arg6 harg6 arg13 harg13 arg22 x4 x11 1 (by decide) inb_S3x256x256_S1x256x256_1_0_0) (gxV c arg2 harg2 arg14 harg14 x0 x12) (gxV c arg5 harg5 arg14 harg14 x3 x12) (biasV c arg15 harg15 x13) inb_S1x4x3072x256_S1x1x1024x256_0_3_0_0,
   y_piece2 (codesOk54A c i arg3 harg3 arg7 harg7 arg8 harg8 arg9 harg9 arg10 harg10 arg11 harg11 arg12 harg12 arg19 x1 x5 x6 x7 x8 x9 x10) (topsOk12A c i arg3 harg3 arg6 harg6 arg7 harg7 arg8 harg8 arg9 harg9 arg10 harg10 arg11 harg11 arg12 harg12 arg20 x1 x4 x5 x6 x7 x8 x9 x10) 0 (by decide) (by decide) (wr := fun t => arg21.view.readCov (kernelRun0_A.sl.HS2_27 (F := Ideal) c arg6 harg6 arg13 harg13 x4 x11) (Rect.unit (s := S27x256x128) ![(t : ℕ), 0, 0] S1x256x128.size (inbW t)).toLoadRect) (wReadA c arg6 harg6 arg13 harg13 arg21 x4 x11) (wc := fun t => View.readAt (Elt Ideal) arg13.view (Rect.unit (s := S27x256x128) ![(t : ℕ), 0, 0] S1x256x128.size (inbW t)).toLoadRect (harg13.unread x11)) (wRead arg13 harg13 x11) (dReadA c arg6 harg6 arg13 harg13 arg22 x4 x11 1 (by decide) inb_S3x256x256_S1x256x256_1_0_0) (gxV c arg2 harg2 arg14 harg14 x0 x12) (gxV c arg5 harg5 arg14 harg14 x3 x12) (biasV c arg15 harg15 x13) inb_S1x4x3072x256_S1x1x1024x256_0_2_0_0,
   y_piece1 (codesOk54A c i arg3 harg3 arg7 harg7 arg8 harg8 arg9 harg9 arg10 harg10 arg11 harg11 arg12 harg12 arg19 x1 x5 x6 x7 x8 x9 x10) (topsOk12A c i arg3 harg3 arg6 harg6 arg7 harg7 arg8 harg8 arg9 harg9 arg10 harg10 arg11 harg11 arg12 harg12 arg20 x1 x4 x5 x6 x7 x8 x9 x10) 0 (by decide) (by decide) (wr := fun t => arg21.view.readCov (kernelRun0_A.sl.HS2_27 (F := Ideal) c arg6 harg6 arg13 harg13 x4 x11) (Rect.unit (s := S27x256x128) ![(t : ℕ), 0, 0] S1x256x128.size (inbW t)).toLoadRect) (wReadA c arg6 harg6 arg13 harg13 arg21 x4 x11) (wc := fun t => View.readAt (Elt Ideal) arg13.view (Rect.unit (s := S27x256x128) ![(t : ℕ), 0, 0] S1x256x128.size (inbW t)).toLoadRect (harg13.unread x11)) (wRead arg13 harg13 x11) (dReadA c arg6 harg6 arg13 harg13 arg22 x4 x11 2 (by decide) inb_S3x256x256_S1x256x256_2_0_0) (gxV c arg2 harg2 arg14 harg14 x0 x12) (gxV c arg5 harg5 arg14 harg14 x3 x12) (biasV c arg15 harg15 x13) inb_S1x4x3072x256_S1x1x1024x256_0_1_0_0,
   y_piece0 (codesOk54A c i arg3 harg3 arg7 harg7 arg8 harg8 arg9 harg9 arg10 harg10 arg11 harg11 arg12 harg12 arg19 x1 x5 x6 x7 x8 x9 x10) (topsOk12A c i arg3 harg3 arg6 harg6 arg7 harg7 arg8 harg8 arg9 harg9 arg10 harg10 arg11 harg11 arg12 harg12 arg20 x1 x4 x5 x6 x7 x8 x9 x10) 0 (by decide) (by decide) (wr := fun t => arg21.view.readCov (kernelRun0_A.sl.HS2_27 (F := Ideal) c arg6 harg6 arg13 harg13 x4 x11) (Rect.unit (s := S27x256x128) ![(t : ℕ), 0, 0] S1x256x128.size (inbW t)).toLoadRect) (wReadA c arg6 harg6 arg13 harg13 arg21 x4 x11) (wc := fun t => View.readAt (Elt Ideal) arg13.view (Rect.unit (s := S27x256x128) ![(t : ℕ), 0, 0] S1x256x128.size (inbW t)).toLoadRect (harg13.unread x11)) (wRead arg13 harg13 x11) (dReadA c arg6 harg6 arg13 harg13 arg22 x4 x11 0 (by decide) inb_S3x256x256_S1x256x256_0_0_0) (gxV c arg2 harg2 arg14 harg14 x0 x12) (gxV c arg5 harg5 arg14 harg14 x3 x12) (biasV c arg15 harg15 x13) inb_S1x4x3072x256_S1x1x1024x256_0_0_0_0,
   trivial⟩

end Conv
-- ==== Proof.Kept.lean ====
/-
  The stores of the codes that the convolution returns: of the input, and of the frames kept for the next call.
-/
module

public import proofs.«01_k».proof.Proof.Codes

@[expose] public section

set_option maxRecDepth 16384

noncomputable section

namespace Conv

open Idealize.ShloMosaic Idealize.ShloMosaic.TcCoe Idealize.SL.Sem
open Cert.KernelIdeal Cert.KernelIdeal.Gen

variable (c : Dev nD) (i : grid0.Coords)
  (arg2 : Memref sig .tc .smem S1x1 .f32) (harg2 : arg2.IsWhole)
  (arg3 : Memref sig .tc .smem S1x1 .f32) (harg3 : arg3.IsWhole)
  (arg4 : Memref sig .tc .smem S1x1 .f32) (harg4 : arg4.IsWhole)
  (arg5 : Memref sig .tc .smem S1x1 .f32) (harg5 : arg5.IsWhole)
  (arg6 : Memref sig .tc .vmem S1x128 .i32) (harg6 : arg6.IsWhole)
  (arg7 : Memref sig .tc .vmem S1x4x64x128 .bf16) (harg7 : arg7.IsWhole)
  (arg8 : Memref sig .tc .vmem S1x4x3072x128 .bf16) (harg8 : arg8.IsWhole)
  (arg9 : Memref sig .tc .vmem S1x4x64x128 .bf16) (harg9 : arg9.IsWhole)
  (arg10 : Memref sig .tc .vmem S1x2x64x128 .fp8e4m3) (harg10 : arg10.IsWhole)
  (arg11 : Memref sig .tc .vmem S1x2x3072x128 .fp8e4m3) (harg11 : arg11.IsWhole)
  (arg12 : Memref sig .tc .vmem S1x2x64x128 .fp8e4m3) (harg12 : arg12.IsWhole)
  (arg13 : Memref sig .tc .vmem S27x256x128 .fp8e4m3) (harg13 : arg13.IsWhole)
  (arg14 : Memref sig .tc .vmem S1x256 .f32) (harg14 : arg14.IsWhole)
  (arg15 : Memref sig .tc .vmem S1x256 .f32) (harg15 : arg15.IsWhole)
  (arg16 : Memref sig .tc .vmem S1x4x3072x256 .bf16) (harg16 : arg16.IsWhole)
  (arg17 : Memref sig .tc .vmem S1x4x3072x128 .fp8e4m3) (harg17 : arg17.IsWhole)
  (arg18 : Memref sig .tc .vmem S1x2x3072x128 .fp8e4m3) (harg18 : arg18.IsWhole)
  (arg19 : Memref sig .tc .vmem S3x6x3200x128 .fp8e4m3) (harg19 : arg19.IsWhole)
  (arg20 : Memref sig .tc .vmem S4x3200x128 .f32) (harg20 : arg20.IsWhole)
  (arg21 : Memref sig .tc .vmem S27x256x128 .fp8e4m3) (harg21 : arg21.IsWhole)
  (arg22 : Memref sig .tc .vmem S3x256x256 .bf16) (harg22 : arg22.IsWhole)
  (x0 : Vec Ideal S1x1 .f32)
  (x1 : Vec Ideal S1x1 .f32)
  (x2 : Vec Ideal S1x1 .f32)
  (x3 : Vec Ideal S1x1 .f32)
  (x4 : Vec Ideal S1x128 .i32)
  (x5 : Vec Ideal S1x4x64x128 .bf16)
  (x6 : Vec Ideal S1x4x3072x128 .bf16)
  (x7 : Vec Ideal S1x4x64x128 .bf16)
  (x8 : Vec Ideal S1x2x64x128 .fp8e4m3)
  (x9 : Vec Ideal S1x2x3072x128 .fp8e4m3)
  (x10 : Vec Ideal S1x2x64x128 .fp8e4m3)
  (x11 : Vec Ideal S27x256x128 .fp8e4m3)
  (x12 : Vec Ideal S1x256 .f32)
  (x13 : Vec Ideal S1x256 .f32)
  (xs2 : Vec Ideal S27x256x128 .fp8e4m3) (xs3 : Vec Ideal S3x256x256 .bf16)

/-- The quantised pixels of a block, `d` frames on. -/
def Kept {n : ℕ} (inv : EReal) (x6 : Vec Ideal S1x4x3072x128 .bf16) (d : ℕ) (z : (⟨4, ![1, n, 3072, 128]⟩ : Shape).Idx) : EReal :=
  quant inv (rd x6 ((z 1 : ℕ) + d) (z 2) (z 3))

/-- A store of quantised pixels. -/
theorem kept_piece {n : ℕ} (arg8 : Memref sig .tc .vmem S1x4x3072x128 .bf16) (harg8 : arg8.IsWhole) (x6 : Vec Ideal S1x4x3072x128 .bf16) (inv : EReal) (d f g off : ℕ) (hg : g = f + d)
    (inbr : ∀ a, ![0, g, off, 0] a + S1x1x1024x128.size a ≤ S1x4x3072x128.size a)
    (inb : ∀ a, ![0, f, off, 0] a + S1x1x1024x128.size a ≤ (⟨4, ![1, n, 3072, 128]⟩ : Shape).size a) (y : S1x1x1024x128.Idx) :
    k0_pay229 (F := Ideal) inv (View.readAt (Elt Ideal) arg8.view (Rect.unit (s := S1x4x3072x128) ![0, g, off, 0] S1x1x1024x128.size inbr).toLoadRect (harg8.unread x6)) y
      = Kept inv x6 d ((Rect.unit (s := ⟨4, ![1, n, 3072, 128]⟩) ![0, f, off, 0] S1x1x1024x128.size inb).emb y) := by
  idx_vars y
  obtain rfl := Subsingleton.elim y0 0
  obtain rfl := Subsingleton.elim y1 0
  have e : ∀ a, ((Rect.unit (s := ⟨4, ![1, n, 3072, 128]⟩) ![0, f, off, 0] S1x1x1024x128.size inb).emb (ix4 0 0 y2 y3) a : ℕ)
      = ![0, f, off, 0] a + ((ix4 0 0 y2 y3 : S1x1x1024x128.Idx) a : ℕ) :=
    fun a => Rect.idx_unit_val _ _ _ _ a
  have e1 := (e 1).trans (Nat.add_zero f)
  have e2 := e 2
  have e3 := (e 3).trans (Nat.zero_add (y3 : ℕ))
  unfold Kept
  rw [e1, e2, e3]
  pointwise [k0_pay229, k0_pay228]
  rw [harg8.readAt_unread, idx4 g off inbr y2 y3 x6 _ rfl, hg]
  rfl

/-- The other scale's reciprocal. -/
abbrev invN : EReal := kernelRun0_B.sl.r_5 (F := Ideal) c arg4 harg4 x2

include arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 in
set_option maxHeartbeats 4000000 in
/-- The input's codes, all stores of a grid point. -/
theorem xc_pieces_A (hc0 : cond0_0 i) :
    View.PiecesOf (Kept (n := 4) (invB c arg3 harg3 x1) x6 0)
      (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.1 :=
  ⟨kept_piece arg8 harg8 x6 (invB c arg3 harg3 x1) 0 3 3 2048 rfl inb_S1x4x3072x128_S1x1x1024x128_0_3_2048_0 inb_S1x4x3072x128_S1x1x1024x128_0_3_2048_0,
   kept_piece arg8 harg8 x6 (invB c arg3 harg3 x1) 0 2 2 2048 rfl inb_S1x4x3072x128_S1x1x1024x128_0_2_2048_0 inb_S1x4x3072x128_S1x1x1024x128_0_2_2048_0,
   kept_piece arg8 harg8 x6 (invB c arg3 harg3 x1) 0 1 1 2048 rfl inb_S1x4x3072x128_S1x1x1024x128_0_1_2048_0 inb_S1x4x3072x128_S1x1x1024x128_0_1_2048_0,
   kept_piece arg8 harg8 x6 (invB c arg3 harg3 x1) 0 0 0 2048 rfl inb_S1x4x3072x128_S1x1x1024x128_0_0_2048_0 inb_S1x4x3072x128_S1x1x1024x128_0_0_2048_0,
   kept_piece arg8 harg8 x6 (invB c arg3 harg3 x1) 0 3 3 1024 rfl inb_S1x4x3072x128_S1x1x1024x128_0_3_1024_0 inb_S1x4x3072x128_S1x1x1024x128_0_3_1024_0,
   kept_piece arg8 harg8 x6 (invB c arg3 harg3 x1) 0 2 2 1024 rfl inb_S1x4x3072x128_S1x1x1024x128_0_2_1024_0 inb_S1x4x3072x128_S1x1x1024x128_0_2_1024_0,
   kept_piece arg8 harg8 x6 (invB c arg3 harg3 x1) 0 1 1 1024 rfl inb_S1x4x3072x128_S1x1x1024x128_0_1_1024_0 inb_S1x4x3072x128_S1x1x1024x128_0_1_1024_0,
   kept_piece arg8 harg8 x6 (invB c arg3 harg3 x1) 0 0 0 1024 rfl inb_S1x4x3072x128_S1x1x1024x128_0_0_1024_0 inb_S1x4x3072x128_S1x1x1024x128_0_0_1024_0,
   kept_piece arg8 harg8 x6 (invB c arg3 harg3 x1) 0 3 3 0 rfl inb_S1x4x3072x128_S1x1x1024x128_0_3_0_0 inb_S1x4x3072x128_S1x1x1024x128_0_3_0_0,
   kept_piece arg8 harg8 x6 (invB c arg3 harg3 x1) 0 2 2 0 rfl inb_S1x4x3072x128_S1x1x1024x128_0_2_0_0 inb_S1x4x3072x128_S1x1x1024x128_0_2_0_0,
   kept_piece arg8 harg8 x6 (invB c arg3 harg3 x1) 0 1 1 0 rfl inb_S1x4x3072x128_S1x1x1024x128_0_1_0_0 inb_S1x4x3072x128_S1x1x1024x128_0_1_0_0,
   kept_piece arg8 harg8 x6 (invB c arg3 harg3 x1) 0 0 0 0 rfl inb_S1x4x3072x128_S1x1x1024x128_0_0_0_0 inb_S1x4x3072x128_S1x1x1024x128_0_0_0_0,
   trivial⟩

include arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 in
set_option maxHeartbeats 4000000 in
/-- The kept frames' codes, all stores of a grid point. -/
theorem nc_pieces_A (hc0 : cond0_0 i) :
    View.PiecesOf (Kept (n := 2) (invN c arg4 harg4 x2) x6 2)
      (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.1 :=
  ⟨kept_piece arg8 harg8 x6 (invN c arg4 harg4 x2) 2 1 3 2048 rfl inb_S1x4x3072x128_S1x1x1024x128_0_3_2048_0 inb_S1x2x3072x128_S1x1x1024x128_0_1_2048_0,
   kept_piece arg8 harg8 x6 (invN c arg4 harg4 x2) 2 0 2 2048 rfl inb_S1x4x3072x128_S1x1x1024x128_0_2_2048_0 inb_S1x2x3072x128_S1x1x1024x128_0_0_2048_0,
   kept_piece arg8 harg8 x6 (invN c arg4 harg4 x2) 2 1 3 1024 rfl inb_S1x4x3072x128_S1x1x1024x128_0_3_1024_0 inb_S1x2x3072x128_S1x1x1024x128_0_1_1024_0,
   kept_piece arg8 harg8 x6 (invN c arg4 harg4 x2) 2 0 2 1024 rfl inb_S1x4x3072x128_S1x1x1024x128_0_2_1024_0 inb_S1x2x3072x128_S1x1x1024x128_0_0_1024_0,
   kept_piece arg8 harg8 x6 (invN c arg4 harg4 x2) 2 1 3 0 rfl inb_S1x4x3072x128_S1x1x1024x128_0_3_0_0 inb_S1x2x3072x128_S1x1x1024x128_0_1_0_0,
   kept_piece arg8 harg8 x6 (invN c arg4 harg4 x2) 2 0 2 0 rfl inb_S1x4x3072x128_S1x1x1024x128_0_2_0_0 inb_S1x2x3072x128_S1x1x1024x128_0_0_0_0,
   trivial⟩

include arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 in
set_option maxHeartbeats 4000000 in
/-- The input's codes, all stores of a grid point. -/
theorem xc_pieces_B (hc0 : ¬cond0_0 i) :
    View.PiecesOf (Kept (n := 4) (invB c arg3 harg3 x1) x6 0)
      (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs2 xs3).2.1 :=
  ⟨kept_piece arg8 harg8 x6 (invB c arg3 harg3 x1) 0 3 3 2048 rfl inb_S1x4x3072x128_S1x1x1024x128_0_3_2048_0 inb_S1x4x3072x128_S1x1x1024x128_0_3_2048_0,
   kept_piece arg8 harg8 x6 (invB c arg3 harg3 x1) 0 2 2 2048 rfl inb_S1x4x3072x128_S1x1x1024x128_0_2_2048_0 inb_S1x4x3072x128_S1x1x1024x128_0_2_2048_0,
   kept_piece arg8 harg8 x6 (invB c arg3 harg3 x1) 0 1 1 2048 rfl inb_S1x4x3072x128_S1x1x1024x128_0_1_2048_0 inb_S1x4x3072x128_S1x1x1024x128_0_1_2048_0,
   kept_piece arg8 harg8 x6 (invB c arg3 harg3 x1) 0 0 0 2048 rfl inb_S1x4x3072x128_S1x1x1024x128_0_0_2048_0 inb_S1x4x3072x128_S1x1x1024x128_0_0_2048_0,
   kept_piece arg8 harg8 x6 (invB c arg3 harg3 x1) 0 3 3 1024 rfl inb_S1x4x3072x128_S1x1x1024x128_0_3_1024_0 inb_S1x4x3072x128_S1x1x1024x128_0_3_1024_0,
   kept_piece arg8 harg8 x6 (invB c arg3 harg3 x1) 0 2 2 1024 rfl inb_S1x4x3072x128_S1x1x1024x128_0_2_1024_0 inb_S1x4x3072x128_S1x1x1024x128_0_2_1024_0,
   kept_piece arg8 harg8 x6 (invB c arg3 harg3 x1) 0 1 1 1024 rfl inb_S1x4x3072x128_S1x1x1024x128_0_1_1024_0 inb_S1x4x3072x128_S1x1x1024x128_0_1_1024_0,
   kept_piece arg8 harg8 x6 (invB c arg3 harg3 x1) 0 0 0 1024 rfl inb_S1x4x3072x128_S1x1x1024x128_0_0_1024_0 inb_S1x4x3072x128_S1x1x1024x128_0_0_1024_0,
   kept_piece arg8 harg8 x6 (invB c arg3 harg3 x1) 0 3 3 0 rfl inb_S1x4x3072x128_S1x1x1024x128_0_3_0_0 inb_S1x4x3072x128_S1x1x1024x128_0_3_0_0,
   kept_piece arg8 harg8 x6 (invB c arg3 harg3 x1) 0 2 2 0 rfl inb_S1x4x3072x128_S1x1x1024x128_0_2_0_0 inb_S1x4x3072x128_S1x1x1024x128_0_2_0_0,
   kept_piece arg8 harg8 x6 (invB c arg3 harg3 x1) 0 1 1 0 rfl inb_S1x4x3072x128_S1x1x1024x128_0_1_0_0 inb_S1x4x3072x128_S1x1x1024x128_0_1_0_0,
   kept_piece arg8 harg8 x6 (invB c arg3 harg3 x1) 0 0 0 0 rfl inb_S1x4x3072x128_S1x1x1024x128_0_0_0_0 inb_S1x4x3072x128_S1x1x1024x128_0_0_0_0,
   trivial⟩

include arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 in
set_option maxHeartbeats 4000000 in
/-- The kept frames' codes, all stores of a grid point. -/
theorem nc_pieces_B (hc0 : ¬cond0_0 i) :
    View.PiecesOf (Kept (n := 2) (invN c arg4 harg4 x2) x6 2)
      (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs2 xs3).2.2.1 :=
  ⟨kept_piece arg8 harg8 x6 (invN c arg4 harg4 x2) 2 1 3 2048 rfl inb_S1x4x3072x128_S1x1x1024x128_0_3_2048_0 inb_S1x2x3072x128_S1x1x1024x128_0_1_2048_0,
   kept_piece arg8 harg8 x6 (invN c arg4 harg4 x2) 2 0 2 2048 rfl inb_S1x4x3072x128_S1x1x1024x128_0_2_2048_0 inb_S1x2x3072x128_S1x1x1024x128_0_0_2048_0,
   kept_piece arg8 harg8 x6 (invN c arg4 harg4 x2) 2 1 3 1024 rfl inb_S1x4x3072x128_S1x1x1024x128_0_3_1024_0 inb_S1x2x3072x128_S1x1x1024x128_0_1_1024_0,
   kept_piece arg8 harg8 x6 (invN c arg4 harg4 x2) 2 0 2 1024 rfl inb_S1x4x3072x128_S1x1x1024x128_0_2_1024_0 inb_S1x2x3072x128_S1x1x1024x128_0_0_1024_0,
   kept_piece arg8 harg8 x6 (invN c arg4 harg4 x2) 2 1 3 0 rfl inb_S1x4x3072x128_S1x1x1024x128_0_3_0_0 inb_S1x2x3072x128_S1x1x1024x128_0_1_0_0,
   kept_piece arg8 harg8 x6 (invN c arg4 harg4 x2) 2 0 2 0 rfl inb_S1x4x3072x128_S1x1x1024x128_0_2_0_0 inb_S1x2x3072x128_S1x1x1024x128_0_0_0_0,
   trivial⟩

end Conv
-- ==== Proof.Words.lean ====
/-
  What a grid point leaves in its blocks and in the scratch that later points read, as functions of the blocks it was given.
-/
module

public import proofs.«01_k».proof.Proof.ResultA
public import proofs.«01_k».proof.Proof.Kept
public import proofs.«01_k».proof.Proof.Gen.KernelIdeal.Value

@[expose] public section

set_option maxRecDepth 16384

noncomputable section

namespace Conv

open Idealize.ShloMosaic Idealize.ShloMosaic.TcCoe Idealize.SL.Sem
open Cert.KernelIdeal Cert.KernelIdeal.Gen

/-- The whole of a matrix, read from its corner, is the matrix. -/
theorem whole2 {α : Type} {n m : ℕ} (X : (⟨2, ![n, m]⟩ : Shape).Idx → α) (inb : ∀ a, ![0, 0] a + (⟨2, ![n, m]⟩ : Shape).size a ≤ (⟨2, ![n, m]⟩ : Shape).size a)
    (j : (⟨2, ![n, m]⟩ : Shape).Idx) : X ((Rect.unit (s := ⟨2, ![n, m]⟩) ![0, 0] (⟨2, ![n, m]⟩ : Shape).size inb).toLoadRect.idx j) = X j := by
  congr 1
  funext a
  apply Fin.ext
  refine (Rect.idx_unit_val (s := ⟨2, ![n, m]⟩) _ _ inb j a).trans ?_
  match a with
  | 0 => exact Nat.zero_add _
  | 1 => exact Nat.zero_add _

theorem corner (j : S1x1.Idx) : j = ix2 0 0 := by
  funext a
  apply Fin.ext
  match a with
  | 0 => exact Nat.lt_one_iff.mp (j 0).isLt
  | 1 => exact Nat.lt_one_iff.mp (j 1).isLt

variable (c : Dev nD) (i : grid0.Coords)
  (arg2 : Memref sig .tc .smem S1x1 .f32) (harg2 : arg2.IsWhole)
  (arg3 : Memref sig .tc .smem S1x1 .f32) (harg3 : arg3.IsWhole)
  (arg4 : Memref sig .tc .smem S1x1 .f32) (harg4 : arg4.IsWhole)
  (arg5 : Memref sig .tc .smem S1x1 .f32) (harg5 : arg5.IsWhole)
  (arg6 : Memref sig .tc .vmem S1x128 .i32) (harg6 : arg6.IsWhole)
  (arg7 : Memref sig .tc .vmem S1x4x64x128 .bf16) (harg7 : arg7.IsWhole)
  (arg8 : Memref sig .tc .vmem S1x4x3072x128 .bf16) (harg8 : arg8.IsWhole)
  (arg9 : Memref sig .tc .vmem S1x4x64x128 .bf16) (harg9 : arg9.IsWhole)
  (arg10 : Memref sig .tc .vmem S1x2x64x128 .fp8e4m3) (harg10 : arg10.IsWhole)
  (arg11 : Memref sig .tc .vmem S1x2x3072x128 .fp8e4m3) (harg11 : arg11.IsWhole)
  (arg12 : Memref sig .tc .vmem S1x2x64x128 .fp8e4m3) (harg12 : arg12.IsWhole)
  (arg13 : Memref sig .tc .vmem S27x256x128 .fp8e4m3) (harg13 : arg13.IsWhole)
  (arg14 : Memref sig .tc .vmem S1x256 .f32) (harg14 : arg14.IsWhole)
  (arg15 : Memref sig .tc .vmem S1x256 .f32) (harg15 : arg15.IsWhole)
  (arg16 : Memref sig .tc .vmem S1x4x3072x256 .bf16) (harg16 : arg16.IsWhole)
  (arg17 : Memref sig .tc .vmem S1x4x3072x128 .fp8e4m3) (harg17 : arg17.IsWhole)
  (arg18 : Memref sig .tc .vmem S1x2x3072x128 .fp8e4m3) (harg18 : arg18.IsWhole)
  (arg19 : Memref sig .tc .vmem S3x6x3200x128 .fp8e4m3) (harg19 : arg19.IsWhole)
  (arg20 : Memref sig .tc .vmem S4x3200x128 .f32) (harg20 : arg20.IsWhole)
  (arg21 : Memref sig .tc .vmem S27x256x128 .fp8e4m3) (harg21 : arg21.IsWhole)
  (arg22 : Memref sig .tc .vmem S3x256x256 .bf16) (harg22 : arg22.IsWhole)
  (x0 : Vec Ideal S1x1 .f32)
  (x1 : Vec Ideal S1x1 .f32)
  (x2 : Vec Ideal S1x1 .f32)
  (x3 : Vec Ideal S1x1 .f32)
  (x4 : Vec Ideal S1x128 .i32)
  (x5 : Vec Ideal S1x4x64x128 .bf16)
  (x6 : Vec Ideal S1x4x3072x128 .bf16)
  (x7 : Vec Ideal S1x4x64x128 .bf16)
  (x8 : Vec Ideal S1x2x64x128 .fp8e4m3)
  (x9 : Vec Ideal S1x2x3072x128 .fp8e4m3)
  (x10 : Vec Ideal S1x2x64x128 .fp8e4m3)
  (x11 : Vec Ideal S27x256x128 .fp8e4m3)
  (x12 : Vec Ideal S1x256 .f32)
  (x13 : Vec Ideal S1x256 .f32)
  (xs2 : Vec Ideal S27x256x128 .fp8e4m3) (xs3 : Vec Ideal S3x256x256 .bf16)

theorem topsV_eq : topsV c arg6 harg6 x4 = x4 :=
  funext fun j => by
  unfold topsV kernelRun0_B.sl.r_6
  exact (harg6.readAt_unread x4 (Rect.unit (s := S1x128) ![0, 0] S1x128.size inb_S1x128_S1x128_0_0).toLoadRect j).trans (whole2 x4 _ j)

theorem biasV_eq : biasV c arg15 harg15 x13 = x13 :=
  funext fun j => by
  unfold biasV kernelRun0_B.sl.r_7
  exact (harg15.readAt_unread x13 (Rect.unit (s := S1x256) ![0, 0] S1x256.size inb_S1x256_S1x256_0_0).toLoadRect j).trans (whole2 x13 _ j)

theorem invB_eq : invB c arg3 harg3 x1 = x1 (ix2 0 0) :=
  (harg3.readAt_unread x1 _ _).trans (congrArg x1 (corner _))

theorem invN_eq : invN c arg4 harg4 x2 = x2 (ix2 0 0) :=
  (harg4.readAt_unread x2 _ _).trans (congrArg x2 (corner _))

/-- A scale times the weights' scales. -/
def scaled (x0 : Vec Ideal S1x1 .f32) (x12 : Vec Ideal S1x256 .f32) : Vec Ideal S1x256 .f32 := fun j => x12 j * x0 (ix2 0 0)

theorem gxV_eq : gxV c arg2 harg2 arg14 harg14 x0 x12 = scaled x0 x12 := by
  funext j
  exact congrArg₂ (fun a b : EReal => a * b) ((harg14.readAt_unread x12 (Rect.unit (s := S1x256) ![0, 0] S1x256.size inb_S1x256_S1x256_0_0).toLoadRect j).trans (whole2 x12 _ j)) ((harg2.readAt_unread x0 _ _).trans (congrArg x0 (corner _)))

/-- The result's block, at the first grid point. -/
theorem y_A (hc0 : cond0_0 i) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 = Yblk (base (fstB i) (lstB i) (x1 (ix2 0 0)) x5 x6 x7 x8 x9 x10) (topOf x4) x11 (Rest x4 x11) (Wide x4 x11) (scaled x0 x12) (scaled x3 x12) x13 := by
  funext z
  have h := View.read_writes_apply_of_pieces VO0_14 VO0_14.junk _ _ (y_pieces_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 hc0).mem z (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 z)
  rw [topsV_eq, gxV_eq, gxV_eq, biasV_eq, baseB, invB_eq] at h
  exact h

/-- The input's codes, at the first grid point. -/
theorem xc_A (hc0 : cond0_0 i) : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 = Kept (n := 4) (x1 (ix2 0 0)) x6 0 := by
  funext z
  have h := View.read_writes_apply_of_pieces VO0_15 VO0_15.junk _ _ (xc_pieces_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 hc0).mem z (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 z)
  rw [invB_eq] at h
  exact h

/-- The kept frames' codes, at the first grid point. -/
theorem nc_A (hc0 : cond0_0 i) : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 = Kept (n := 2) (x2 (ix2 0 0)) x6 2 := by
  funext z
  have h := View.read_writes_apply_of_pieces VO0_16 VO0_16.junk _ _ (nc_pieces_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 hc0).mem z (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 z)
  rw [invN_eq] at h
  exact h

/-- The result's block, at a later grid point. -/
theorem y_B (hc0 : ¬cond0_0 i) : out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs2 xs3 = Yblk (base (fstB i) (lstB i) (x1 (ix2 0 0)) x5 x6 x7 x8 x9 x10) (topOf x4) x11 xs2 xs3 (scaled x0 x12) (scaled x3 x12) x13 := by
  funext z
  have h := View.read_writes_apply_of_pieces VO0_14 VO0_14.junk _ _ (y_pieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 xs2 xs3 hc0).mem z (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs2 xs3 z)
  rw [topsV_eq, gxV_eq, gxV_eq, biasV_eq, baseB, invB_eq] at h
  exact h

/-- The input's codes, at a later grid point. -/
theorem xc_B (hc0 : ¬cond0_0 i) : out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs2 xs3 = Kept (n := 4) (x1 (ix2 0 0)) x6 0 := by
  funext z
  have h := View.read_writes_apply_of_pieces VO0_15 VO0_15.junk _ _ (xc_pieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 xs2 xs3 hc0).mem z (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs2 xs3 z)
  rw [invB_eq] at h
  exact h

/-- The kept frames' codes, at a later grid point. -/
theorem nc_B (hc0 : ¬cond0_0 i) : out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs2 xs3 = Kept (n := 2) (x2 (ix2 0 0)) x6 2 := by
  funext z
  have h := View.read_writes_apply_of_pieces VO0_16 VO0_16.junk _ _ (nc_pieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 xs2 xs3 hc0).mem z (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs2 xs3 z)
  rw [invN_eq] at h
  exact h

/-- What the first grid point leaves in the scratch of the weights with the top lanes taken out. -/
theorem rest_A (hc0 : cond0_0 i) : sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 = Rest x4 x11 := by
  funext z
  refine (congrFun (View.read_writes_junk_eq_canon VS0_2 _) z).trans ?_
  refine (rest_canon c arg6 harg6 arg13 harg13 x4 x11 z).trans ?_
  rw [topsV_eq]

/-- What the first grid point leaves in the scratch of the gathered weights. -/
theorem wide_A (hc0 : cond0_0 i) : sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 = Wide x4 x11 := by
  funext z
  refine (congrFun (View.read_writes_junk_eq_canon VS0_3 _) z).trans ?_
  refine (wide_canon c arg6 harg6 arg13 harg13 x4 x11 z).trans ?_
  rw [topsV_eq]

end Conv
-- ==== Proof.Blocks.lean ====
/-
  The blocks the grid points are given, as parts of the argument arrays.
-/
module

public import proofs.«01_k».proof.Proof.Words
public import Idealize.ShloMosaic.Lib.Pipeline.ValueKit

@[expose] public section

set_option maxRecDepth 16384

noncomputable section

namespace Conv

open Idealize.ShloMosaic Idealize.ShloMosaic.TcCoe Idealize.SL.Sem
open Cert.KernelIdeal Cert.KernelIdeal.Gen

/-- An array of pixels at natural coordinates (batch, frame, pixel, channel); zero outside. -/
def at4 {n : ℕ} (X : (⟨4, ![3, n, 76800, 128]⟩ : Shape).Idx → EReal) (b f p c : ℕ) : EReal :=
  if h : b < 3 ∧ f < n ∧ p < 76800 ∧ c < 128 then X (ix4 ⟨b, h.1⟩ ⟨f, h.2.1⟩ ⟨p, h.2.2.1⟩ ⟨c, h.2.2.2⟩) else 0

/-- The codes of the six frames of batch `b`: the cached ones, then the quantised new ones.  A row of zeros lies above the first
    row of a frame, so that pixel `p` of the frame is counted `p + 64`, and one below the last. -/
def pix (inv : EReal) (X : Vec Ideal S3x4x76800x128 .bf16) (K : Vec Ideal S3x2x76800x128 .fp8e4m3) (b f p c : ℕ) : EReal :=
  if f < 2 then (if 64 ≤ p then at4 K b f (p - 64) c else 0)
  else quant inv (if 64 ≤ p then at4 X b (f - 2) (p - 64) c else 0)

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0]
    ∧ win0_4.index t = ![0, 0] ∧ win0_11.index t = ![0, 0, 0] ∧ win0_12.index t = ![0, 0] ∧ win0_13.index t = ![0, 0] :=
  (by decide +kernel : ∀ t : Fin grid0.N, _)

theorem idx_rows : ∀ t : Fin cfg0.N, win0_5.index t = ![t.val / 25, 0, 48 * (t.val % 25) - 1, 0]
    ∧ win0_6.index t = ![t.val / 25, 0, t.val % 25, 0]
    ∧ win0_7.index t = ![t.val / 25, 0, min (48 * (t.val % 25) + 48) 1199, 0]
    ∧ win0_8.index t = ![t.val / 25, 0, 48 * (t.val % 25) - 1, 0]
    ∧ win0_9.index t = ![t.val / 25, 0, t.val % 25, 0]
    ∧ win0_10.index t = ![t.val / 25, 0, min (48 * (t.val % 25) + 48) 1199, 0] :=
  (by decide +kernel : ∀ t : Fin grid0.N, _)

theorem idx_out : ∀ t : Fin cfg0.N, win0_14.index t = ![t.val / 25, 0, t.val % 25, 0]
    ∧ win0_15.index t = ![t.val / 25, 0, t.val % 25, 0]
    ∧ win0_16.index t = ![t.val / 25, 0, t.val % 25, 0] :=
  (by decide +kernel : ∀ t : Fin grid0.N, _)

theorem edges : ∀ t : Fin cfg0.N, fstB (grid0.coords t) = (if t.val % 25 = 0 then 1#1 else 0#1)
    ∧ lstB (grid0.coords t) = (if t.val % 25 = 24 then 1#1 else 0#1) :=
  (by decide +kernel : ∀ t : Fin grid0.N, _)

theorem blk0 (t : Fin cfg0.N) : iblk m c 0 t = m ((c : Thread nD τ).loc main_arg0) := by blk_ext! [iblk, V, idx t]
theorem blk1 (t : Fin cfg0.N) : iblk m c 1 t = m ((c : Thread nD τ).loc main_arg1) := by blk_ext! [iblk, V, idx t]
theorem blk2 (t : Fin cfg0.N) : iblk m c 2 t = m ((c : Thread nD τ).loc main_arg2) := by blk_ext! [iblk, V, idx t]
theorem blk3' (t : Fin cfg0.N) : iblk m c 3 t = m ((c : Thread nD τ).loc main_arg3) := by blk_ext! [iblk, V, idx t]
theorem blk4 (t : Fin cfg0.N) : iblk m c 4 t = m ((c : Thread nD τ).loc main_arg4) := by blk_ext! [iblk, V, idx t]
theorem blk11 (t : Fin cfg0.N) : iblk m c 11 t = m ((c : Thread nD τ).loc main_arg7) := by blk_ext! [iblk, V, idx t]
theorem blk12 (t : Fin cfg0.N) : iblk m c 12 t = m ((c : Thread nD τ).loc main_arg8) := by blk_ext! [iblk, V, idx t]
theorem blk13 (t : Fin cfg0.N) : iblk m c 13 t = m ((c : Thread nD τ).loc main_arg9) := by blk_ext! [iblk, V, idx t]

theorem lt75 (t : Fin cfg0.N) : t.val < 75 := lt_of_lt_of_eq t.isLt N_0

theorem blk5 (t : Fin cfg0.N) (f p l : ℕ) (hp : p < 64) (hi : t.val % 25 ≠ 0) :
    rd (n := 4) (m := 64) (iblk m c 5 t) f p l = at4 (m ((c : Thread nD τ).loc main_arg5)) (t.val / 25) f (3072 * (t.val % 25) + p - 64) l := by
  have ht := lt75 t
  unfold rd at4
  split
  · rename_i h
    rw [dif_pos ⟨by omega, h.1, by omega, h.2.2⟩]
    blk_ext [iblk, V, idx_rows t]
  · rename_i h
    rw [dif_neg fun k => h ⟨k.2.1, hp, k.2.2.2⟩]

theorem blk6 (t : Fin cfg0.N) (f p l : ℕ) (hp : p < 3072) :
    rd (n := 4) (m := 3072) (iblk m c 6 t) f p l = at4 (m ((c : Thread nD τ).loc main_arg5)) (t.val / 25) f (3072 * (t.val % 25) + p) l := by
  have ht := lt75 t
  unfold rd at4
  split
  · rename_i h
    rw [dif_pos ⟨by omega, h.1, by omega, h.2.2⟩]
    blk_ext [iblk, V, idx_rows t]
  · rename_i h
    rw [dif_neg fun k => h ⟨k.2.1, hp, k.2.2.2⟩]

theorem blk7 (t : Fin cfg0.N) (f p l : ℕ) (hp : p < 64) (hi : t.val % 25 ≠ 24) :
    rd (n := 4) (m := 64) (iblk m c 7 t) f p l = at4 (m ((c : Thread nD τ).loc main_arg5)) (t.val / 25) f (3072 * (t.val % 25) + 3072 + p) l := by
  have ht := lt75 t
  unfold rd at4
  split
  · rename_i h
    rw [dif_pos ⟨by omega, h.1, by omega, h.2.2⟩]
    blk_ext [iblk, V, idx_rows t]
  · rename_i h
    rw [dif_neg fun k => h ⟨k.2.1, hp, k.2.2.2⟩]

theorem blk8 (t : Fin cfg0.N) (f p l : ℕ) (hp : p < 64) (hi : t.val % 25 ≠ 0) :
    rd (n := 2) (m := 64) (iblk m c 8 t) f p l = at4 (m ((c : Thread nD τ).loc main_arg6)) (t.val / 25) f (3072 * (t.val % 25) + p - 64) l := by
  have ht := lt75 t
  unfold rd at4
  split
  · rename_i h
    rw [dif_pos ⟨by omega, h.1, by omega, h.2.2⟩]
    blk_ext [iblk, V, idx_rows t]
  · rename_i h
    rw [dif_neg fun k => h ⟨k.2.1, hp, k.2.2.2⟩]

theorem blk9 (t : Fin cfg0.N) (f p l : ℕ) (hp : p < 3072) :
    rd (n := 2) (m := 3072) (iblk m c 9 t) f p l = at4 (m ((c : Thread nD τ).loc main_arg6)) (t.val / 25) f (3072 * (t.val % 25) + p) l := by
  have ht := lt75 t
  unfold rd at4
  split
  · rename_i h
    rw [dif_pos ⟨by omega, h.1, by omega, h.2.2⟩]
    blk_ext [iblk, V, idx_rows t]
  · rename_i h
    rw [dif_neg fun k => h ⟨k.2.1, hp, k.2.2.2⟩]

theorem blk10 (t : Fin cfg0.N) (f p l : ℕ) (hp : p < 64) (hi : t.val % 25 ≠ 24) :
    rd (n := 2) (m := 64) (iblk m c 10 t) f p l = at4 (m ((c : Thread nD τ).loc main_arg6)) (t.val / 25) f (3072 * (t.val % 25) + 3072 + p) l := by
  have ht := lt75 t
  unfold rd at4
  split
  · rename_i h
    rw [dif_pos ⟨by omega, h.1, by omega, h.2.2⟩]
    blk_ext [iblk, V, idx_rows t]
  · rename_i h
    rw [dif_neg fun k => h ⟨k.2.1, hp, k.2.2.2⟩]

theorem at4_below {n : ℕ} (X : (⟨4, ![3, n, 76800, 128]⟩ : Shape).Idx → EReal) (b f p l : ℕ) (hp : 76800 ≤ p) : at4 X b f p l = 0 :=
  dif_neg fun h => absurd h.2.2.1 (Nat.not_lt.mpr hp)

/-- One array's pixels, as a grid point puts them together from a block and the rows beside it. -/
theorem stitch {n : ℕ} (X : (⟨4, ![3, n, 76800, 128]⟩ : Shape).Idx → EReal) (b i f l : ℕ) (prev blk next : ℕ → EReal) (fst lst : BitVec 1)
    (hfst : fst = if i = 0 then 1#1 else 0#1) (hlst : lst = if i = 24 then 1#1 else 0#1)
    (h5 : ∀ p < 64, i ≠ 0 → prev p = at4 X b f (3072 * i + p - 64) l) (h6 : ∀ p < 3072, blk p = at4 X b f (3072 * i + p) l)
    (h7 : ∀ p < 64, i ≠ 24 → next p = at4 X b f (3072 * i + 3072 + p) l) (p : ℕ) (hp : p < 3200) :
    (if p < 64 then Scalar.select fst (0 : EReal) (prev p) else if p < 3136 then blk (p - 64) else Scalar.select lst (0 : EReal) (next (p - 3136)))
      = if 64 ≤ 3072 * i + p then at4 X b f (3072 * i + p - 64) l else 0 := by
  subst hfst hlst
  by_cases h1 : p < 64
  · rw [if_pos h1]
    by_cases hi : i = 0
    · subst hi
      rw [if_neg (by omega : ¬ 64 ≤ 3072 * 0 + p)]
      rfl
    · rw [if_neg hi, if_pos (by omega), ← h5 p h1 hi]
      rfl
  · rw [if_neg h1, if_pos (show 64 ≤ 3072 * i + p by omega)]
    by_cases h2 : p < 3136
    · rw [if_pos h2, h6 _ (by omega)]
      congr 1
      omega
    · rw [if_neg h2]
      by_cases hi : i = 24
      · subst hi
        rw [at4_below _ _ _ _ _ (by omega)]
        rfl
      · rw [if_neg hi]
        refine Eq.trans (b := next (p - 3136)) rfl ?_
        rw [h7 _ (by omega) hi]
        congr 1
        omega

/-- The codes a grid point works on are those of the whole frames, at its own rows. -/
theorem base_eq (t : Fin cfg0.N) (inv : EReal) (f p l : ℕ) (hp : p < 3200) :
    base (fstB (grid0.coords t)) (lstB (grid0.coords t)) inv (iblk m c 5 t) (iblk m c 6 t) (iblk m c 7 t) (iblk m c 8 t) (iblk m c 9 t)
      (iblk m c 10 t) f p l
      = pix inv (m ((c : Thread nD τ).loc main_arg5)) (m ((c : Thread nD τ).loc main_arg6)) (t.val / 25) f (3072 * (t.val % 25) + p) l := by
  unfold base pix
  by_cases hf : f < 2
  · rw [if_pos hf, if_pos hf]
    exact stitch _ _ _ f l (fun p => rd (n := 2) (m := 64) (iblk m c 8 t) f p l) (fun p => rd (n := 2) (m := 3072) (iblk m c 9 t) f p l) (fun p => rd (n := 2) (m := 64) (iblk m c 10 t) f p l) _ _
      (edges t).1 (edges t).2 (fun p => blk8 m c t f p l) (fun p => blk9 m c t f p l) (fun p => blk10 m c t f p l) p hp
  · rw [if_neg hf, if_neg hf]
    congr 1
    exact stitch _ _ _ (f - 2) l (fun p => rd (n := 4) (m := 64) (iblk m c 5 t) (f - 2) p l) (fun p => rd (n := 4) (m := 3072) (iblk m c 6 t) (f - 2) p l) (fun p => rd (n := 4) (m := 64) (iblk m c 7 t) (f - 2) p l) _ _
      (edges t).1 (edges t).2 (fun p => blk5 m c t _ p l) (fun p => blk6 m c t _ p l) (fun p => blk7 m c t _ p l) p hp

theorem shifted_congr (b b' : ℕ → ℕ → ℕ → EReal) (d : ℕ) (h : ∀ f p l, p < 3200 → b f p l = b' f (64 * d + p) l) (kw f p l : ℕ) (hp : p < 3200) :
    shifted b kw f p l = shifted b' kw f (64 * d + p) l := by
  unfold shifted
  have e : (64 * d + p) % 64 = p % 64 := Nat.mul_add_mod _ _ _
  rw [e]
  split_ifs with h1 h2 h3 h4
  · rfl
  · rw [h _ _ _ (by omega)]
    congr 1
    omega
  · exact h _ _ _ hp
  · rfl
  · rw [h _ _ _ (by omega)]
    congr 1

/-- The sums of a result depend on the codes near its pixel alone. -/
theorem yAt_congr (b b' : ℕ → ℕ → ℕ → EReal) (d : ℕ) (h : ∀ f p l, p < 3200 → b f p l = b' f (64 * d + p) l) (tl : Fin 128 → Fin 128)
    (w rest : S27x256x128.Idx → EReal) (wide : S3x256x256.Idx → EReal) (gx gc bias : Fin 256 → EReal) (f q : ℕ) (o : Fin 256) (hq : q < 3072) :
    yAt b tl w rest wide gx gc bias f q o = yAt b' tl w rest wide gx gc bias f (64 * d + q) o := by
  have ht : ∀ (t : Fin 27) (l : Fin 128), tapCode b f q t l = tapCode b' f (64 * d + q) t l := fun t l => by
    unfold tapCode
    rw [shifted_congr b b' d h _ _ _ _ (by omega), Nat.add_assoc]
  have hl : ∀ l, laneCode b tl f q l = laneCode b' tl f (64 * d + q) l := fun l => by
    unfold laneCode
    rw [shifted_congr b b' d h _ _ _ _ (by omega), Nat.add_assoc]
  unfold yAt
  simp only [ht, hl]

end Conv
-- ==== Proof.Points.lean ====
/-
  What each grid point leaves, over the argument arrays.
-/
module

public import proofs.«01_k».proof.Proof.Blocks
public import Idealize.ShloMosaic.Lib.Pipeline.ValueKit

@[expose] public section

set_option maxRecDepth 16384

noncomputable section

namespace Conv

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## What the grid points leave -/

theorem first_point (t : Fin cfg0.N) (h0 : t.val % 75 = 0) :
    (outsAt0 m c t.val t.isLt).2.2.2.1 = Rest (m ((c : Thread nD τ).loc main_arg4)) (m ((c : Thread nD τ).loc main_arg7))
    ∧ (outsAt0 m c t.val t.isLt).2.2.2.2 = Wide (m ((c : Thread nD τ).loc main_arg4)) (m ((c : Thread nD τ).loc main_arg7)) := by
  have e := outsAt0_A m c t h0
  rw [← blk4 m c t, ← blk11 m c t]
  constructor
  · have h := rest_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0)
    rw [e, h]
  · have h := wide_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0)
    rw [e, h]

/-- The scratch of weights, after any point, holds what the first point put there. -/
theorem carried : ∀ (n : ℕ) (hn : n < cfg0.N),
    (outsAt0 m c n hn).2.2.2.1 = Rest (m ((c : Thread nD τ).loc main_arg4)) (m ((c : Thread nD τ).loc main_arg7))
    ∧ (outsAt0 m c n hn).2.2.2.2 = Wide (m ((c : Thread nD τ).loc main_arg4)) (m ((c : Thread nD τ).loc main_arg7)) := by
  intro n
  induction n with
  | zero =>
    intro hn
    exact first_point m c ⟨0, hn⟩ rfl
  | succ n ih =>
    intro hn
    have h0 : ¬ (n + 1) % 75 = 0 := by have := lt75 ⟨n + 1, hn⟩; simp at this; omega
    have e := outsAt0_B m c ⟨n + 1, hn⟩ h0
    have := ih (Nat.lt_of_succ_lt hn)
    exact ⟨(congrArg (fun p => p.2.2.2.1) e).trans this.1, (congrArg (fun p => p.2.2.2.2) e).trans this.2⟩

/-- The result's block at a point. -/
theorem y_point (t : Fin cfg0.N) : (outsAt0 m c t.val t.isLt).1
    = Yblk (base (fstB (grid0.coords t)) (lstB (grid0.coords t)) (m ((c : Thread nD τ).loc main_arg1) (ix2 0 0)) (iblk m c 5 t) (iblk m c 6 t) (iblk m c 7 t) (iblk m c 8 t)
        (iblk m c 9 t) (iblk m c 10 t)) (topOf (m ((c : Thread nD τ).loc main_arg4))) (m ((c : Thread nD τ).loc main_arg7))
      (Rest (m ((c : Thread nD τ).loc main_arg4)) (m ((c : Thread nD τ).loc main_arg7)))
      (Wide (m ((c : Thread nD τ).loc main_arg4)) (m ((c : Thread nD τ).loc main_arg7)))
      (scaled (m ((c : Thread nD τ).loc main_arg0)) (m ((c : Thread nD τ).loc main_arg8)))
      (scaled (m ((c : Thread nD τ).loc main_arg3)) (m ((c : Thread nD τ).loc main_arg8))) (m ((c : Thread nD τ).loc main_arg9)) := by
  rw [← blk0 m c t, ← blk1 m c t, ← blk3' m c t, ← blk12 m c t, ← blk13 m c t]
  by_cases h0 : t.val % 75 = 0
  · rw [← blk4 m c t, ← blk11 m c t]
    have h := y_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0)
    rw [outsAt0_A m c t h0, h]
  · have k := carried m c (t.val - 1) (Nat.lt_of_le_of_lt (Nat.sub_le _ _) t.isLt)
    rw [← k.1, ← k.2, ← blk4 m c t, ← blk11 m c t]
    have h := y_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h))
    rw [outsAt0_B m c t h0, h]

/-- The input's codes at a point. -/
theorem xc_point (t : Fin cfg0.N) : (outsAt0 m c t.val t.isLt).2.1 = Kept (n := 4) (m ((c : Thread nD τ).loc main_arg1) (ix2 0 0)) (iblk m c 6 t) 0 := by
  rw [← blk1 m c t]
  by_cases h0 : t.val % 75 = 0
  · have h := xc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0)
    rw [outsAt0_A m c t h0, h]
  · have h := xc_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h))
    rw [outsAt0_B m c t h0, h]

/-- The kept frames' codes at a point. -/
theorem nc_point (t : Fin cfg0.N) : (outsAt0 m c t.val t.isLt).2.2.1 = Kept (n := 2) (m ((c : Thread nD τ).loc main_arg2) (ix2 0 0)) (iblk m c 6 t) 2 := by
  rw [← blk2 m c t]
  by_cases h0 : t.val % 75 = 0
  · have h := nc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0)
    rw [outsAt0_A m c t h0, h]
  · have h := nc_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h))
    rw [outsAt0_B m c t h0, h]

end Conv
-- ==== Proof.Arrays.lean ====
/-
  The kernel's three result arrays as functions of its argument arrays.
-/
module

public import proofs.«01_k».proof.Proof.Points
public import Idealize.ShloMosaic.Lib.Pipeline.ValueKit

@[expose] public section

set_option maxRecDepth 16384

noncomputable section

namespace Conv

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## The arrays -/

/-- Codes of the frames from `d` on. -/
def keptArr {n : ℕ} (inv : EReal) (X : Vec Ideal S3x4x76800x128 .bf16) (d : ℕ) (j : (⟨4, ![3, n, 76800, 128]⟩ : Shape).Idx) : EReal :=
  quant inv (at4 X (j 0) ((j 1 : ℕ) + d) (j 2) (j 3))

/-- The result. -/
def yArr (xs xi cs : Vec Ideal S1x1 .f32) (top : Vec Ideal S1x128 .i32) (X : Vec Ideal S3x4x76800x128 .bf16) (K : Vec Ideal S3x2x76800x128 .fp8e4m3)
    (w : Vec Ideal S27x256x128 .fp8e4m3) (ws bias : Vec Ideal S1x256 .f32) (j : S3x4x76800x256.Idx) : EReal :=
  yAt (pix (xi (ix2 0 0)) X K (j 0)) (topOf top) w (Rest top w) (Wide top w) (fun o => scaled xs ws (ix2 0 o)) (fun o => scaled cs ws (ix2 0 o))
    (fun o => bias (ix2 0 o)) (j 1) (j 2) (j 3)

theorem kept_emb {n : ℕ} (t : Fin cfg0.N) (inv : EReal) (d : ℕ) (y : (⟨4, ![1, n, 3072, 128]⟩ : Shape).Idx) (j : (⟨4, ![3, n, 76800, 128]⟩ : Shape).Idx)
    (h0 : (j 0 : ℕ) = t.val / 25) (h1 : (j 1 : ℕ) = y 1) (h2 : (j 2 : ℕ) = 3072 * (t.val % 25) + y 2) (h3 : (j 3 : ℕ) = y 3) :
    Kept (n := n) inv (iblk m c 6 t) d y = keptArr (n := n) inv (m ((c : Thread nD τ).loc main_arg5)) d j := by
  unfold Kept keptArr
  rw [h0, h1, h2, h3, blk6 m c t _ _ _ (y 2).isLt]

theorem arr14 : Value.G14 m c = yArr (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) := by
  refine (Value.final14 m c).symm.trans ?_
  refine (dats m 0 c).arrAt_eq_of_covers 14 _ (by decide +kernel) fun t hf y => ?_
  blk_simp
  rw [after0_14, y_point]
  have e0 : (((cfg0.win 14).blk t).view.emb y 0 : ℕ) = t.val / 25 := by blk_simp [idx_out t] <;> omega
  have e1 : (((cfg0.win 14).blk t).view.emb y 1 : ℕ) = y 1 := by blk_simp [idx_out t] <;> omega
  have e2 : (((cfg0.win 14).blk t).view.emb y 2 : ℕ) = 3072 * (t.val % 25) + y 2 := by blk_simp [idx_out t] <;> omega
  have e3 : ((cfg0.win 14).blk t).view.emb y 3 = y 3 := by apply Fin.ext; blk_simp [idx_out t] <;> omega
  unfold yArr Yblk
  rw [e0, e1, e2, e3]
  have hb : ∀ f p l, p < 3200 → base (fstB (grid0.coords t)) (lstB (grid0.coords t)) (m ((c : Thread nD τ).loc main_arg1) (ix2 0 0)) (iblk m c 5 t) (iblk m c 6 t)
      (iblk m c 7 t) (iblk m c 8 t) (iblk m c 9 t) (iblk m c 10 t) f p l
      = pix (m ((c : Thread nD τ).loc main_arg1) (ix2 0 0)) (m ((c : Thread nD τ).loc main_arg5)) (m ((c : Thread nD τ).loc main_arg6)) (t.val / 25) f
        (64 * (48 * (t.val % 25)) + p) l := fun f p l hp => (base_eq m c t _ f p l hp).trans (by congr 1; omega)
  refine (yAt_congr _ _ (48 * (t.val % 25)) hb _ _ _ _ _ _ _ _ _ _ (y 2).isLt).trans ?_
  congr 1
  omega

theorem arr15 : Value.G15 m c = keptArr (n := 4) (m ((c : Thread nD τ).loc main_arg1) (ix2 0 0)) (m ((c : Thread nD τ).loc main_arg5)) 0 := by
  refine (Value.final15 m c).symm.trans ?_
  refine (dats m 0 c).arrAt_eq_of_covers 15 _ (by decide +kernel) fun t hf y => ?_
  blk_simp
  rw [after0_15, xc_point]
  refine kept_emb m c t _ _ _ _ ?_ ?_ ?_ ?_ <;> blk_simp [idx_out t] <;> omega

theorem arr16 : Value.G16 m c = keptArr (n := 2) (m ((c : Thread nD τ).loc main_arg2) (ix2 0 0)) (m ((c : Thread nD τ).loc main_arg5)) 2 := by
  refine (Value.final16 m c).symm.trans ?_
  refine (dats m 0 c).arrAt_eq_of_covers 16 _ (by decide +kernel) fun t hf y => ?_
  blk_simp
  rw [after0_16, nc_point]
  refine kept_emb m c t _ _ _ _ ?_ ?_ ?_ ?_ <;> blk_simp [idx_out t] <;> omega

end Conv
-- ==== Proof.Reference.lean ====
/-
  The reference's results, entry by entry.
-/
module

public import proofs.«01_k».proof.Proof.Gen.ReferenceIdeal.Value
public import proofs.«01_k».proof.Proof.Arrays

@[expose] public section

set_option maxRecDepth 16384

noncomputable section

namespace Conv

open Idealize.ShloMosaic Idealize.ShloMosaic.TcCoe Idealize.SL.Sem
open Cert.ReferenceIdeal Cert.ReferenceIdeal.Gen

theorem sum27 (F : Fin 27 → EReal) : ((List.finRange 27).map F).sum = F 0 + F 1 + F 2 + F 3 + F 4 + F 5 + F 6 + F 7 + F 8 + F 9 + F 10
    + F 11 + F 12 + F 13 + F 14 + F 15 + F 16 + F 17 + F 18 + F 19 + F 20 + F 21 + F 22 + F 23 + F 24 + F 25 + F 26 := by
  refine Eq.trans (b := F 0 + (F 1 + (F 2 + (F 3 + (F 4 + (F 5 + (F 6 + (F 7 + (F 8 + (F 9 + (F 10
    + (F 11 + (F 12 + (F 13 + (F 14 + (F 15 + (F 16 + (F 17 + (F 18 + (F 19 + (F 20 + (F 21 + (F 22 + (F 23 + (F 24 + (F 25 + (F 26 + 0))))))))))))))))))))))))))) rfl ?_
  simp only [add_assoc, add_zero]

/-- One tap's sum over the input channels, at a pixel of the result and an output channel. -/
def tapSum (x : S3x6x1202x66x128.Idx → EReal) (w : S27x256x128.Idx → EReal) (b : Fin 3) (f : Fin 4) (p : Fin 76800) (o : Fin 256) (t : Fin 27) : EReal :=
  ∑ c : Fin 128, x (ix5 b ⟨(t : ℕ) / 9 + f, by omega⟩ ⟨(t : ℕ) / 3 % 3 + (p : ℕ) / 64, by omega⟩ ⟨(t : ℕ) % 3 + (p : ℕ) % 64, by omega⟩ c) * w (ix3 t o c)

/-- The reference's padded input. -/
abbrev xin (a0 a1 a3 : Vec Ideal S1x1 .f32) (a5 : Vec Ideal S3x4x76800x128 .bf16) (a6 : Vec Ideal S3x2x76800x128 .fp8e4m3) : FVec Ideal S3x6x1202x66x128 .bf16 :=
  k0_pay7 (F := Ideal) (k0_pay5 (F := Ideal) a6 a3) (k0_pay6 (F := Ideal) a5 a1) a0

set_option maxHeartbeats 4000000 in
theorem G10_at (x : FVec Ideal S3x6x1202x66x128 .bf16) (a0 a1 a2 a3 : Vec Ideal S1x1 .f32) (a4 : Vec Ideal S1x128 .i32) (a5 : Vec Ideal S3x4x76800x128 .bf16) (a6 : Vec Ideal S3x2x76800x128 .fp8e4m3)
    (a7 : Vec Ideal S27x256x128 .fp8e4m3) (a8 a9 : Vec Ideal S1x256 .f32)
    (h : k0_pay20 (F := Ideal) a0 a1 a2 a3 a4 a5 a6 a7 a8 a9 = x)
    (h' : k0_pay7 (F := Ideal) (k0_pay18 (F := Ideal) a0 a1 a2 a3 a4 a5 a6 a7 a8 a9) (k0_pay19 (F := Ideal) a0 a1 a2 a3 a4 a5 a6 a7 a8 a9) a0 = x)
    (b : Fin 3) (f : Fin 4) (p : Fin 76800) (o : Fin 256) :
    Cert.ReferenceIdeal.Value.G10 a0 a1 a2 a3 a4 a5 a6 a7 a8 a9 (ix4 b f p o)
      = ((List.finRange 27).map (tapSum x a7 b f p o)).sum * a8 (ix2 0 o) + a9 (ix2 0 o) := by
  rw [Cert.ReferenceIdeal.Value.G10, sum27]
  generalize k0_pay18 (F := Ideal) a0 a1 a2 a3 a4 a5 a6 a7 a8 a9 = v29 at h'
  generalize k0_pay19 (F := Ideal) a0 a1 a2 a3 a4 a5 a6 a7 a8 a9 = v30 at h'
  rw [h]
  pointwise [k0_pay1, k0_pay8, k0_pay9, k0_pay10, k0_pay11, k0_pay12, k0_pay13, k0_pay14, k0_pay15, k0_pay16, k0_pay17, h', tapSum]

  have e1 : ((b : ℕ) * 307200 + (f : ℕ) * 76800 + p) / 64 % 1200 = (p : ℕ) / 64 := by omega
  have e2 : ((b : ℕ) * 307200 + (f : ℕ) * 76800 + p) % 64 = (p : ℕ) % 64 := by omega
  simp only [e1, e2]
  done

theorem top_value : Ideal.ofBits FTy.f32 1138753536#32 = ((448 : ℝ) : EReal) := by
  simp [Ideal.ofBits, Ideal.ieee, -EReal.coe_mul, -EReal.coe_neg]; norm_num

theorem bottom_value : Ideal.ofBits FTy.f32 3286237184#32 = ((-448 : ℝ) : EReal) := by
  simp [Ideal.ofBits, Ideal.ieee, -EReal.coe_mul, -EReal.coe_neg]; norm_num

/-- Zero is its own code. -/
theorem quant_zero (inv : EReal) : quant inv 0 = 0 := by
  unfold quant
  rw [zero_mul, top_value, bottom_value, ← EReal.coe_zero, max_eq_right (EReal.coe_le_coe_iff.mpr (by norm_num)),
    min_eq_right (EReal.coe_le_coe_iff.mpr (by norm_num))]

set_option maxHeartbeats 2000000 in
/-- The padded input: codes, zeros around them, times the scale of their frames. -/
theorem xin_at (a0 a1 a3 : Vec Ideal S1x1 .f32) (a5 : Vec Ideal S3x4x76800x128 .bf16) (a6 : Vec Ideal S3x2x76800x128 .fp8e4m3)
    (b : Fin 3) (f : Fin 6) (h : Fin 1202) (w : Fin 66) (c : Fin 128) :
    xin a0 a1 a3 a5 a6 (ix5 b f h w c)
      = (if (w : ℕ) = 0 ∨ (w : ℕ) = 65 then 0 else pix (a1 (ix2 0 0)) a5 a6 b f (64 * h + (w - 1)) c)
        * (if 2 ≤ (f : ℕ) then a0 (ix2 0 0) else a3 (ix2 0 0)) := by
  have hz : (((0#32).toInt : ℝ) : EReal) = 0 := by simp
  pointwise [xin, k0_pay7, k0_pay6, k0_pay5, k0_pay3, k0_pay2]
  rw [hz]
  by_cases hw : (w : ℕ) < 65
  swap
  · rw [dif_neg hw, if_pos (show (w : ℕ) = 0 ∨ (w : ℕ) = 65 by omega), zero_mul]
  rw [dif_pos hw]
  by_cases hw1 : (w : ℕ) < 1
  · rw [dif_pos hw1, if_pos (show (w : ℕ) = 0 ∨ (w : ℕ) = 65 by omega), zero_mul]
  rw [dif_neg hw1, if_neg (show ¬((w : ℕ) = 0 ∨ (w : ℕ) = 65) by omega)]
  by_cases hf : (f : ℕ) < 2
  · rw [if_neg (show ¬ 2 ≤ (f : ℕ) by omega), pix, if_pos hf]
    by_cases hh : (h : ℕ) < 1201
    · rw [dif_pos hh]
      by_cases hh1 : (h : ℕ) < 1
      · rw [dif_pos hh1, if_neg (show ¬ 64 ≤ 64 * (h : ℕ) + ((w : ℕ) - 1) by omega), zero_mul]
      · rw [dif_neg hh1, dif_pos hf, if_pos (show 64 ≤ 64 * (h : ℕ) + ((w : ℕ) - 1) by omega), at4, dif_pos ⟨b.isLt, hf, by omega, c.isLt⟩]
        congr 3
        apply Fin.ext
        show ((h : ℕ) - 1) * 64 + ((w : ℕ) - 1) = 64 * (h : ℕ) + ((w : ℕ) - 1) - 64
        omega
    · rw [dif_neg hh, if_pos (show 64 ≤ 64 * (h : ℕ) + ((w : ℕ) - 1) by omega), at4_below _ _ _ _ _ (by omega), zero_mul]
  · rw [if_pos (show 2 ≤ (f : ℕ) by omega), pix, if_neg hf]
    by_cases hh : (h : ℕ) < 1201
    · rw [dif_pos hh]
      by_cases hh1 : (h : ℕ) < 1
      · rw [dif_pos hh1, if_neg (show ¬ 64 ≤ 64 * (h : ℕ) + ((w : ℕ) - 1) by omega), quant_zero, zero_mul]
      · rw [dif_neg hh1, dif_neg hf, if_pos (show 64 ≤ 64 * (h : ℕ) + ((w : ℕ) - 1) by omega), at4, dif_pos ⟨b.isLt, by omega, by omega, c.isLt⟩]
        unfold quant
        congr 6
        apply Fin.ext
        show ((h : ℕ) - 1) * 64 + ((w : ℕ) - 1) = 64 * (h : ℕ) + ((w : ℕ) - 1) - 64
        omega
    · rw [dif_neg hh, if_pos (show 64 ≤ 64 * (h : ℕ) + ((w : ℕ) - 1) by omega), at4_below _ _ _ _ _ (by omega), quant_zero, zero_mul]

theorem tap_at (a0 a1 a3 : Vec Ideal S1x1 .f32) (a5 : Vec Ideal S3x4x76800x128 .bf16) (a6 : Vec Ideal S3x2x76800x128 .fp8e4m3) (w : S27x256x128.Idx → EReal)
    (b : Fin 3) (f : Fin 4) (p : Fin 76800) (o : Fin 256) (t : Fin 27) :
    tapSum (xin a0 a1 a3 a5 a6) w b f p o t
      = ∑ c : Fin 128, tapCode (pix (a1 (ix2 0 0)) a5 a6 b) f p t c * (if 2 ≤ (f : ℕ) + (t : ℕ) / 9 then a0 (ix2 0 0) else a3 (ix2 0 0)) * w (ix3 t o c) := by
  unfold tapSum
  refine Finset.sum_congr rfl fun c _ => ?_
  rw [xin_at]
  have e : (if (t : ℕ) % 3 + (p : ℕ) % 64 = 0 ∨ (t : ℕ) % 3 + (p : ℕ) % 64 = 65 then 0
      else pix (a1 (ix2 0 0)) a5 a6 b ((t : ℕ) / 9 + f) (64 * ((t : ℕ) / 3 % 3 + (p : ℕ) / 64) + ((t : ℕ) % 3 + (p : ℕ) % 64 - 1)) c)
      = tapCode (pix (a1 (ix2 0 0)) a5 a6 b) f p t c := by
    unfold tapCode shifted
    rw [Nat.add_comm ((t : ℕ) / 9)]
    by_cases h0 : (t : ℕ) % 3 = 0
    · rw [if_pos h0]
      by_cases h1 : ((p : ℕ) + 64 * ((t : ℕ) / 3 % 3)) % 64 = 0
      · rw [if_pos h1, if_pos (by omega)]
      · rw [if_neg h1, if_neg (by omega)]
        congr 1
        omega
    · rw [if_neg h0]
      by_cases h2 : (t : ℕ) % 3 = 1
      · rw [if_pos h2, if_neg (by omega)]
        congr 1
        omega
      · rw [if_neg h2]
        by_cases h1 : ((p : ℕ) + 64 * ((t : ℕ) / 3 % 3)) % 64 = 63
        · rw [if_pos h1, if_pos (by omega)]
        · rw [if_neg h1, if_neg (by omega)]
          congr 1
          omega
  rw [← e, Nat.add_comm (f : ℕ)]

theorem G11_at (a1 : Vec Ideal S1x1 .f32) (a0 a2 a3 : Vec Ideal S1x1 .f32) (a4 : Vec Ideal S1x128 .i32) (a5 : Vec Ideal S3x4x76800x128 .bf16) (a6 : Vec Ideal S3x2x76800x128 .fp8e4m3)
    (a7 : Vec Ideal S27x256x128 .fp8e4m3) (a8 a9 : Vec Ideal S1x256 .f32) :
    Cert.ReferenceIdeal.Value.G11 a0 a1 a2 a3 a4 a5 a6 a7 a8 a9 = keptArr (n := 4) (a1 (ix2 0 0)) a5 0 := by
  rw [Cert.ReferenceIdeal.Value.G11]
  funext j
  idx_vars j
  unfold keptArr at4
  rw [dif_pos ⟨j0.isLt, j1.isLt, j2.isLt, j3.isLt⟩]
  pointwise [k0_pay3, k0_pay2]
  rfl

theorem G12_at (a1 : Vec Ideal S1x1 .f32) (a0 a2 a3 : Vec Ideal S1x1 .f32) (a4 : Vec Ideal S1x128 .i32) (a5 : Vec Ideal S3x4x76800x128 .bf16) (a6 : Vec Ideal S3x2x76800x128 .fp8e4m3)
    (a7 : Vec Ideal S27x256x128 .fp8e4m3) (a8 a9 : Vec Ideal S1x256 .f32) :
    Cert.ReferenceIdeal.Value.G12 a0 a1 a2 a3 a4 a5 a6 a7 a8 a9 = keptArr (n := 2) (a2 (ix2 0 0)) a5 2 := by
  rw [Cert.ReferenceIdeal.Value.G12]
  funext j
  idx_vars j
  unfold keptArr at4
  rw [dif_pos ⟨j0.isLt, by show (j1 : ℕ) + 2 < 4; omega, j2.isLt, j3.isLt⟩]
  pointwise [k0_pay4, k0_pay2]
  have e : (⟨2 + (j1 : ℕ), by omega⟩ : Fin 4) = ⟨(j1 : ℕ) + 2, by omega⟩ := Fin.ext (Nat.add_comm _ _)
  rw [e]
  rfl

end Conv
-- ==== Proof.Pre.lean ====
/-
  What the precondition says of the arguments: the scales are nonnegative and finite, and lane `4 t + j` of the channel list names
  the `j`-th of four different channels.
-/
module

public import proofs.«01_k».proof.Defs
public import proofs.«01_k».proof.Proof.Gen.Pre_pre
public import Idealize.ShloMosaic.Lib.ReduceAll
public import Idealize.ShloMosaic.Lib.Pointwise
public import Idealize.ShloMosaic.Lib.Pipeline.ValueKit

@[expose] public section

set_option maxRecDepth 16384

noncomputable section

namespace Conv

open Idealize.ShloMosaic Idealize.SL.Sem
open Cert.Pre_pre

/-- A scale that sums of extended reals distribute over. -/
def Scale (a : EReal) : Prop := 0 ≤ a ∧ a ≠ ⊤

theorem inf_value : Ideal.ofBits FTy.f32 0x7F800000#32 = (⊤ : EReal) := by
  simp [Ideal.ofBits, Ideal.ieee]

theorem nil_value : Ideal.ofBits FTy.f32 0x00000000#32 = (0 : EReal) := by
  simp [Ideal.ofBits, Ideal.ieee]

theorem true_of_ofBool : ∀ {b : Bool}, BitVec.ofBool b = 1#1 → b = true := by decide

/-- The two comparisons of a scale, read back. -/
theorem scale_of {x : Ideal FTy.f32}
    (h : IntOp.andi (Ideal.cmp .oge x (Ideal.ofBits FTy.f32 0x00000000#32)) (Ideal.cmp .olt x (Ideal.ofBits FTy.f32 0x7F800000#32)) = 1#1) :
    Scale x := by
  obtain ⟨h1, h2⟩ := IntOp.andi_eq_one.1 h
  rw [nil_value] at h1
  rw [inf_value] at h2
  exact ⟨of_decide_eq_true (true_of_ofBool h1), ne_of_lt (of_decide_eq_true (true_of_ofBool h2))⟩

/-- The precondition, read back. -/
theorem pre_facts (a0 a1 a2 a3 : FVec Ideal S1x1 .f32) (a4 : IVec S1x128 32) (a5 : FVec Ideal S3x4x76800x128 .bf16)
    (a6 : FVec Ideal S3x2x76800x128 .fp8e4m3) (a7 : FVec Ideal S27x256x128 .fp8e4m3) (a8 a9 : FVec Ideal S1x256 .f32)
    (h : Cert.Pre_pre.fn (F := Ideal) a0 a1 a2 a3 a4 a5 a6 a7 a8 a9 = fun _ => 1#1) :
    Scale (a0 (ix2 0 0)) ∧ Scale (a3 (ix2 0 0)) ∧ (∀ o : Fin 256, Scale (a8 (ix2 0 o)))
      ∧ (∀ l : Fin 128, 0 ≤ (a4 (ix2 0 l)).toInt ∧ (a4 (ix2 0 l)).toInt < 128)
      ∧ ∀ l k : Fin 128, (a4 (ix2 0 l) = a4 (ix2 0 k)) ↔ (l : ℕ) % 4 = (k : ℕ) % 4 := by
  have e := congrFun h (fun a => a.elim0)
  unfold fn fn_part1 fn_part2 at e
  obtain ⟨e, h5⟩ := IntOp.andi_eq_one.1 e
  obtain ⟨e, h4⟩ := IntOp.andi_eq_one.1 e
  obtain ⟨e, h3⟩ := IntOp.andi_eq_one.1 e
  obtain ⟨h1, h2⟩ := IntOp.andi_eq_one.1 e
  refine ⟨scale_of (Host.reduce_andi_all _ _ _ _ _ h1 (ix2 0 0)), scale_of (Host.reduce_andi_all _ _ _ _ _ h2 (ix2 0 0)),
    fun o => scale_of (Host.reduce_andi_all _ _ _ _ _ h3 (ix2 0 o)), fun l => ?_, fun l k => ?_⟩
  · obtain ⟨g1, g2⟩ := IntOp.andi_eq_one.1 (Host.reduce_andi_all _ _ _ _ _ h4 (ix2 0 l))
    exact ⟨IntOp.cmpi_sge.1 g1, IntOp.cmpi_slt.1 g2⟩
  · have g := IntOp.cmpi_eq.1 (Host.reduce_andi_all _ _ _ _ _ h5 (ix2 l k))
    have lanes : ∀ l k : Fin 128, IntOp.cmpi CmpIPredicate.eq (IntOp.andi (BitVec.ofNat 32 l) 3#32) (IntOp.andi (BitVec.ofNat 32 k) 3#32)
        = if (l : ℕ) % 4 = (k : ℕ) % 4 then 1#1 else 0#1 := by decide +kernel
    have g' : IntOp.cmpi CmpIPredicate.eq (a4 (ix2 0 l)) (a4 (ix2 0 k)) = if (l : ℕ) % 4 = (k : ℕ) % 4 then 1#1 else 0#1 := by
      rw [← lanes l k]
      refine Eq.trans ?_ (g.trans ?_)
      · pointwise []
      · pointwise []
    rw [← IntOp.cmpi_eq, g']
    split <;> simp_all

end Conv
-- ==== Proof.Equation.lean ====
/-
  The kernel's sums are the convolution: where the scales are nonnegative and finite and the four gathered channels differ, the
  result array of the kernel is that of the reference.
-/
module

public import proofs.«01_k».proof.Proof.Reference
public import proofs.«01_k».proof.Proof.Pre

@[expose] public section

set_option maxRecDepth 16384

noncomputable section

namespace Conv

open Idealize.ShloMosaic Idealize.ShloMosaic.TcCoe Idealize.SL.Sem
open Cert.KernelIdeal Cert.KernelIdeal.Gen

/-! ## The list of channels -/

/-- A word that is a channel, taken as one. -/
theorem word_val (x : BitVec 32) (h : 0 ≤ x.toInt ∧ x.toInt < 128) :
    x = BitVec.ofNat 32 ((Scalar.select (IntOp.cmpi CmpIPredicate.slt x 0#32) (IntOp.addi x 128#32) x).toNat % 128) := by
  have hn : x.toNat < 128 := by
    have := BitVec.toInt_eq_toNat_cond x
    have := x.isLt
    split at * <;> omega
  have hs : IntOp.cmpi CmpIPredicate.slt x 0#32 = 0#1 := by
    have : ¬ IntOp.cmpi CmpIPredicate.slt x 0#32 = 1#1 := fun k => by
      have := IntOp.cmpi_slt.1 k
      simp at this
      omega
    revert this
    generalize IntOp.cmpi CmpIPredicate.slt x 0#32 = b
    revert b
    decide
  rw [hs]
  show x = BitVec.ofNat 32 (x.toNat % 128)
  rw [Nat.mod_eq_of_lt hn, BitVec.ofNat_toNat, BitVec.setWidth_eq]

/-- Lane `l`'s channel, of a list whose entries are channels. -/
theorem topOf_val (v6 : Vec Ideal S1x128 .i32) (l : Fin 128) (h : 0 ≤ (v6 (ix2 0 l)).toInt ∧ (v6 (ix2 0 l)).toInt < 128) :
    v6 (ix2 0 l) = BitVec.ofNat 32 (topOf v6 l) :=
  word_val (v6 (ix2 0 l)) h

section

variable (v6 : Vec Ideal S1x128 .i32) (hr : ∀ l : Fin 128, 0 ≤ (v6 (ix2 0 l)).toInt ∧ (v6 (ix2 0 l)).toInt < 128)
  (hs : ∀ l k : Fin 128, (v6 (ix2 0 l) = v6 (ix2 0 k)) ↔ (l : ℕ) % 4 = (k : ℕ) % 4)

include hr hs

/-- Two lanes have the same channel exactly when they have the same place among four. -/
theorem topOf_eq (l k : Fin 128) : topOf v6 l = topOf v6 k ↔ (l : ℕ) % 4 = (k : ℕ) % 4 := by
  rw [← hs l k, topOf_val v6 l (hr l), topOf_val v6 k (hr k)]
  constructor
  · intro h
    rw [h]
  · intro h
    have := congrArg BitVec.toNat h
    rw [BitVec.toNat_ofNat, BitVec.toNat_ofNat] at this
    apply Fin.ext
    have h1 := (topOf v6 l).isLt
    have h2 := (topOf v6 k).isLt
    omega

/-- The `j`-th gathered channel. -/
def top4 (v6 : Vec Ideal S1x128 .i32) (j : Fin 4) : Fin 128 := topOf v6 ⟨j, by omega⟩

theorem top4_inj : Function.Injective (top4 v6) := fun a b h => by
  have := (topOf_eq v6 hr hs _ _).1 h
  apply Fin.ext
  simp at this
  omega

theorem topOf_lane (t : Fin 27) (j : Fin 4) : topOf v6 ⟨4 * t + j, by omega⟩ = top4 v6 j :=
  (topOf_eq v6 hr hs _ _).2 (by simp)

omit hs in
/-- The mask of the gathered channels. -/
theorem inTop_iff (c : Fin 128) : inTop v6 c = if c = top4 v6 0 ∨ c = top4 v6 1 ∨ c = top4 v6 2 ∨ c = top4 v6 3 then 1#1 else 0#1 := by
  have eq : ∀ a b : Fin 128, IntOp.cmpi CmpIPredicate.eq (BitVec.ofNat 32 a) (BitVec.ofNat 32 b) = if a = b then 1#1 else 0#1 := by
    intro a b
    have : (BitVec.ofNat 32 a = BitVec.ofNat 32 b) ↔ a = b := by
      constructor
      · intro h
        have := congrArg BitVec.toNat h
        rw [BitVec.toNat_ofNat, BitVec.toNat_ofNat] at this
        apply Fin.ext
        have := a.isLt
        have := b.isLt
        omega
      · rintro rfl
        rfl
    by_cases h : a = b
    · rw [if_pos h]
      exact IntOp.cmpi_eq.2 (this.2 h)
    · rw [if_neg h]
      have k : ¬ IntOp.cmpi CmpIPredicate.eq (BitVec.ofNat 32 a) (BitVec.ofNat 32 b) = 1#1 := fun e => h (this.1 (IntOp.cmpi_eq.1 e))
      revert k
      generalize IntOp.cmpi CmpIPredicate.eq (BitVec.ofNat 32 a) (BitVec.ofNat 32 b) = x
      revert x
      decide
  have e0 : v6 (ix2 0 0) = BitVec.ofNat 32 (top4 v6 0) := topOf_val v6 0 (hr 0)
  have e1 : v6 (ix2 0 1) = BitVec.ofNat 32 (top4 v6 1) := topOf_val v6 1 (hr 1)
  have e2 : v6 (ix2 0 2) = BitVec.ofNat 32 (top4 v6 2) := topOf_val v6 2 (hr 2)
  have e3 : v6 (ix2 0 3) = BitVec.ofNat 32 (top4 v6 3) := topOf_val v6 3 (hr 3)
  have any : ∀ (p q r s : Prop) [Decidable p] [Decidable q] [Decidable r] [Decidable s],
      IntOp.ori (IntOp.ori (IntOp.ori (if p then 1#1 else 0#1) (if q then 1#1 else 0#1)) (if r then 1#1 else 0#1)) (if s then 1#1 else 0#1)
        = if p ∨ q ∨ r ∨ s then 1#1 else 0#1 := by
    intro p q r s _ _ _ _
    by_cases hp : p <;> by_cases hq : q <;> by_cases hr : r <;> by_cases hs : s <;> simp [hp, hq, hr, hs, IntOp.ori]
  unfold inTop
  rw [e0, e1, e2, e3, eq, eq, eq, eq, any]

omit hs in
/-- The weights without the gathered channels. -/
theorem Rest_at (w : Vec Ideal S27x256x128 .fp8e4m3) (t : Fin 27) (o : Fin 256) (c : Fin 128) : Rest v6 w (ix3 t o c)
    = if c = top4 v6 0 ∨ c = top4 v6 1 ∨ c = top4 v6 2 ∨ c = top4 v6 3 then 0 else w (ix3 t o c) := by
  have e : Rest v6 w (ix3 t o c) = Scalar.select (inTop v6 c) (0 : EReal) (w (ix3 t o c)) := rfl
  rw [e, inTop_iff v6 hr]
  by_cases h : c = top4 v6 0 ∨ c = top4 v6 1 ∨ c = top4 v6 2 ∨ c = top4 v6 3
  · rw [if_pos h, if_pos h]
    rfl
  · rw [if_neg h, if_neg h]
    rfl

/-- Whether tap `t` of output frame `f` looks at a new frame. -/
def newTap (f : ℕ) (t : Fin 27) : Bool := decide (2 ≤ f + (t : ℕ) / 9)

omit hr hs in
theorem newTap_iff (f : ℕ) (t : Fin 27) : newTap f t = true ↔ 2 ≤ f + (t : ℕ) / 9 := by
  unfold newTap
  exact decide_eq_true_iff

/-- The gathered codes of a new frame's tap. -/
theorem laneCode_at (b : ℕ → ℕ → ℕ → EReal) (f : Fin 4) (q : ℕ) (t : Fin 27) (j : Fin 4) (h : newTap f t = true) :
    laneCode b (topOf v6) f q ⟨4 * t + j, by omega⟩ = tapCode b f q t (top4 v6 j) := by
  rw [newTap_iff] at h
  unfold laneCode tapCode
  rw [topOf_lane v6 hr hs]
  have e1 : (4 * (t : ℕ) + j) / 4 % 3 = (t : ℕ) % 3 := by omega
  have e2 : (4 * (t : ℕ) + j) / 12 % 3 = (t : ℕ) / 3 % 3 := by omega
  have e3 : frame f (4 * (t : ℕ) + j) = (f : ℕ) + (t : ℕ) / 9 := by
    unfold frame
    have := f.isLt
    split_ifs <;> omega
  show shifted b ((4 * (t : ℕ) + j) / 4 % 3) (frame f (4 * (t : ℕ) + j)) (q + 64 * ((4 * (t : ℕ) + j) / 12 % 3)) _ = _
  rw [e1, e2, e3]

/-- The gathered weights of every tap. -/
theorem Wide_at (w : Vec Ideal S27x256x128 .fp8e4m3) (f : Fin 4) (t : Fin 27) (j : Fin 4) (o : Fin 256) :
    Wide v6 w (ix3 (plane f) o (Fin.castAdd 128 (⟨4 * t + j, by omega⟩ : Fin 128) : Fin 256))
      = if newTap f t = true ∧ t ≠ 22 then w (ix3 t o (top4 v6 j)) else 0 := by
  have hl : ((⟨4 * t + j, by omega⟩ : Fin 128) : ℕ) < 128 := by show 4 * (t : ℕ) + j < 128; omega
  have e : Wide v6 w (ix3 (plane f) o (Fin.castAdd 128 (⟨4 * t + j, by omega⟩ : Fin 128) : Fin 256))
      = if firstTap (plane f) ≤ (4 * (t : ℕ) + j) / 4 ∧ (4 * (t : ℕ) + j) / 4 < 27 ∧ (4 * (t : ℕ) + j) / 4 ≠ 22
        then wt w ((4 * (t : ℕ) + j) / 4) o (topOf v6 ⟨4 * t + j, by omega⟩) else 0 := dif_pos hl
  have e1 : (4 * (t : ℕ) + j) / 4 = (t : ℕ) := by omega
  have hp : ∀ f : Fin 4, firstTap (plane f) = 18 - 9 * (f : ℕ) := by decide
  have h22 : t ≠ 22 ↔ (t : ℕ) ≠ 22 := not_congr Fin.ext_iff
  rw [e, topOf_lane v6 hr hs, e1, hp]
  simp only [newTap_iff]
  by_cases h : 2 ≤ (f : ℕ) + (t : ℕ) / 9 ∧ t ≠ 22
  · rw [if_pos h, if_pos ⟨by omega, t.isLt, h22.1 h.2⟩]
    unfold wt
    rw [dif_pos t.isLt]
  · rw [if_neg h, if_neg fun k => h ⟨by omega, h22.2 k.2.2⟩]

omit hr hs in
theorem Wide_past (w : Vec Ideal S27x256x128 .fp8e4m3) (k : Fin 3) (o : Fin 256) (l : Fin 128) (h : 108 ≤ (l : ℕ)) :
    Wide v6 w (ix3 k o (Fin.castAdd 128 l : Fin 256)) = 0 := by
  have e : Wide v6 w (ix3 k o (Fin.castAdd 128 l : Fin 256))
      = if firstTap k ≤ (l : ℕ) / 4 ∧ (l : ℕ) / 4 < 27 ∧ (l : ℕ) / 4 ≠ 22 then wt w ((l : ℕ) / 4) o (topOf v6 l) else 0 := dif_pos l.isLt
  rw [e, if_neg fun k => by omega]

omit hr hs in
theorem Wide_whole (w : Vec Ideal S27x256x128 .fp8e4m3) (k : Fin 3) (o : Fin 256) (c : Fin 128) :
    Wide v6 w (ix3 k o (Fin.natAdd 128 c : Fin 256)) = w (ix3 22 o c) := by
  have hn : ¬ ((Fin.natAdd 128 c : Fin 256) : ℕ) < 128 := by
    show ¬ 128 + (c : ℕ) < 128
    omega
  refine (dif_neg hn).trans ?_
  congr 2
  apply Fin.ext
  show 128 + (c : ℕ) - 128 = c
  omega

/-- One element of the kernel's result is the convolution's. -/
theorem yAt_eq (b : ℕ → ℕ → ℕ → EReal) (w : Vec Ideal S27x256x128 .fp8e4m3) (xs cs : Vec Ideal S1x1 .f32) (ws : Vec Ideal S1x256 .f32)
    (bias : Fin 256 → EReal) (hx : Scale (xs (ix2 0 0))) (hc : Scale (cs (ix2 0 0))) (hw : ∀ o : Fin 256, Scale (ws (ix2 0 o)))
    (f : Fin 4) (q : ℕ) (o : Fin 256) :
    yAt b (topOf v6) w (Rest v6 w) (Wide v6 w) (fun o => scaled xs ws (ix2 0 o)) (fun o => scaled cs ws (ix2 0 o)) bias f q o
      = ((List.finRange 27).map fun t : Fin 27 => ∑ c : Fin 128, tapCode b f q t c
          * (if 2 ≤ (f : ℕ) + (t : ℕ) / 9 then xs (ix2 0 0) else cs (ix2 0 0)) * w (ix3 t o c)).sum * ws (ix2 0 o) + bias o := by
  have perm : ∀ f : Fin 4, (tc f ++ (22 :: tx f)).Perm (List.finRange 27) := by decide +kernel
  have old : ∀ f : Fin 4, ∀ t ∈ tc f, newTap f t = false := by decide +kernel
  have new : ∀ f : Fin 4, ∀ t ∈ tx f, newTap f t = true := by decide +kernel
  have n22 : ∀ f : Fin 4, newTap f 22 = true ∧ (22 : Fin 27) ∉ tx f := by decide +kernel
  have k := taps_eq (tc f) (tx f) (perm f) (newTap f) (old f) (new f) (n22 f).1 (n22 f).2 (fun t c => tapCode b f q t c)
    (fun t c => w (ix3 t o c)) (top4 v6) (top4_inj v6 hr hs) (fun l => laneCode b (topOf v6) f q l)
    (fun l => Wide v6 w (ix3 (plane f) o (Fin.castAdd 128 l : Fin 256))) (fun t j h => laneCode_at v6 hr hs b f q t j h)
    (fun t j => Wide_at v6 hr hs w f t j o) (fun l h => Wide_past v6 w _ o l h)
    (xs (ix2 0 0)) (cs (ix2 0 0)) (ws (ix2 0 o)) hx.1 hx.2 hc.1 hc.2 (hw o).1 (hw o).2
  unfold yAt
  simp only [Rest_at v6 hr, Wide_whole, newTap_iff] at k ⊢
  exact congrArg (· + bias o) k

end

/-- The reference's padded input, from the whole arrays that it loads. -/
theorem pay20_eq (a0 a1 a2 a3 : Vec Ideal S1x1 .f32) (a4 : Vec Ideal S1x128 .i32) (a5 : Vec Ideal S3x4x76800x128 .bf16)
    (a6 : Vec Ideal S3x2x76800x128 .fp8e4m3) (a7 : Vec Ideal S27x256x128 .fp8e4m3) (a8 a9 : Vec Ideal S1x256 .f32) :
    Cert.ReferenceIdeal.Gen.k0_pay7 (F := Ideal) (Cert.ReferenceIdeal.Gen.k0_pay18 (F := Ideal) a0 a1 a2 a3 a4 a5 a6 a7 a8 a9)
        (Cert.ReferenceIdeal.Gen.k0_pay19 (F := Ideal) a0 a1 a2 a3 a4 a5 a6 a7 a8 a9) a0 = xin a0 a1 a3 a5 a6
      ∧ Cert.ReferenceIdeal.Gen.k0_pay20 (F := Ideal) a0 a1 a2 a3 a4 a5 a6 a7 a8 a9 = xin a0 a1 a3 a5 a6 := by
  have e0 : View.ld a0 Cert.ReferenceIdeal.Gen.r0_1 = a0 := View.ld_unit_zero (S := S1x1) Cert.ReferenceIdeal.Value.hz0 _ a0
  have e1 : View.ld a1 Cert.ReferenceIdeal.Gen.r0_1 = a1 := View.ld_unit_zero (S := S1x1) Cert.ReferenceIdeal.Value.hz1 _ a1
  have e3 : View.ld a3 Cert.ReferenceIdeal.Gen.r0_1 = a3 := View.ld_unit_zero (S := S1x1) Cert.ReferenceIdeal.Value.hz3 _ a3
  have e5 : View.ld a5 Cert.ReferenceIdeal.Gen.r0_0 = a5 := View.ld_unit_zero (S := S3x4x76800x128) Cert.ReferenceIdeal.Value.hz5 _ a5
  have e6 : View.ld a6 Cert.ReferenceIdeal.Gen.r0_2 = a6 := View.ld_unit_zero (S := S3x2x76800x128) Cert.ReferenceIdeal.Value.hz6 _ a6
  have p18 : Cert.ReferenceIdeal.Gen.k0_pay18 (F := Ideal) a0 a1 a2 a3 a4 a5 a6 a7 a8 a9 = Cert.ReferenceIdeal.Gen.k0_pay5 (F := Ideal) a6 a3 := by
    unfold Cert.ReferenceIdeal.Gen.k0_pay18
    rw [e6, e3]
  have p19 : Cert.ReferenceIdeal.Gen.k0_pay19 (F := Ideal) a0 a1 a2 a3 a4 a5 a6 a7 a8 a9 = Cert.ReferenceIdeal.Gen.k0_pay6 (F := Ideal) a5 a1 := by
    unfold Cert.ReferenceIdeal.Gen.k0_pay19
    rw [e5, e1]
  unfold Cert.ReferenceIdeal.Gen.k0_pay20
  rw [e0, p18, p19]
  exact ⟨rfl, rfl⟩

/-- The reference's result, over the codes. -/
theorem y_at (a0 a1 a2 a3 : Vec Ideal S1x1 .f32) (a4 : Vec Ideal S1x128 .i32) (a5 : Vec Ideal S3x4x76800x128 .bf16)
    (a6 : Vec Ideal S3x2x76800x128 .fp8e4m3) (a7 : Vec Ideal S27x256x128 .fp8e4m3) (a8 a9 : Vec Ideal S1x256 .f32)
    (b : Fin 3) (f : Fin 4) (p : Fin 76800) (o : Fin 256) :
    Cert.ReferenceIdeal.Value.G10 (F := Ideal) a0 a1 a2 a3 a4 a5 a6 a7 a8 a9 (ix4 b f p o)
      = ((List.finRange 27).map fun t : Fin 27 => ∑ c : Fin 128, tapCode (pix (a1 (ix2 0 0)) a5 a6 b) f p t c
          * (if 2 ≤ (f : ℕ) + (t : ℕ) / 9 then a0 (ix2 0 0) else a3 (ix2 0 0)) * a7 (ix3 t o c)).sum * a8 (ix2 0 o) + a9 (ix2 0 o) := by
  rw [G10_at (xin a0 a1 a3 a5 a6) a0 a1 a2 a3 a4 a5 a6 a7 a8 a9 (pay20_eq a0 a1 a2 a3 a4 a5 a6 a7 a8 a9).2
    (pay20_eq a0 a1 a2 a3 a4 a5 a6 a7 a8 a9).1 b f p o]
  have e : (fun t => tapSum (xin a0 a1 a3 a5 a6) a7 b f p o t) = fun t : Fin 27 => ∑ c : Fin 128, tapCode (pix (a1 (ix2 0 0)) a5 a6 b) f p t c
      * (if 2 ≤ (f : ℕ) + (t : ℕ) / 9 then a0 (ix2 0 0) else a3 (ix2 0 0)) * a7 (ix3 t o c) :=
    funext fun t => tap_at a0 a1 a3 a5 a6 a7 b f p o t
  exact congrArg (fun g : Fin 27 → EReal => ((List.finRange 27).map g).sum * a8 (ix2 0 o) + a9 (ix2 0 o)) e

theorem yArr_at (xs xi cs : Vec Ideal S1x1 .f32) (top : Vec Ideal S1x128 .i32) (X : Vec Ideal S3x4x76800x128 .bf16) (K : Vec Ideal S3x2x76800x128 .fp8e4m3)
    (w : Vec Ideal S27x256x128 .fp8e4m3) (ws bias : Vec Ideal S1x256 .f32) (b : Fin 3) (f : Fin 4) (p : Fin 76800) (o : Fin 256) :
    yArr xs xi cs top X K w ws bias (ix4 b f p o)
      = yAt (pix (xi (ix2 0 0)) X K b) (topOf top) w (Rest top w) (Wide top w) (fun o => scaled xs ws (ix2 0 o)) (fun o => scaled cs ws (ix2 0 o))
        (fun o => bias (ix2 0 o)) f p o := rfl

/-- The kernel's result array is the reference's. -/
theorem y_eq (a0 a1 a2 a3 : Vec Ideal S1x1 .f32) (a4 : Vec Ideal S1x128 .i32) (a5 : Vec Ideal S3x4x76800x128 .bf16)
    (a6 : Vec Ideal S3x2x76800x128 .fp8e4m3) (a7 : Vec Ideal S27x256x128 .fp8e4m3) (a8 a9 : Vec Ideal S1x256 .f32)
    (h : Cert.Pre_pre.fn (F := Ideal) a0 a1 a2 a3 a4 a5 a6 a7 a8 a9 = fun _ => 1#1) :
    yArr a0 a1 a3 a4 a5 a6 a7 a8 a9 = Cert.ReferenceIdeal.Value.G10 (F := Ideal) a0 a1 a2 a3 a4 a5 a6 a7 a8 a9 := by
  obtain ⟨hx, hc, hw, hr, hs⟩ := pre_facts a0 a1 a2 a3 a4 a5 a6 a7 a8 a9 h
  funext j
  idx_vars j
  rw [yArr_at, y_at, yAt_eq a4 hr hs _ a7 a0 a3 a8 (fun o => a9 (ix2 0 o)) hx hc hw j1 j2 j3]

end Conv
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_pre
public import proofs.«01_k».proof.Proof.Gen.KernelIdeal.Value
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Over the extended reals the kernel's three result arrays are the reference's. -/
theorem algebraic : Cert.algebraic_KernelIdeal_ReferenceIdeal_pre_pre := by
  intro m g m' g' hpre heq
  refine ⟨fun c => Cert.KernelIdeal.Value.G14 m c, fun c => Cert.KernelIdeal.Value.G15 m c, fun c => Cert.KernelIdeal.Value.G16 m c,
    Cert.KernelIdeal.Value.run m g, ?_⟩
  refine (θ_run _ _ _).mono (fun r h c => ?_) (Cert.ReferenceIdeal.Value.run (F := Ideal) m' g')
  obtain ⟨r0, r1, r2, kept⟩ := h c
  obtain ⟨e0, e1, e2, e3, e4, e5, e6, e7, e8, e9⟩ := heq c
  rw [e0, e1, e2, e3, e4, e5, e6, e7, e8, e9] at r0 r1 r2
  exact ⟨r0.trans ((Conv.arr14 m c).trans (Conv.y_eq _ _ _ _ _ _ _ _ _ _ (hpre c))).symm,
    r1.trans ((Conv.G11_at _ _ _ _ _ _ _ _ _ _).trans (Conv.arr15 m c).symm),
    r2.trans ((Conv.G12_at _ _ _ _ _ _ _ _ _ _).trans (Conv.arr16 m c).symm), kept⟩

theorem claim : Cert.Claim := ⟨Cert.Kernel.Gen.facts, Cert.KernelIdeal.Gen.facts, Cert.ReferenceIdeal.Gen.facts, Cert.Pre_pre.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
